-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite [hPre_gates_finite : Cert.Pre_gates_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite [hPre_gates_finite : Cert.Pre_gates_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_router_finite [hPre_router_finite : Cert.Pre_router_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_router_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_router_finite [hPre_router_finite : Cert.Pre_router_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_router_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_gates_finite [hKernelIdeal : Cert.KernelIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_gates_finite [hReferenceIdeal : Cert.ReferenceIdeal.Facts] [hPre_gates_finite : Cert.Pre_gates_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_router_finite [hKernel2Ideal : Cert.Kernel2Ideal.Facts] [hPre_router_finite : Cert.Pre_router_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_router_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_router_finite [hReference2Ideal : Cert.Reference2Ideal.Facts] [hPre_router_finite : Cert.Pre_router_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_router_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  True

def algebraic_KernelIdeal_ReferenceIdeal_pre_gates_finite [hKernelIdeal : Cert.KernelIdeal.Facts] [hReferenceIdeal : Cert.ReferenceIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "mask" .f32 0xF149F2CA#32 ⊥

def algebraic_Kernel2Ideal_Reference2Ideal_pre_router_finite [hKernel2Ideal : Cert.Kernel2Ideal.Facts] [hReference2Ideal : Cert.Reference2Ideal.Facts] [hPre_router_finite : Cert.Pre_router_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_router_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v33_0)) (v1 : (c : Dev Cert.Kernel2Ideal.nD) → Buf (Elt Ideal) ((c.tc : Thread Cert.Kernel2Ideal.nD Cert.Kernel2Ideal.τ).loc Cert.Kernel2Ideal.main_v33_1)) (v2 : (c : Dev Cert.Kernel2Ideal.nD) → Buf (Elt Ideal) ((c.tc : Thread Cert.Kernel2Ideal.nD Cert.Kernel2Ideal.τ).loc Cert.Kernel2Ideal.main_v33_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33_0) = v0 c
          ∧ r.2.mem ((c.tc : Thread Cert.Kernel2Ideal.nD Cert.Kernel2Ideal.τ).loc Cert.Kernel2Ideal.main_v33_1) = v1 c
          ∧ r.2.mem ((c.tc : Thread Cert.Kernel2Ideal.nD Cert.Kernel2Ideal.τ).loc Cert.Kernel2Ideal.main_v33_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_v82) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)) (v3 : (c : Dev Cert.Kernel3Ideal.nD) → Buf (Elt Ideal) ((c.tc : Thread Cert.Kernel3Ideal.nD Cert.Kernel3Ideal.τ).loc Cert.Kernel3Ideal.main_v17_3)) (v4 : (c : Dev Cert.Kernel3Ideal.nD) → Buf (Elt Ideal) ((c.tc : Thread Cert.Kernel3Ideal.nD Cert.Kernel3Ideal.τ).loc Cert.Kernel3Ideal.main_v17_4)) (v5 : (c : Dev Cert.Kernel3Ideal.nD) → Buf (Elt Ideal) ((c.tc : Thread Cert.Kernel3Ideal.nD Cert.Kernel3Ideal.τ).loc Cert.Kernel3Ideal.main_v17_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_v17_3) = v3 c
          ∧ r.2.mem ((c.tc : Thread Cert.Kernel3Ideal.nD Cert.Kernel3Ideal.τ).loc Cert.Kernel3Ideal.main_v17_4) = v4 c
          ∧ r.2.mem ((c.tc : Thread Cert.Kernel3Ideal.nD Cert.Kernel3Ideal.τ).loc Cert.Kernel3Ideal.main_v17_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_v24) = v3 c
          ∧ r.2.mem ((c.tc : Thread Cert.Reference3Ideal.nD Cert.Reference3Ideal.τ).loc Cert.Reference3Ideal.main_v31) = v4 c
          ∧ r.2.mem ((c.tc : Thread Cert.Reference3Ideal.nD Cert.Reference3Ideal.τ).loc Cert.Reference3Ideal.main_v34) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gates_finite : Cert.Pre_gates_finite.Facts) (hPre_router_finite : Cert.Pre_router_finite.Facts),
    quiescent_Kernel (hKernel := hKernel)
    ∧ quiescent_KernelIdeal (hKernelIdeal := hKernelIdeal)
    ∧ quiescent_KernelIdeal_pre_gates_finite (hKernelIdeal := hKernelIdeal) (hPre_gates_finite := hPre_gates_finite)
    ∧ quiescent_ReferenceIdeal (hReferenceIdeal := hReferenceIdeal)
    ∧ quiescent_ReferenceIdeal_pre_gates_finite (hReferenceIdeal := hReferenceIdeal) (hPre_gates_finite := hPre_gates_finite)
    ∧ quiescent_Kernel2 (hKernel2 := hKernel2)
    ∧ quiescent_Kernel2Ideal (hKernel2Ideal := hKernel2Ideal)
    ∧ quiescent_Kernel2Ideal_pre_router_finite (hKernel2Ideal := hKernel2Ideal) (hPre_router_finite := hPre_router_finite)
    ∧ quiescent_Reference2Ideal (hReference2Ideal := hReference2Ideal)
    ∧ quiescent_Reference2Ideal_pre_router_finite (hReference2Ideal := hReference2Ideal) (hPre_router_finite := hPre_router_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_gates_finite (hKernelIdeal := hKernelIdeal) (hReferenceIdeal := hReferenceIdeal) (hPre_gates_finite := hPre_gates_finite)
    ∧ preserves_Kernel2_Kernel2Ideal
    ∧ algebraic_Kernel2Ideal_Reference2Ideal_pre_router_finite (hKernel2Ideal := hKernel2Ideal) (hReference2Ideal := hReference2Ideal) (hPre_router_finite := hPre_router_finite)
    ∧ preserves_Kernel3_Kernel3Ideal
    ∧ algebraic_Kernel3Ideal_Reference3Ideal (hKernel3Ideal := hKernel3Ideal) (hReference3Ideal := hReference3Ideal)
-- ==== Pre_gates_finite.lean ====
abbrev S16384x1024 : Shape := ⟨2, ![16384, 1024]⟩
abbrev S16384x8 : Shape := ⟨2, ![16384, 8]⟩
abbrev S16384 : Shape := ⟨1, ![16384]⟩
abbrev S4x8x1024x256 : Shape := ⟨4, ![4, 8, 1024, 256]⟩
abbrev S4x8x256x1024 : Shape := ⟨4, ![4, 8, 256, 1024]⟩
abbrev S1024 : Shape := ⟨1, ![1024]⟩
abbrev S_ : Shape := ⟨0, ![]⟩

class Facts : Prop where
  bcast_S_S16384x8 : S_.BroadcastsInDim S16384x8 (![] : Fin 0 → Fin S16384x8.rank)
  reducesTo_S16384x8_S_d0_1 : S16384x8.ReducesTo [0, 1] S_
  h_S_ : 0 < S_.numel

variable [Facts]

def fn {F : FTy → Type} [FloatOps F] (main_arg0 : FVec F S16384x1024 .f32) (main_arg1 : FVec F S16384x8 .f32) (main_arg2 : IVec S16384 32) (main_arg3 : FVec F S4x8x1024x256 .f32) (main_arg4 : FVec F S4x8x1024x256 .f32) (main_arg5 : FVec F S4x8x256x1024 .f32) (main_arg6 : FVec F S1024 .f32) (main_arg7 : FVec F S1024 .f32) : IVec S_ 1 :=
  let main_v0 : FVec F S16384x8 .f32 := Host.absf main_arg1
  let main_cst : FVec F S_ .f32 := constant S_ .f32 0x7F800000#32
  let main_v1 : FVec F S16384x8 .f32 := broadcastInDim S16384x8 ![] bcast_S_S16384x8 main_cst
  let main_v2 : IVec S16384x8 1 := cmpf .olt main_v0 main_v1
  let main_c : IVec S_ 1 := constantI S_ 1 1#1
  let main_v3 : IVec S_ 1 := (fun x v => Host.reduce IntOp.andi x v reducesTo_S16384x8_S_d0_1 h_S_) main_v2 main_c
  main_v3
-- ==== Pre_router_finite.lean ====
abbrev S2x8192x1024 : Shape := ⟨3, ![2, 8192, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S4x1024x8 : S_.BroadcastsInDim S4x1024x8 (![] : Fin 0 → Fin S4x1024x8.rank)
  reducesTo_S4x1024x8_S_d0_1_2 : S4x1024x8.ReducesTo [0, 1, 2] S_
  bcast_S_S4x8 : S_.BroadcastsInDim S4x8 (![] : Fin 0 → Fin S4x8.rank)
  reducesTo_S4x8_S_d0_1 : S4x8.ReducesTo [0, 1] S_

variable [Facts]

def fn_part1 {F : FTy → Type} [FloatOps F] (main_arg7 : FVec F S4x1024x8 .f32) (main_arg8 : FVec F S4x8 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x1024x8 .f32 := Host.absf main_arg7
  let main_cst_6 : FVec F S_ .f32 := constant S_ .f32 0x7F800000#32
  let main_v20 : FVec F S4x1024x8 .f32 := broadcastInDim S4x1024x8 ![] bcast_S_S4x1024x8 main_cst_6
  let main_v21 : IVec S4x1024x8 1 := cmpf .olt main_v19 main_v20
  let main_c_7 : IVec S_ 1 := constantI S_ 1 1#1
  let main_v22 : IVec S_ 1 := (fun x v => Host.reduce IntOp.andi x v reducesTo_S4x1024x8_S_d0_1_2 h_S_) main_v21 main_c_7
  let main_v23 : IVec S_ 1 := andi main_v18 main_v22
  let main_v24 : FVec F S4x8 .f32 := Host.absf main_arg8
  let main_cst_8 : FVec F S_ .f32 := constant S_ .f32 0x7F800000#32
  let main_v25 : FVec F S4x8 .f32 := broadcastInDim S4x8 ![] bcast_S_S4x8 main_cst_8
  let main_v26 : IVec S4x8 1 := cmpf .olt main_v24 main_v25
  let main_c_9 : IVec S_ 1 := constantI S_ 1 1#1
  let main_v27 : IVec S_ 1 := (fun x v => Host.reduce IntOp.andi x v reducesTo_S4x8_S_d0_1 h_S_) main_v26 main_c_9
  let main_v28 : IVec S_ 1 := andi main_v23 main_v27
  main_v28

def fn {F : FTy → Type} [FloatOps F] (main_arg0 : FVec F S2x8192x1024 .f32) (main_arg1 : FVec F S2x8192x1024 .f32) (main_arg2 : FVec F S1024x1024 .f32) (main_arg3 : FVec F S1024 .f32) (main_arg4 : FVec F S1024 .f32) (main_arg5 : FVec F S1024x4 .f32) (main_arg6 : FVec F S4 .f32) (main_arg7 : FVec F S4x1024x8 .f32) (main_arg8 : FVec F S4x8 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg4
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4 .f32 := Host.absf main_arg5
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S4 .f32 := Host.absf main_arg6
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg7 main_arg8 main_v13 main_v16
-- ==== Kernel.lean ====
abbrev S16384x1024 : Shape := ⟨2, ![16384, 1024]⟩
abbrev S16384x8 : Shape := ⟨2, ![16384, 8]⟩
abbrev S16384 : Shape := ⟨1, ![16384]⟩
abbrev S4x8x1024x256 : Shape := ⟨4, ![4, 8, 1024, 256]⟩
abbrev S4x8x256x1024 : Shape := ⟨4, ![4, 8, 256, 1024]⟩
abbrev S1024 : Shape := ⟨1, ![1024]⟩
abbrev S16384x1 : Shape := ⟨2, ![16384, 1]⟩
abbrev S1x4 : Shape := ⟨2, ![1, 4]⟩
abbrev S16384x4 : Shape := ⟨2, ![16384, 4]⟩
abbrev S16384x4x1 : Shape := ⟨3, ![16384, 4, 1]⟩
abbrev S16384x1x8 : Shape := ⟨3, ![16384, 1, 8]⟩
abbrev S16384x4x8 : Shape := ⟨3, ![16384, 4, 8]⟩
abbrev S16384x32 : Shape := ⟨2, ![16384, 32]⟩
abbrev S_ : Shape := ⟨0, ![]⟩
abbrev S16384x92 : Shape := ⟨2, ![16384, 92]⟩
abbrev S16384x128 : Shape := ⟨2, ![16384, 128]⟩
abbrev S4x1024x8x256 : Shape := ⟨4, ![4, 1024, 8, 256]⟩
abbrev S4x1024x2048 : Shape := ⟨3, ![4, 1024, 2048]⟩
abbrev S4x2048x1024 : Shape := ⟨3, ![4, 2048, 1024]⟩
abbrev S1x1024 : Shape := ⟨2, ![1, 1024]⟩
abbrev S1024x1024 : Shape := ⟨2, ![1024, 1024]⟩
abbrev S1024x128 : Shape := ⟨2, ![1024, 128]⟩
abbrev S1x1024x2048 : Shape := ⟨3, ![1, 1024, 2048]⟩
abbrev S1x2048x1024 : Shape := ⟨3, ![1, 2048, 1024]⟩
abbrev S8x1024 : Shape := ⟨2, ![8, 1024]⟩
abbrev S128x128 : Shape := ⟨2, ![128, 128]⟩
abbrev S128x1024 : Shape := ⟨2, ![128, 1024]⟩
abbrev S1024x1 : Shape := ⟨2, ![1024, 1]⟩
abbrev S1x1x1024 : Shape := ⟨3, ![1, 1, 1024]⟩
abbrev S1 : Shape := ⟨1, ![1]⟩
abbrev S1x1x1 : Shape := ⟨3, ![1, 1, 1]⟩
abbrev S1024x384 : Shape := ⟨2, ![1024, 384]⟩
abbrev S128x384 : Shape := ⟨2, ![128, 384]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩
abbrev S128x256 : Shape := ⟨2, ![128, 256]⟩
abbrev S2048x1024 : Shape := ⟨2, ![2048, 1024]⟩

abbrev nBuf : Space → Nat
  | .hbm => 35
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x8, .f32⟩
  | .hbm, ⟨2, _⟩ => ⟨S16384, .i32⟩
  | .hbm, ⟨3, _⟩ => ⟨S4x8x1024x256, .f32⟩
  | .hbm, ⟨4, _⟩ => ⟨S4x8x1024x256, .f32⟩
  | .hbm, ⟨5, _⟩ => ⟨S4x8x256x1024, .f32⟩
  | .hbm, ⟨6, _⟩ => ⟨S1024, .f32⟩
  | .hbm, ⟨7, _⟩ => ⟨S1024, .f32⟩
  | .hbm, ⟨8, _⟩ => ⟨S16384x1, .i32⟩
  | .hbm, ⟨9, _⟩ => ⟨S1x4, .i32⟩
  | .hbm, ⟨10, _⟩ => ⟨S16384x4, .i32⟩
  | .hbm, ⟨11, _⟩ => ⟨S16384x4, .i32⟩
  | .hbm, ⟨12, _⟩ => ⟨S16384x4, .i1⟩
  | .hbm, ⟨13, _⟩ => ⟨S16384x4, .f32⟩
  | .hbm, ⟨14, _⟩ => ⟨S16384x4x1, .f32⟩
  | .hbm, ⟨15, _⟩ => ⟨S16384x1x8, .f32⟩
  | .hbm, ⟨16, _⟩ => ⟨S16384x4x8, .f32⟩
  | .hbm, ⟨17, _⟩ => ⟨S16384x4x8, .f32⟩
  | .hbm, ⟨18, _⟩ => ⟨S16384x4x8, .f32⟩
  | .hbm, ⟨19, _⟩ => ⟨S16384x32, .f32⟩
  | .hbm, ⟨20, _⟩ => ⟨S_, .f32⟩
  | .hbm, ⟨21, _⟩ => ⟨S16384x92, .f32⟩
  | .hbm, ⟨22, _⟩ => ⟨S16384x128, .f32⟩
  | .hbm, ⟨23, _⟩ => ⟨S16384x1024, .bf16⟩
  | .hbm, ⟨24, _⟩ => ⟨S4x8x1024x256, .bf16⟩
  | .hbm, ⟨25, _⟩ => ⟨S4x1024x8x256, .bf16⟩
  | .hbm, ⟨26, _⟩ => ⟨S4x1024x2048, .bf16⟩
  | .hbm, ⟨27, _⟩ => ⟨S4x8x1024x256, .bf16⟩
  | .hbm, ⟨28, _⟩ => ⟨S4x1024x8x256, .bf16⟩
  | .hbm, ⟨29, _⟩ => ⟨S4x1024x2048, .bf16⟩
  | .hbm, ⟨30, _⟩ => ⟨S4x8x256x1024, .bf16⟩
  | .hbm, ⟨31, _⟩ => ⟨S4x2048x1024, .bf16⟩
  | .hbm, ⟨32, _⟩ => ⟨S1x1024, .f32⟩
  | .hbm, ⟨33, _⟩ => ⟨S1x1024, .f32⟩
  | .hbm, ⟨34, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S8x1024, .f32⟩
  | .local _ .vmem, ⟨18, _⟩ => ⟨S8x1024, .f32⟩
  | .local _ .vmem, ⟨19, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

@[reducible] def k0_t1_loop (v44 : BitVec 32) : Scf.Loop 32 :=
  let c0_i32_29 : BitVec 32 := 0#32
  let c128_i32 : BitVec 32 := 128#32
  let v60 : BitVec 32 := Scalar.addi v44 c128_i32
  let c1_i32 : BitVec 32 := 1#32
  let v61 : BitVec 32 := Scalar.subi v60 c1_i32
  let c0_i32_22 : BitVec 32 := 0#32
  let v63 : BitVec 1 := Scalar.cmpi .sgt v61 c0_i32_22
  let v64 : BitVec 32 := Scalar.extui v63
  let c0_i32_23 : BitVec 32 := 0#32
  let v65 : BitVec 1 := Scalar.cmpi .slt v61 c0_i32_23
  let v66 : BitVec 32 := Scalar.extui v65
  let v67 : BitVec 32 := Scalar.subi v64 v66
  let c128_i32_21 : BitVec 32 := 128#32
  let c0_i32_24 : BitVec 32 := 0#32
  let v68 : BitVec 1 := Scalar.cmpi .sgt c128_i32_21 c0_i32_24
  let v69 : BitVec 32 := Scalar.extui v68
  let c0_i32_25 : BitVec 32 := 0#32
  let v70 : BitVec 1 := Scalar.cmpi .slt c128_i32_21 c0_i32_25
  let v71 : BitVec 32 := Scalar.extui v70
  let v72 : BitVec 32 := Scalar.subi v69 v71
  let v73 : BitVec 1 := Scalar.cmpi .ne v67 v72
  let v74 : BitVec 32 := Scalar.remsi v61 c128_i32_21
  let c0_i32_26 : BitVec 32 := 0#32
  let v75 : BitVec 1 := Scalar.cmpi .ne v74 c0_i32_26
  let v76 : BitVec 1 := Scalar.andi v73 v75
  let v62 : BitVec 32 := Scalar.divsi v61 c128_i32_21
  let c1_i32_27 : BitVec 32 := 1#32
  let v77 : BitVec 32 := Scalar.subi v62 c1_i32_27
  let v78 : BitVec 32 := Scalar.select v76 v77 v62
  let v79 : BitVec 32 := Scalar.subi v78 c0_i32_29
  let c1_i32_30 : BitVec 32 := 1#32
  let v81 : BitVec 32 := Scalar.divsi v79 c1_i32_30
  let v82 : BitVec 32 := Scalar.muli v81 c1_i32_30
  let v83 : BitVec 32 := Scalar.addi c0_i32_29 v82
  let c1_i32_31 : BitVec 32 := 1#32
  ⟨c0_i32_29, v83, c1_i32_31⟩

@[reducible] def k0_t2_loop (v44 : BitVec 32) : Scf.Loop 32 :=
  let c0_i32_29 : BitVec 32 := 0#32
  let c128_i32 : BitVec 32 := 128#32
  let v60 : BitVec 32 := Scalar.addi v44 c128_i32
  let c1_i32 : BitVec 32 := 1#32
  let v61 : BitVec 32 := Scalar.subi v60 c1_i32
  let c0_i32_22 : BitVec 32 := 0#32
  let v63 : BitVec 1 := Scalar.cmpi .sgt v61 c0_i32_22
  let v64 : BitVec 32 := Scalar.extui v63
  let c0_i32_23 : BitVec 32 := 0#32
  let v65 : BitVec 1 := Scalar.cmpi .slt v61 c0_i32_23
  let v66 : BitVec 32 := Scalar.extui v65
  let v67 : BitVec 32 := Scalar.subi v64 v66
  let c128_i32_21 : BitVec 32 := 128#32
  let c0_i32_24 : BitVec 32 := 0#32
  let v68 : BitVec 1 := Scalar.cmpi .sgt c128_i32_21 c0_i32_24
  let v69 : BitVec 32 := Scalar.extui v68
  let c0_i32_25 : BitVec 32 := 0#32
  let v70 : BitVec 1 := Scalar.cmpi .slt c128_i32_21 c0_i32_25
  let v71 : BitVec 32 := Scalar.extui v70
  let v72 : BitVec 32 := Scalar.subi v69 v71
  let v73 : BitVec 1 := Scalar.cmpi .ne v67 v72
  let v74 : BitVec 32 := Scalar.remsi v61 c128_i32_21
  let c0_i32_26 : BitVec 32 := 0#32
  let v75 : BitVec 1 := Scalar.cmpi .ne v74 c0_i32_26
  let v76 : BitVec 1 := Scalar.andi v73 v75
  let v62 : BitVec 32 := Scalar.divsi v61 c128_i32_21
  let c1_i32_27 : BitVec 32 := 1#32
  let v77 : BitVec 32 := Scalar.subi v62 c1_i32_27
  let v78 : BitVec 32 := Scalar.select v76 v77 v62
  let v79 : BitVec 32 := Scalar.subi v78 c0_i32_29
  let c1_i32_30 : BitVec 32 := 1#32
  let v81 : BitVec 32 := Scalar.divsi v79 c1_i32_30
  let v82 : BitVec 32 := Scalar.muli v81 c1_i32_30
  let v83 : BitVec 32 := Scalar.addi c0_i32_29 v82
  let v80 : BitVec 32 := Scalar.addi c0_i32_29 v79
  let c1_i32_32 : BitVec 32 := 1#32
  ⟨v83, v80, c1_i32_32⟩

def k0_chk1 (v44 : BitVec 32) : Prop :=
  ((k0_t1_loop v44).OK) ∧
  ((k0_t2_loop v44).OK)
theorem k0_t1_ok : ∀ (v44 : BitVec 32) (k0_hw1 : k0_chk1 v44), (k0_t1_loop v44).OK := fun v44 k0_hw1 => k0_hw1.1
theorem k0_t2_ok : ∀ (v44 : BitVec 32) (k0_hw1 : k0_chk1 v44), (k0_t2_loop v44).OK := fun v44 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16384x1024 : Shape := ⟨2, ![16384, 1024]⟩
abbrev S16384x8 : Shape := ⟨2, ![16384, 8]⟩
abbrev S16384 : Shape := ⟨1, ![16384]⟩
abbrev S4x8x1024x256 : Shape := ⟨4, ![4, 8, 1024, 256]⟩
abbrev S4x8x256x1024 : Shape := ⟨4, ![4, 8, 256, 1024]⟩
abbrev S1024 : Shape := ⟨1, ![1024]⟩
abbrev S16384x1 : Shape := ⟨2, ![16384, 1]⟩
abbrev S1x4 : Shape := ⟨2, ![1, 4]⟩
abbrev S16384x4 : Shape := ⟨2, ![16384, 4]⟩
abbrev S_ : Shape := ⟨0, ![]⟩
abbrev S1x8x1024x256 : Shape := ⟨4, ![1, 8, 1024, 256]⟩
abbrev S8x1024x256 : Shape := ⟨3, ![8, 1024, 256]⟩
abbrev S16384x8x256 : Shape := ⟨3, ![16384, 8, 256]⟩
abbrev S16384x8x1 : Shape := ⟨3, ![16384, 8, 1]⟩
abbrev S1x8x256x1024 : Shape := ⟨4, ![1, 8, 256, 1024]⟩
abbrev S8x256x1024 : Shape := ⟨3, ![8, 256, 1024]⟩
abbrev S1x1024 : Shape := ⟨2, ![1, 1024]⟩

abbrev nBuf : Space → Nat
  | .hbm => 153
  | .vmem => 0
  | .smem => 0
  | _ => 0

abbrev hbmTy0_0 (i : Nat) : BufTy := match i % 128 with
  | 0 => ⟨S16384x1024, .f32⟩
  | 1 => ⟨S16384x8, .f32⟩
  | 2 => ⟨S16384, .i32⟩
  | 3 => ⟨S4x8x1024x256, .f32⟩
  | 4 => ⟨S4x8x1024x256, .f32⟩
  | 5 => ⟨S4x8x256x1024, .f32⟩
  | 6 => ⟨S1024, .f32⟩
  | 7 => ⟨S1024, .f32⟩
  | 8 => ⟨S16384x1, .i32⟩
  | 9 => ⟨S1x4, .i32⟩
  | 10 => ⟨S16384x4, .i32⟩
  | 11 => ⟨S16384x4, .i32⟩
  | 12 => ⟨S16384x4, .i1⟩
  | 13 => ⟨S16384x4, .f32⟩
  | 14 => ⟨S_, .f32⟩
  | 15 => ⟨S16384x1024, .f32⟩
  | 16 => ⟨S16384x1, .f32⟩
  | 17 => ⟨S16384x8, .f32⟩
  | 18 => ⟨S16384x8, .f32⟩
  | 19 => ⟨S1x8x1024x256, .f32⟩
  | 20 => ⟨S8x1024x256, .f32⟩
  | 21 => ⟨S16384x8x256, .f32⟩
  | 22 => ⟨S16384x8x256, .f32⟩
  | 23 => ⟨S16384x8x256, .f32⟩
  | 24 => ⟨S_, .f32⟩
  | 25 => ⟨S16384x8x256, .f32⟩
  | 26 => ⟨S16384x8x256, .f32⟩
  | 27 => ⟨S_, .f32⟩
  | 28 => ⟨S16384x8x256, .f32⟩
  | 29 => ⟨S16384x8x256, .f32⟩
  | 30 => ⟨S16384x8x256, .f32⟩
  | 31 => ⟨S1x8x1024x256, .f32⟩
  | 32 => ⟨S8x1024x256, .f32⟩
  | 33 => ⟨S16384x8x256, .f32⟩
  | 34 => ⟨S16384x8x256, .f32⟩
  | 35 => ⟨S16384x8x1, .f32⟩
  | 36 => ⟨S16384x8x256, .f32⟩
  | 37 => ⟨S16384x8x256, .f32⟩
  | 38 => ⟨S1x8x256x1024, .f32⟩
  | 39 => ⟨S8x256x1024, .f32⟩
  | 40 => ⟨S16384x1024, .f32⟩
  | 41 => ⟨S16384x1024, .f32⟩
  | 42 => ⟨S16384x1, .f32⟩
  | 43 => ⟨S16384x8, .f32⟩
  | 44 => ⟨S16384x8, .f32⟩
  | 45 => ⟨S1x8x1024x256, .f32⟩
  | 46 => ⟨S8x1024x256, .f32⟩
  | 47 => ⟨S16384x8x256, .f32⟩
  | 48 => ⟨S16384x8x256, .f32⟩
  | 49 => ⟨S16384x8x256, .f32⟩
  | 50 => ⟨S_, .f32⟩
  | 51 => ⟨S16384x8x256, .f32⟩
  | 52 => ⟨S16384x8x256, .f32⟩
  | 53 => ⟨S_, .f32⟩
  | 54 => ⟨S16384x8x256, .f32⟩
  | 55 => ⟨S16384x8x256, .f32⟩
  | 56 => ⟨S16384x8x256, .f32⟩
  | 57 => ⟨S1x8x1024x256, .f32⟩
  | 58 => ⟨S8x1024x256, .f32⟩
  | 59 => ⟨S16384x8x256, .f32⟩
  | 60 => ⟨S16384x8x256, .f32⟩
  | 61 => ⟨S16384x8x1, .f32⟩
  | 62 => ⟨S16384x8x256, .f32⟩
  | 63 => ⟨S16384x8x256, .f32⟩
  | 64 => ⟨S1x8x256x1024, .f32⟩
  | 65 => ⟨S8x256x1024, .f32⟩
  | 66 => ⟨S16384x1024, .f32⟩
  | 67 => ⟨S16384x1024, .f32⟩
  | 68 => ⟨S16384x1, .f32⟩
  | 69 => ⟨S16384x8, .f32⟩
  | 70 => ⟨S16384x8, .f32⟩
  | 71 => ⟨S1x8x1024x256, .f32⟩
  | 72 => ⟨S8x1024x256, .f32⟩
  | 73 => ⟨S16384x8x256, .f32⟩
  | 74 => ⟨S16384x8x256, .f32⟩
  | 75 => ⟨S16384x8x256, .f32⟩
  | 76 => ⟨S_, .f32⟩
  | 77 => ⟨S16384x8x256, .f32⟩
  | 78 => ⟨S16384x8x256, .f32⟩
  | 79 => ⟨S_, .f32⟩
  | 80 => ⟨S16384x8x256, .f32⟩
  | 81 => ⟨S16384x8x256, .f32⟩
  | 82 => ⟨S16384x8x256, .f32⟩
  | 83 => ⟨S1x8x1024x256, .f32⟩
  | 84 => ⟨S8x1024x256, .f32⟩
  | 85 => ⟨S16384x8x256, .f32⟩
  | 86 => ⟨S16384x8x256, .f32⟩
  | 87 => ⟨S16384x8x1, .f32⟩
  | 88 => ⟨S16384x8x256, .f32⟩
  | 89 => ⟨S16384x8x256, .f32⟩
  | 90 => ⟨S1x8x256x1024, .f32⟩
  | 91 => ⟨S8x256x1024, .f32⟩
  | 92 => ⟨S16384x1024, .f32⟩
  | 93 => ⟨S16384x1024, .f32⟩
  | 94 => ⟨S16384x1, .f32⟩
  | 95 => ⟨S16384x8, .f32⟩
  | 96 => ⟨S16384x8, .f32⟩
  | 97 => ⟨S1x8x1024x256, .f32⟩
  | 98 => ⟨S8x1024x256, .f32⟩
  | 99 => ⟨S16384x8x256, .f32⟩
  | 100 => ⟨S16384x8x256, .f32⟩
  | 101 => ⟨S16384x8x256, .f32⟩
  | 102 => ⟨S_, .f32⟩
  | 103 => ⟨S16384x8x256, .f32⟩
  | 104 => ⟨S16384x8x256, .f32⟩
  | 105 => ⟨S_, .f32⟩
  | 106 => ⟨S16384x8x256, .f32⟩
  | 107 => ⟨S16384x8x256, .f32⟩
  | 108 => ⟨S16384x8x256, .f32⟩
  | 109 => ⟨S1x8x1024x256, .f32⟩
  | 110 => ⟨S8x1024x256, .f32⟩
  | 111 => ⟨S16384x8x256, .f32⟩
  | 112 => ⟨S16384x8x256, .f32⟩
  | 113 => ⟨S16384x8x1, .f32⟩
  | 114 => ⟨S16384x8x256, .f32⟩
  | 115 => ⟨S16384x8x256, .f32⟩
  | 116 => ⟨S1x8x256x1024, .f32⟩
  | 117 => ⟨S8x256x1024, .f32⟩
  | 118 => ⟨S16384x1024, .f32⟩
  | 119 => ⟨S16384x1024, .f32⟩
  | 120 => ⟨S_, .f32⟩
  | 121 => ⟨S16384x1024, .f32⟩
  | 122 => ⟨S16384x1024, .f32⟩
  | 123 => ⟨S16384x1024, .f32⟩
  | 124 => ⟨S_, .f32⟩
  | 125 => ⟨S16384, .f32⟩
  | 126 => ⟨S16384x1, .f32⟩
  | 127 => ⟨S_, .f32⟩
  | _ => ⟨S16384x1024, .f32⟩

abbrev hbmTy0_1 (i : Nat) : BufTy := match i % 128 with
  | 0 => ⟨S16384x1, .f32⟩
  | 1 => ⟨S16384x1, .f32⟩
  | 2 => ⟨S16384x1024, .f32⟩
  | 3 => ⟨S16384x1024, .f32⟩
  | 4 => ⟨S16384x1024, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S16384x1024, .f32⟩
  | 12 => ⟨S16384x1024, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S1x1024, .f32⟩
  | 23 => ⟨S16384x1024, .f32⟩
  | 24 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call2_v0 : Ref sig .tc := ⟨.hbm, 48, rfl⟩
abbrev main_call2_v1 : Ref sig .tc := ⟨.hbm, 49, rfl⟩
abbrev main_call2_cst : Ref sig .tc := ⟨.hbm, 50, rfl⟩
abbrev main_call2_v2 : Ref sig .tc := ⟨.hbm, 51, rfl⟩
abbrev main_call2_v3 : Ref sig .tc := ⟨.hbm, 52, rfl⟩
abbrev main_call2_cst_0 : Ref sig .tc := ⟨.hbm, 53, rfl⟩
abbrev main_call2_v4 : Ref sig .tc := ⟨.hbm, 54, rfl⟩
abbrev main_call2_v5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call3_v0 : Ref sig .tc := ⟨.hbm, 74, rfl⟩
abbrev main_call3_v1 : Ref sig .tc := ⟨.hbm, 75, rfl⟩
abbrev main_call3_cst : Ref sig .tc := ⟨.hbm, 76, rfl⟩
abbrev main_call3_v2 : Ref sig .tc := ⟨.hbm, 77, rfl⟩
abbrev main_call3_v3 : Ref sig .tc := ⟨.hbm, 78, rfl⟩
abbrev main_call3_cst_0 : Ref sig .tc := ⟨.hbm, 79, rfl⟩
abbrev main_call3_v4 : Ref sig .tc := ⟨.hbm, 80, rfl⟩
abbrev main_call3_v5 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_call4_v0 : Ref sig .tc := ⟨.hbm, 100, rfl⟩
abbrev main_call4_v1 : Ref sig .tc := ⟨.hbm, 101, rfl⟩
abbrev main_call4_cst : Ref sig .tc := ⟨.hbm, 102, rfl⟩
abbrev main_call4_v2 : Ref sig .tc := ⟨.hbm, 103, rfl⟩
abbrev main_call4_v3 : Ref sig .tc := ⟨.hbm, 104, rfl⟩
abbrev main_call4_cst_0 : Ref sig .tc := ⟨.hbm, 105, rfl⟩
abbrev main_call4_v4 : Ref sig .tc := ⟨.hbm, 106, rfl⟩
abbrev main_call4_v5 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_0 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_1 : Ref sig .tc := ⟨.hbm, 124, rfl⟩
abbrev main_v77 : Ref sig .tc := ⟨.hbm, 125, rfl⟩
abbrev main_v78 : Ref sig .tc := ⟨.hbm, 126, rfl⟩
abbrev main_cst_2 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_3 : Ref sig .tc := ⟨.hbm, 133, rfl⟩
abbrev main_v84 : Ref sig .tc := ⟨.hbm, 134, rfl⟩
abbrev main_v85 : Ref sig .tc := ⟨.hbm, 135, rfl⟩
abbrev main_cst_4 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_5 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S2x8192x512 : Shape := ⟨3, ![2, 8192, 512]⟩
abbrev S2x512x8192 : Shape := ⟨3, ![2, 512, 8192]⟩
abbrev S_ : Shape := ⟨0, ![]⟩
abbrev S128x1024 : Shape := ⟨2, ![128, 1024]⟩
abbrev S4x8x1024 : Shape := ⟨3, ![4, 8, 1024]⟩
abbrev S32x1024 : Shape := ⟨2, ![32, 1024]⟩
abbrev S1 : Shape := ⟨1, ![1]⟩
abbrev S4x1024 : Shape := ⟨2, ![4, 1024]⟩
abbrev S128x1 : Shape := ⟨2, ![128, 1]⟩
abbrev S32 : Shape := ⟨1, ![32]⟩
abbrev S2 : Shape := ⟨1, ![2]⟩
abbrev S512x1024 : Shape := ⟨2, ![512, 1024]⟩
abbrev S1x1024 : Shape := ⟨2, ![1, 1024]⟩
abbrev S16384x1024 : Shape := ⟨2, ![16384, 1024]⟩
abbrev S16384x128 : Shape := ⟨2, ![16384, 128]⟩
abbrev S1x512x256 : Shape := ⟨3, ![1, 512, 256]⟩
abbrev S1x256x1024 : Shape := ⟨3, ![1, 256, 1024]⟩
abbrev S256x1024 : Shape := ⟨2, ![256, 1024]⟩
abbrev S256x128 : Shape := ⟨2, ![256, 128]⟩
abbrev S512x256 : Shape := ⟨2, ![512, 256]⟩
abbrev S256 : Shape := ⟨1, ![256]⟩
abbrev S256x1 : Shape := ⟨2, ![256, 1]⟩
abbrev S128x256 : Shape := ⟨2, ![128, 256]⟩
abbrev S40x256 : Shape := ⟨2, ![40, 256]⟩
abbrev S1x256 : Shape := ⟨2, ![1, 256]⟩
abbrev S88x256 : Shape := ⟨2, ![88, 256]⟩

abbrev nBuf : Space → Nat
  | .hbm => 53
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S4x1024x8, .f32⟩
  | .hbm, ⟨8, _⟩ => ⟨S4x8, .f32⟩
  | .hbm, ⟨9, _⟩ => ⟨S2x8192x512, .f32⟩
  | .hbm, ⟨10, _⟩ => ⟨S2x512x8192, .f32⟩
  | .hbm, ⟨11, _⟩ => ⟨S2x512x8192, .bf16⟩
  | .hbm, ⟨12, _⟩ => ⟨S2x8192x512, .f32⟩
  | .hbm, ⟨13, _⟩ => ⟨S2x512x8192, .f32⟩
  | .hbm, ⟨14, _⟩ => ⟨S2x512x8192, .bf16⟩
  | .hbm, ⟨15, _⟩ => ⟨S1024x1024, .bf16⟩
  | .hbm, ⟨16, _⟩ => ⟨S_, .f32⟩
  | .hbm, ⟨17, _⟩ => ⟨S128x1024, .f32⟩
  | .hbm, ⟨18, _⟩ => ⟨S4x8x1024, .f32⟩
  | .hbm, ⟨19, _⟩ => ⟨S32x1024, .f32⟩
  | .hbm, ⟨20, _⟩ => ⟨S_, .i32⟩
  | .hbm, ⟨21, _⟩ => ⟨S1, .i32⟩
  | .hbm, ⟨22, _⟩ => ⟨S128x1024, .f32⟩
  | .hbm, ⟨23, _⟩ => ⟨S4x1024, .f32⟩
  | .hbm, ⟨24, _⟩ => ⟨S_, .i32⟩
  | .hbm, ⟨25, _⟩ => ⟨S1, .i32⟩
  | .hbm, ⟨26, _⟩ => ⟨S128x1024, .f32⟩
  | .hbm, ⟨27, _⟩ => ⟨S_, .f32⟩
  | .hbm, ⟨28, _⟩ => ⟨S128x1, .f32⟩
  | .hbm, ⟨29, _⟩ => ⟨S32, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S128x1, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S128x1, .f32⟩
  | .hbm, ⟨42, _⟩ => ⟨S512x1024, .bf16⟩
  | .hbm, ⟨43, _⟩ => ⟨S512x1024, .bf16⟩
  | .hbm, ⟨44, _⟩ => ⟨S1x1024, .f32⟩
  | .hbm, ⟨45, _⟩ => ⟨S1x1024, .f32⟩
  | .hbm, ⟨46, _⟩ => ⟨S128x1024, .bf16⟩
  | .hbm, ⟨47, _⟩ => ⟨S128x1024, .f32⟩
  | .hbm, ⟨48, _⟩ => ⟨S128x1024, .f32⟩
  | .hbm, ⟨49, _⟩ => ⟨S128x1024, .bf16⟩
  | .hbm, ⟨50, _⟩ => ⟨S16384x1024, .f32⟩
  | .hbm, ⟨51, _⟩ => ⟨S16384x1024, .bf16⟩
  | .hbm, ⟨52, _⟩ => ⟨S16384x128, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x256x1024, .f32⟩
  | .local _ .vmem, ⟨5, _⟩ => ⟨S1x256x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S128x1024, .bf16⟩
  | .local _ .vmem, ⟨11, _⟩ => ⟨S128x1024, .bf16⟩
  | .local _ .vmem, ⟨12, _⟩ => ⟨S128x1, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x128, .f32⟩
  | .local _ .vmem, ⟨18, _⟩ => ⟨S256x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v33_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S2x8192x1024 : Shape := ⟨3, ![2, 8192, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4 : Shape := ⟨3, ![2, 8192, 4]⟩
abbrev S1x1x4 : Shape := ⟨3, ![1, 1, 4]⟩
abbrev S2x8192x4x8 : Shape := ⟨4, ![2, 8192, 4, 8]⟩
abbrev S1x1x4x8 : Shape := ⟨4, ![1, 1, 4, 8]⟩
abbrev S2x8192x1x1 : Shape := ⟨4, ![2, 8192, 1, 1]⟩
abbrev S1 : Shape := ⟨1, ![1]⟩
abbrev S1x1x1x1 : Shape := ⟨4, ![1, 1, 1, 1]⟩
abbrev S2x8192x1x8 : Shape := ⟨4, ![2, 8192, 1, 8]⟩
abbrev S2x8192x8 : Shape := ⟨3, ![2, 8192, 8]⟩
abbrev S2x8192x2 : Shape := ⟨3, ![2, 8192, 2]⟩
abbrev S2x8192x2x1 : Shape := ⟨4, ![2, 8192, 2, 1]⟩
abbrev S1x1x1x8 : Shape := ⟨4, ![1, 1, 1, 8]⟩
abbrev S2x8192x2x8 : Shape := ⟨4, ![2, 8192, 2, 8]⟩
abbrev S2x8192x4x1 : Shape := ⟨4, ![2, 8192, 4, 1]⟩
abbrev S16384x32 : Shape := ⟨2, ![16384, 32]⟩
abbrev S16384x4 : Shape := ⟨2, ![16384, 4]⟩
abbrev S16384x92 : Shape := ⟨2, ![16384, 92]⟩
abbrev S16384x128 : Shape := ⟨2, ![16384, 128]⟩
abbrev S16384x1024 : Shape := ⟨2, ![16384, 1024]⟩

abbrev nBuf : Space → Nat
  | .hbm => 145
  | .vmem => 0
  | .smem => 0
  | _ => 0

abbrev hbmTy0_0 (i : Nat) : BufTy := match i % 128 with
  | 0 => ⟨S2x8192x1024, .f32⟩
  | 1 => ⟨S2x8192x1024, .f32⟩
  | 2 => ⟨S1024x1024, .f32⟩
  | 3 => ⟨S1024, .f32⟩
  | 4 => ⟨S1024, .f32⟩
  | 5 => ⟨S1024x4, .f32⟩
  | 6 => ⟨S4, .f32⟩
  | 7 => ⟨S4x1024x8, .f32⟩
  | 8 => ⟨S4x8, .f32⟩
  | 9 => ⟨S_, .f32⟩
  | 10 => ⟨S2x8192x1024, .f32⟩
  | 11 => ⟨S2x8192x1024, .f32⟩
  | 12 => ⟨S2x8192x1024, .f32⟩
  | 13 => ⟨S2x8192x1024, .f32⟩
  | 14 => ⟨S_, .f32⟩
  | 15 => ⟨S2x8192, .f32⟩
  | 16 => ⟨S2x8192x1, .f32⟩
  | 17 => ⟨S_, .f32⟩
  | 18 => ⟨S2x8192x1, .f32⟩
  | 19 => ⟨S2x8192x1, .f32⟩
  | 20 => ⟨S2x8192x1024, .f32⟩
  | 21 => ⟨S2x8192x1024, .f32⟩
  | 22 => ⟨S2x8192x1024, .f32⟩
  | 23 => ⟨S_, .f32⟩
  | 24 => ⟨S2x8192, .f32⟩
  | 25 => ⟨S2x8192x1, .f32⟩
  | 26 => ⟨S_, .f32⟩
  | 27 => ⟨S2x8192x1, .f32⟩
  | 28 => ⟨S2x8192x1, .f32⟩
  | 29 => ⟨S2x8192x1024, .f32⟩
  | 30 => ⟨S2x8192x1024, .f32⟩
  | 31 => ⟨S_, .f32⟩
  | 32 => ⟨S2x8192x1, .f32⟩
  | 33 => ⟨S2x8192x1, .f32⟩
  | 34 => ⟨S2x8192x1, .f32⟩
  | 35 => ⟨S2x8192x1024, .f32⟩
  | 36 => ⟨S2x8192x1024, .f32⟩
  | 37 => ⟨S1x1x1024, .f32⟩
  | 38 => ⟨S2x8192x1024, .f32⟩
  | 39 => ⟨S2x8192x1024, .f32⟩
  | 40 => ⟨S1x1x1024, .f32⟩
  | 41 => ⟨S2x8192x1024, .f32⟩
  | 42 => ⟨S2x8192x1024, .f32⟩
  | 43 => ⟨S2x8192x4, .f32⟩
  | 44 => ⟨S1x1x4, .f32⟩
  | 45 => ⟨S2x8192x4, .f32⟩
  | 46 => ⟨S2x8192x4, .f32⟩
  | 47 => ⟨S_, .f32⟩
  | 48 => ⟨S2x8192, .f32⟩
  | 49 => ⟨S_, .f32⟩
  | 50 => ⟨S2x8192, .f32⟩
  | 51 => ⟨S2x8192, .f32⟩
  | 52 => ⟨S2x8192x1, .f32⟩
  | 53 => ⟨S2x8192x4, .f32⟩
  | 54 => ⟨S2x8192x4, .f32⟩
  | 55 => ⟨S2x8192x4, .f32⟩
  | 56 => ⟨S_, .f32⟩
  | 57 => ⟨S2x8192, .f32⟩
  | 58 => ⟨S2x8192x1, .f32⟩
  | 59 => ⟨S2x8192x4, .f32⟩
  | 60 => ⟨S2x8192x4, .f32⟩
  | 61 => ⟨S2x8192x1, .f32⟩
  | 62 => ⟨S2x8192x1, .i32⟩
  | 63 => ⟨S2x8192x4x8, .f32⟩
  | 64 => ⟨S1x1x4x8, .f32⟩
  | 65 => ⟨S2x8192x4x8, .f32⟩
  | 66 => ⟨S2x8192x4x8, .f32⟩
  | 67 => ⟨S2x8192x1x1, .i32⟩
  | 68 => ⟨S_, .i32⟩
  | 69 => ⟨S2x8192x1x1, .i32⟩
  | 70 => ⟨S2x8192x1x1, .i1⟩
  | 71 => ⟨S_, .i32⟩
  | 72 => ⟨S2x8192x1x1, .i32⟩
  | 73 => ⟨S2x8192x1x1, .i32⟩
  | 74 => ⟨S2x8192x1x1, .i32⟩
  | 75 => ⟨S1, .i32⟩
  | 76 => ⟨S_, .i32⟩
  | 77 => ⟨S2x8192x1x1, .i32⟩
  | 78 => ⟨S2x8192x1x1, .i1⟩
  | 79 => ⟨S1x1x1x1, .i32⟩
  | 80 => ⟨S2x8192x1x1, .i32⟩
  | 81 => ⟨S2x8192x1x1, .i1⟩
  | 82 => ⟨S2x8192x1x1, .i1⟩
  | 83 => ⟨S_, .i1⟩
  | 84 => ⟨S2x8192x1, .i1⟩
  | 85 => ⟨S2x8192x1x8, .f32⟩
  | 86 => ⟨S2x8192x1x8, .i1⟩
  | 87 => ⟨S_, .f32⟩
  | 88 => ⟨S2x8192x1x8, .f32⟩
  | 89 => ⟨S2x8192x1x8, .f32⟩
  | 90 => ⟨S2x8192x8, .f32⟩
  | 91 => ⟨S_, .f32⟩
  | 92 => ⟨S2x8192, .f32⟩
  | 93 => ⟨S_, .f32⟩
  | 94 => ⟨S2x8192, .f32⟩
  | 95 => ⟨S2x8192, .f32⟩
  | 96 => ⟨S2x8192x1, .f32⟩
  | 97 => ⟨S2x8192x8, .f32⟩
  | 98 => ⟨S2x8192x8, .f32⟩
  | 99 => ⟨S2x8192x8, .f32⟩
  | 100 => ⟨S_, .f32⟩
  | 101 => ⟨S2x8192, .f32⟩
  | 102 => ⟨S2x8192x1, .f32⟩
  | 103 => ⟨S2x8192x8, .f32⟩
  | 104 => ⟨S2x8192x8, .f32⟩
  | 105 => ⟨S2x8192x2, .f32⟩
  | 106 => ⟨S2x8192x2, .i32⟩
  | 107 => ⟨S_, .f32⟩
  | 108 => ⟨S2x8192, .f32⟩
  | 109 => ⟨S2x8192x1, .f32⟩
  | 110 => ⟨S2x8192x2, .f32⟩
  | 111 => ⟨S2x8192x2, .f32⟩
  | 112 => ⟨S2x8192x2x1, .i32⟩
  | 113 => ⟨S1x1x1x8, .i32⟩
  | 114 => ⟨S2x8192x2x8, .i32⟩
  | 115 => ⟨S2x8192x2x8, .i32⟩
  | 116 => ⟨S2x8192x2x8, .i1⟩
  | 117 => ⟨S2x8192x2x8, .f32⟩
  | 118 => ⟨S2x8192x2x1, .f32⟩
  | 119 => ⟨S2x8192x2x8, .f32⟩
  | 120 => ⟨S2x8192x2x8, .f32⟩
  | 121 => ⟨S_, .f32⟩
  | 122 => ⟨S2x8192x8, .f32⟩
  | 123 => ⟨S2x8192x8, .f32⟩
  | 124 => ⟨S2x8192x8, .f32⟩
  | 125 => ⟨S2x8192, .i32⟩
  | 126 => ⟨S2x8192x1, .i32⟩
  | 127 => ⟨S1x1x4, .i32⟩
  | _ => ⟨S2x8192x1024, .f32⟩

abbrev hbmTy0_1 (i : Nat) : BufTy := match i % 128 with
  | 0 => ⟨S2x8192x4, .i32⟩
  | 1 => ⟨S2x8192x4, .i32⟩
  | 2 => ⟨S2x8192x4, .i1⟩
  | 3 => ⟨S2x8192x4, .f32⟩
  | 4 => ⟨S2x8192x1x8, .f32⟩
  | 5 => ⟨S2x8192x4x1, .f32⟩
  | 6 => ⟨S2x8192x4x8, .f32⟩
  | 7 => ⟨S2x8192x4x8, .f32⟩
  | 8 => ⟨S2x8192x4x8, .f32⟩
  | 9 => ⟨S16384x32, .f32⟩
  | 10 => ⟨S16384x4, .f32⟩
  | 11 => ⟨S_, .f32⟩
  | 12 => ⟨S16384x92, .f32⟩
  | 13 => ⟨S16384x128, .f32⟩
  | 14 => ⟨S16384x1024, .f32⟩
  | 15 => ⟨S16384x1024, .f32⟩
  | 16 => ⟨S16384x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_values : Ref sig .tc := ⟨.hbm, 61, rfl⟩
abbrev main_indices : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_c : Ref sig .tc := ⟨.hbm, 68, rfl⟩
abbrev main_call0_v0 : Ref sig .tc := ⟨.hbm, 69, rfl⟩
abbrev main_call0_v1 : Ref sig .tc := ⟨.hbm, 70, rfl⟩
abbrev main_call0_c_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_c_1 : Ref sig .tc := ⟨.hbm, 75, rfl⟩
abbrev main_call0_c_2 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_v8 : Ref sig .tc := ⟨.hbm, 80, rfl⟩
abbrev main_call0_v9 : Ref sig .tc := ⟨.hbm, 81, rfl⟩
abbrev main_call0_v10 : Ref sig .tc := ⟨.hbm, 82, rfl⟩
abbrev main_call0_c_3 : Ref sig .tc := ⟨.hbm, 83, rfl⟩
abbrev main_call0_v11 : Ref sig .tc := ⟨.hbm, 84, rfl⟩
abbrev main_call0_v12 : Ref sig .tc := ⟨.hbm, 85, rfl⟩
abbrev main_call0_v13 : Ref sig .tc := ⟨.hbm, 86, rfl⟩
abbrev main_call0_cst : Ref sig .tc := ⟨.hbm, 87, rfl⟩
abbrev main_call0_v14 : Ref sig .tc := ⟨.hbm, 88, rfl⟩
abbrev main_v48 : Ref sig .tc := ⟨.hbm, 89, rfl⟩
abbrev main_v49 : Ref sig .tc := ⟨.hbm, 90, rfl⟩
abbrev main_cst_8 : Ref sig .tc := ⟨.hbm, 91, rfl⟩
abbrev main_v50 : Ref sig .tc := ⟨.hbm, 92, rfl⟩
abbrev main_cst_9 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_10 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_values_11 : Ref sig .tc := ⟨.hbm, 105, rfl⟩
abbrev main_indices_12 : Ref sig .tc := ⟨.hbm, 106, rfl⟩
abbrev main_cst_13 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_14 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_15 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x3072 : Shape := ⟨2, ![1024, 3072]⟩
abbrev S256x256 : Shape := ⟨2, ![256, 256]⟩
abbrev S1024x512 : Shape := ⟨2, ![1024, 512]⟩
abbrev S_ : Shape := ⟨0, ![]⟩
abbrev S1024x1536 : Shape := ⟨2, ![1024, 1536]⟩
abbrev S1536x1024 : Shape := ⟨2, ![1536, 1024]⟩
abbrev S512x1024 : Shape := ⟨2, ![512, 1024]⟩
abbrev S2x512x8192 : Shape := ⟨3, ![2, 512, 8192]⟩
abbrev S2x8x32x64x256 : Shape := ⟨5, ![2, 8, 32, 64, 256]⟩
abbrev S2x8x32x256x64 : Shape := ⟨5, ![2, 8, 32, 256, 64]⟩
abbrev S1x256x1024 : Shape := ⟨3, ![1, 256, 1024]⟩
abbrev S1x512x256 : Shape := ⟨3, ![1, 512, 256]⟩
abbrev S1x8x1x64x256 : Shape := ⟨5, ![1, 8, 1, 64, 256]⟩
abbrev S1x8x1x256x64 : Shape := ⟨5, ![1, 8, 1, 256, 64]⟩
abbrev S256x1024 : Shape := ⟨2, ![256, 1024]⟩
abbrev S1536x256 : Shape := ⟨2, ![1536, 256]⟩
abbrev S512x256 : Shape := ⟨2, ![512, 256]⟩
abbrev S256x512 : Shape := ⟨2, ![256, 512]⟩
abbrev S64x256 : Shape := ⟨2, ![64, 256]⟩
abbrev S1x1x1x64x256 : Shape := ⟨5, ![1, 1, 1, 64, 256]⟩
abbrev S256x64 : Shape := ⟨2, ![256, 64]⟩
abbrev S1x1x1x256x64 : Shape := ⟨5, ![1, 1, 1, 256, 64]⟩

abbrev nBuf : Space → Nat
  | .hbm => 28
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S256x256, .bf16⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x1536, .f32⟩
  | .hbm, ⟨16, _⟩ => ⟨S1536x1024, .f32⟩
  | .hbm, ⟨17, _⟩ => ⟨S1536x1024, .bf16⟩
  | .hbm, ⟨18, _⟩ => ⟨S512x1024, .f32⟩
  | .hbm, ⟨19, _⟩ => ⟨S512x1024, .bf16⟩
  | .hbm, ⟨20, _⟩ => ⟨S1024x512, .bf16⟩
  | .hbm, ⟨21, _⟩ => ⟨S1024x512, .bf16⟩
  | .hbm, ⟨22, _⟩ => ⟨S2x512x8192, .bf16⟩
  | .hbm, ⟨23, _⟩ => ⟨S2x512x8192, .bf16⟩
  | .hbm, ⟨24, _⟩ => ⟨S2x8x32x64x256, .bf16⟩
  | .hbm, ⟨25, _⟩ => ⟨S2x8x32x64x256, .bf16⟩
  | .hbm, ⟨26, _⟩ => ⟨S2x8x32x256x64, .bf16⟩
  | .hbm, ⟨27, _⟩ => ⟨S2x8x32x256x64, .bf16⟩
  | .local _ .vmem, ⟨0, _⟩ => ⟨S1x256x1024, .f32⟩
  | .local _ .vmem, ⟨1, _⟩ => ⟨S1x256x1024, .f32⟩
  | .local _ .vmem, ⟨2, _⟩ => ⟨S256x256, .bf16⟩
  | .local _ .vmem, ⟨3, _⟩ => ⟨S1536x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x8x1x64x256, .bf16⟩
  | .local _ .vmem, ⟨12, _⟩ => ⟨S1x8x1x64x256, .bf16⟩
  | .local _ .vmem, ⟨13, _⟩ => ⟨S1x8x1x64x256, .bf16⟩
  | .local _ .vmem, ⟨14, _⟩ => ⟨S1x8x1x64x256, .bf16⟩
  | .local _ .vmem, ⟨15, _⟩ => ⟨S1x8x1x256x64, .bf16⟩
  | .local _ .vmem, ⟨16, _⟩ => ⟨S1x8x1x256x64, .bf16⟩
  | .local _ .vmem, ⟨17, _⟩ => ⟨S1x8x1x256x64, .bf16⟩
  | .local _ .vmem, ⟨18, _⟩ => ⟨S1x8x1x256x64, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev main_v17_4 : Ref sig .tc := ⟨.hbm, 26, rfl⟩
abbrev main_v17_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x1x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x1x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1x256x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1x256x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S2x8192x1024 : Shape := ⟨3, ![2, 8192, 1024]⟩
abbrev S1024x3072 : Shape := ⟨2, ![1024, 3072]⟩
abbrev S2x8192x3072 : Shape := ⟨3, ![2, 8192, 3072]⟩
abbrev S2x8192x512 : Shape := ⟨3, ![2, 8192, 512]⟩
abbrev S_ : Shape := ⟨0, ![]⟩
abbrev S2x512x8192 : Shape := ⟨3, ![2, 512, 8192]⟩
abbrev S2x32x256x8x64 : Shape := ⟨5, ![2, 32, 256, 8, 64]⟩
abbrev S2x8x32x64x256 : Shape := ⟨5, ![2, 8, 32, 64, 256]⟩
abbrev S2x32x8x32x512 : Shape := ⟨5, ![2, 32, 8, 32, 512]⟩
abbrev S2x32x32x8x512 : Shape := ⟨5, ![2, 32, 32, 8, 512]⟩
abbrev S2x8x32x256x64 : Shape := ⟨5, ![2, 8, 32, 256, 64]⟩

abbrev nBuf : Space → Nat
  | .hbm => 39
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x3072, .f32⟩
  | .hbm, ⟨2, _⟩ => ⟨S2x8192x3072, .f32⟩
  | .hbm, ⟨3, _⟩ => ⟨S2x8192x512, .f32⟩
  | .hbm, ⟨4, _⟩ => ⟨S2x8192x512, .f32⟩
  | .hbm, ⟨5, _⟩ => ⟨S2x8192x512, .f32⟩
  | .hbm, ⟨6, _⟩ => ⟨S2x8192x512, .f32⟩
  | .hbm, ⟨7, _⟩ => ⟨S2x8192x512, .f32⟩
  | .hbm, ⟨8, _⟩ => ⟨S2x8192x512, .f32⟩
  | .hbm, ⟨9, _⟩ => ⟨S_, .f32⟩
  | .hbm, ⟨10, _⟩ => ⟨S2x8192x512, .f32⟩
  | .hbm, ⟨11, _⟩ => ⟨S2x8192x512, .f32⟩
  | .hbm, ⟨12, _⟩ => ⟨S2x512x8192, .f32⟩
  | .hbm, ⟨13, _⟩ => ⟨S2x512x8192, .bf16⟩
  | .hbm, ⟨14, _⟩ => ⟨S_, .f32⟩
  | .hbm, ⟨15, _⟩ => ⟨S2x8192x512, .f32⟩
  | .hbm, ⟨16, _⟩ => ⟨S2x8192x512, .f32⟩
  | .hbm, ⟨17, _⟩ => ⟨S2x512x8192, .f32⟩
  | .hbm, ⟨18, _⟩ => ⟨S2x512x8192, .bf16⟩
  | .hbm, ⟨19, _⟩ => ⟨S2x32x256x8x64, .f32⟩
  | .hbm, ⟨20, _⟩ => ⟨S2x8x32x64x256, .f32⟩
  | .hbm, ⟨21, _⟩ => ⟨S2x8x32x64x256, .bf16⟩
  | .hbm, ⟨22, _⟩ => ⟨S2x32x8x32x512, .f32⟩
  | .hbm, ⟨23, _⟩ => ⟨S2x32x8x32x512, .f32⟩
  | .hbm, ⟨24, _⟩ => ⟨S2x32x32x8x512, .f32⟩
  | .hbm, ⟨25, _⟩ => ⟨S2x8192x512, .f32⟩
  | .hbm, ⟨26, _⟩ => ⟨S2x32x256x8x64, .f32⟩
  | .hbm, ⟨27, _⟩ => ⟨S2x8x32x64x256, .f32⟩
  | .hbm, ⟨28, _⟩ => ⟨S2x8x32x64x256, .bf16⟩
  | .hbm, ⟨29, _⟩ => ⟨S2x32x8x32x512, .f32⟩
  | .hbm, ⟨30, _⟩ => ⟨S2x32x8x32x512, .f32⟩
  | .hbm, ⟨31, _⟩ => ⟨S2x32x32x8x512, .f32⟩
  | .hbm, ⟨32, _⟩ => ⟨S2x8192x512, .f32⟩
  | .hbm, ⟨33, _⟩ => ⟨S2x32x256x8x64, .f32⟩
  | .hbm, ⟨34, _⟩ => ⟨S2x8x32x256x64, .f32⟩
  | .hbm, ⟨35, _⟩ => ⟨S2x8x32x256x64, .bf16⟩
  | .hbm, ⟨36, _⟩ => ⟨S2x32x256x8x64, .f32⟩
  | .hbm, ⟨37, _⟩ => ⟨S2x8x32x256x64, .f32⟩
  | .hbm, ⟨38, _⟩ => ⟨S2x8x32x256x64, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== Proof.Words.lean ====
/-
  The trip count of the loop over one group's chunks of rows, as a word.

  The count `c` of a group's rows in a tile becomes `⌈c / 128⌉` by signed 32-bit arithmetic. Whatever the word `c`, the
  loop's bounds are in order and its induction variable does not wrap (`chk`); for `0 ≤ c ≤ 1024` the loop makes
  `(c + 127) / 128` trips (`trips_of_count`).
-/
module

public import proofs.«01_k».proof.KernelIdeal
public import Idealize.ShloMosaic.Lib.LoopRemainder

@[expose] public section

namespace Cert.Moe

open Idealize.ShloMosaic Cert.KernelIdeal

theorem toInt_divsi_128 (x : BitVec 32) : (Scalar.divsi x 128#32).toInt = x.toInt.tdiv 128 := by
  have h : ¬IntOp.SDivCorner x 128#32 := by
    unfold IntOp.SDivCorner
    rintro (h | ⟨_, h⟩) <;> exact absurd h (by decide)
  simp only [Scalar.divsi, IntOp.divsi, if_neg h]
  rw [BitVec.toInt_sdiv_of_ne_or_ne _ _ (Or.inr (by decide))]
  rfl

theorem divsi_128_range (x : BitVec 32) :
    -2 ^ 24 ≤ (Scalar.divsi x 128#32).toInt ∧ (Scalar.divsi x 128#32).toInt ≤ 2 ^ 24 := by
  have := Affine.word_range x
  rw [toInt_divsi_128, Int.tdiv_eq_ediv, show (128 : ℤ).sign = 1 from rfl]
  split <;> omega

theorem chk (v44 : BitVec 32) : k0_chk1 v44 := by
  refine ⟨?_, Scf.rem_ok _ _⟩
  have hd := divsi_128_range (Scalar.subi (Scalar.addi v44 128#32) 1#32)
  show Scf.OK _ _ _
  dsimp only [k0_t1_loop]
  rw [Scalar.muli_divsi_one]
  generalize Scalar.andi _ _ = b
  have hs : ∀ x : BitVec 32, Scalar.addi 0#32 (Scalar.subi x 0#32) = x := fun x => by
    simp [Scalar.addi, Scalar.subi, IntOp.addi, IntOp.subi]
  rw [hs]
  have hsub : (Scalar.subi (Scalar.divsi (Scalar.subi (Scalar.addi v44 128#32) 1#32) 128#32) 1#32).toInt
      = (Scalar.divsi (Scalar.subi (Scalar.addi v44 128#32) 1#32) 128#32).toInt - 1 :=
    WordArith.toInt_sub_of_bounds _ _ (by rw [show (1#32 : BitVec 32).toInt = 1 from rfl]; omega)
      (by rw [show (1#32 : BitVec 32).toInt = 1 from rfl]; omega)
  have hu : (Scalar.select b (Scalar.subi (Scalar.divsi (Scalar.subi (Scalar.addi v44 128#32) 1#32) 128#32) 1#32)
      (Scalar.divsi (Scalar.subi (Scalar.addi v44 128#32) 1#32) 128#32)).toInt ≤ 2 ^ 24 := by
    unfold Scalar.select
    split <;> omega
  exact Affine.ok (Affine.word _) (Affine.word _) (Affine.ofNat 1 ⟨rfl, by decide⟩)
    ⟨by decide, by rw [show (0#32 : BitVec 32).toInt = 0 from rfl]; omega⟩

theorem trips_of_count (c : ℕ) (h : c ≤ 1024) : (k0_t1_loop (BitVec.ofNat 32 c)).trips = (c + 127) / 128 := by
  have H : ∀ c : Fin 1025, (k0_t1_loop (BitVec.ofNat 32 c.val)).trips = (c.val + 127) / 128 := by decide +kernel
  exact H ⟨c, by omega⟩

end Cert.Moe

end
-- ==== Proof.Steps.lean ====
/-
  One pass over a chunk of 128 rows, and the loop over the chunks.

  `stepO` is what trip `k` leaves in the output block, as a function of what it finds there; `accO` iterates it. The loop's
  invariant is that the output block holds `accO … k` before trip `k`.
-/
module

public import proofs.«01_k».proof.Proof.Gen.KernelIdeal.Frame
public import proofs.«01_k».proof.Proof.Gen.KernelIdeal.Skeleton
public import proofs.«01_k».proof.Proof.Words
public import Idealize.ShloMosaic.Lib.VecWindow

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## Whole-block accesses -/

theorem off2 : (![0, 0] : Fin 2 → ℕ) = fun _ => 0 := by decide
theorem off3 : (![0, 0, 0] : Fin 3 → ℕ) = fun _ => 0 := by decide

/-- What trip `k` of the chunk loop leaves in the output block that held `o`. -/
def stepO (arg1 : BitVec 32) (v18 v25 : FVec F S1x1024 .f32) (v32 v39 : FVec F S1024x1 .f32) (v44 : BitVec 32)
    (v52 : FVec F S1024x384 .bf16) (v54 : FVec F S1024x1024 .bf16) (v56 : FVec F S128x1024 .f32) (v58 : FVec F S1024x128 .f32)
    (v59 : IVec S128x128 32) (c0 : BitVec 32) (x3 x4 : Vec F S1x1024x2048 .bf16) (x5 : Vec F S1x2048x1024 .bf16)
    (k : Fin (k0_t1_loop v44).trips) (o : Vec F S1024x1024 .f32) : FVec F S1024x1024 .f32 :=
  let v107 := k0_pay5 v18 v25 v44 v52 v56 c0 1#32 k
  let v110 := k0_pay6 v18 v25 v44 v54 v56 c0 1#32 k x3
  let v113 := k0_pay7 v18 v25 v44 v54 v56 c0 1#32 k x4
  k0_pay25 arg1 v32 v39 v58 v59 (k0_pay2 v44 c0 1#32 k) v107 v110 v113
    (k0_pay11 v113 (k0_pay8 arg1 v18 v25 v44 v52 v56 v59 c0 1#32 k) (k0_pay9 v18 v25 v44 v54 v56 c0 1#32 k x3)
      (k0_pay10 v18 v25 v44 v54 v56 c0 1#32 k x3))
    (k0_pay12 arg1 v59 v107 v110 v113)
    (k0_pay17 v113 (k0_pay13 arg1 v59 v107) (k0_pay14 v110) (k0_pay15 v110) (k0_pay16 (F := F)))
    (k0_pay18 arg1 v59 v107 v110 v113)
    (k0_pay21 v113 (k0_pay19 arg1 v59 v107) (k0_pay20 v110))
    (k0_pay22 arg1 v59 v107 v110 v113)
    (k0_pay23 arg1 v59 v107) (k0_pay24 v110 v113) x5 o

/-- The output block before trip `k`, from `o` before the first. -/
def accO (arg1 : BitVec 32) (v18 v25 : FVec F S1x1024 .f32) (v32 v39 : FVec F S1024x1 .f32) (v44 : BitVec 32)
    (v52 : FVec F S1024x384 .bf16) (v54 : FVec F S1024x1024 .bf16) (v56 : FVec F S128x1024 .f32) (v58 : FVec F S1024x128 .f32)
    (v59 : IVec S128x128 32) (c0 : BitVec 32) (x3 x4 : Vec F S1x1024x2048 .bf16) (x5 : Vec F S1x2048x1024 .bf16)
    (o : Vec F S1024x1024 .f32) : ℕ → Vec F S1024x1024 .f32
  | 0 => o
  | k + 1 =>
    if h : k < (k0_t1_loop v44).trips then
      stepO arg1 v18 v25 v32 v39 v44 v52 v54 v56 v58 v59 c0 x3 x4 x5 ⟨k, h⟩
        (accO arg1 v18 v25 v32 v39 v44 v52 v54 v56 v58 v59 c0 x3 x4 x5 o k)
    else accO arg1 v18 v25 v32 v39 v44 v52 v54 v56 v58 v59 c0 x3 x4 x5 o k

set_option maxHeartbeats 4000000 in
theorem trip (𝒱 : Variants) (c : Dev nD) (bd : Option 𝒱.V) (E : Set ℕ) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1x1024x2048 .bf16) (harg5 : arg5.IsWhole) (arg6 : Memref sig .tc .vmem S1x1024x2048 .bf16) (harg6 : arg6.IsWhole) (arg7 : Memref sig .tc .vmem S1x2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S1024x128 .f32) (harg14 : arg14.IsWhole) (arg1 : BitVec 32)
    (v18 v25 : FVec F S1x1024 .f32) (v32 v39 : FVec F S1024x1 .f32) (v44 : BitVec 32) (hw : k0_chk1 v44)
    (v52 : FVec F S1024x384 .bf16) (v54 : FVec F S1024x1024 .bf16) (v56 : FVec F S128x1024 .f32) (v58 : FVec F S1024x128 .f32)
    (v59 : IVec S128x128 32) (c0 : BitVec 32) (X5 : BufTy.Contents (Elt F) arg5.view.ty) (X6 : BufTy.Contents (Elt F) arg6.view.ty)
    (X7 : BufTy.Contents (Elt F) arg7.view.ty) (f : BufTy.Contents (Elt F) arg10.view.ty) (k : Fin (k0_t1_loop v44).trips) :
    (iprop((arg5.view.loc (c : Thread nD τ) ↦[arg5.view.set]{fullShare} X5) ∗ (arg6.view.loc (c : Thread nD τ) ↦[arg6.view.set]{fullShare} X6)
      ∗ (arg7.view.loc (c : Thread nD τ) ↦[arg7.view.set]{fullShare} X7) ∗ (arg10.view.loc (c : Thread nD τ) ↦[arg10.view.set]{fullShare} f)) : sProp 𝕄)
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg1 v18 v25 v32 v39 v44 hw v52 v54 v56 v58 v59 c0 k PUnit.unit)
        (fun _ => iprop((arg5.view.loc (c : Thread nD τ) ↦[arg5.view.set]{fullShare} X5) ∗ (arg6.view.loc (c : Thread nD τ) ↦[arg6.view.set]{fullShare} X6)
          ∗ (arg7.view.loc (c : Thread nD τ) ↦[arg7.view.set]{fullShare} X7)
          ∗ (∃ f', (arg10.view.loc (c : Thread nD τ) ↦[arg10.view.set]{fullShare} f')
              ∗ ⌜arg10.view.read (Elt F) f' = stepO arg1 v18 v25 v32 v39 v44 v52 v54 v56 v58 v59 c0 (arg5.view.read (Elt F) X5)
                  (arg6.view.read (Elt F) X6) (arg7.view.read (Elt F) X7) k (arg10.view.read (Elt F) f)⌝))) := by
  unfold k0_t1_body
  iintro ⟨H5, H6, H7, HW⟩
  simp only [k0_part1_eq_skeleton, k0_part2_eq_skeleton, k0_part3_eq_skeleton, k0_part4_eq_skeleton, k0_part5_eq_skeleton]
  sl_exec
  sl_step
  isplitl [H5]; · iexact H5
  isplitl [H6]; · iexact H6
  isplitl [H7]; · iexact H7
  iexists _; isplitl [HW]; · iexact HW
  ipureintro
  rw [View.read_writes_full, ← View.readAt_full arg5.view X5 inb_S1x1024x2048_S1x1024x2048_0_0_0,
    ← View.readAt_full arg6.view X6 inb_S1x1024x2048_S1x1024x2048_0_0_0,
    ← View.readAt_full arg7.view X7 inb_S1x2048x1024_S1x2048x1024_0_0_0,
    ← View.readAt_full arg10.view f inb_S1024x1024_S1024x1024_0_0]
  rfl

/-- The stores of the trips before `k`, as one: none before the first, afterwards the whole block. -/
def accL (acc : ℕ → Vec F S1024x1024 .f32) : ℕ → List (View.Piece (Elt F) S1024x1024 .f32)
  | 0 => []
  | k + 1 => [⟨Rect.unit (s := S1024x1024) ![0, 0] S1024x1024.size inb_S1024x1024_S1024x1024_0_0, acc (k + 1)⟩]

theorem read_accL (v : View sig .tc .vmem S1024x1024 .f32) (G : v.ty.Contents (Elt F)) (acc : ℕ → Vec F S1024x1024 .f32) (k : ℕ)
    (h : acc 0 = v.read (Elt F) G) : v.read (Elt F) (v.writes (Elt F) G (accL acc k)) = acc k := by
  cases k with
  | zero => exact h.symm
  | succ k => exact View.read_writes_full v G inb_S1024x1024_S1024x1024_0_0 _ []

set_option warn.classDefReducibility false in
/-- The chunk loop by its invariant: the output block holds `accO … k` before trip `k`. -/
@[sl_loop] def loopInv (𝒱 : Variants) (c : Dev nD) (bd : Option 𝒱.V) (E : Set ℕ) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1x1024x2048 .bf16) (harg5 : arg5.IsWhole) (arg6 : Memref sig .tc .vmem S1x1024x2048 .bf16) (harg6 : arg6.IsWhole) (arg7 : Memref sig .tc .vmem S1x2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S1024x128 .f32) (harg14 : arg14.IsWhole) (arg1 : BitVec 32)
    (v18 v25 : FVec F S1x1024 .f32) (v32 v39 : FVec F S1024x1 .f32) (v44 : BitVec 32) (hw : k0_chk1 v44)
    (v52 : FVec F S1024x384 .bf16) (v54 : FVec F S1024x1024 .bf16) (v56 : FVec F S128x1024 .f32) (v58 : FVec F S1024x128 .f32)
    (v59 : IVec S128x128 32) (c0 : BitVec 32) (X5 : BufTy.Contents (Elt F) arg5.view.ty) (X6 : BufTy.Contents (Elt F) arg6.view.ty)
    (X7 : BufTy.Contents (Elt F) arg7.view.ty) (G : BufTy.Contents (Elt F) arg10.view.ty) :
    Idealize.ShloMosaic.LoopInv (M := 𝕄) Idealize.ShloMosaic.frame (wpE (defs₀ (F := F)) 𝒱 (c : Thread nD τ) bd) E
      (k0_t1_loop v44).lb (k0_t1_loop v44).ub (k0_t1_loop v44).st (k0_t1_ok v44 hw) ()
      (k0_t1_body (F := F) i arg2 harg2 arg3 harg3 arg4 harg4 arg5 harg5 arg6 harg6 arg7 harg7 arg8 harg8 arg9 harg9 arg10 harg10 arg11 harg11 arg12 harg12 arg13 harg13 arg14 harg14 arg1 v18 v25 v32 v39 v44 hw v52 v54 v56 v58 v59 c0) where
  inv k _ := iprop((arg5.view.loc (c : Thread nD τ) ↦[arg5.view.set]{fullShare} X5) ∗ (arg6.view.loc (c : Thread nD τ) ↦[arg6.view.set]{fullShare} X6)
    ∗ (arg7.view.loc (c : Thread nD τ) ↦[arg7.view.set]{fullShare} X7)
    ∗ (∃ f, (arg10.view.loc (c : Thread nD τ) ↦[arg10.view.set]{fullShare} f)
        ∗ ⌜f = arg10.view.writes (Elt F) G (accL (accO arg1 v18 v25 v32 v39 v44 v52 v54 v56 v58 v59 c0 (arg5.view.read (Elt F) X5)
            (arg6.view.read (Elt F) X6) (arg7.view.read (Elt F) X7) (arg10.view.read (Elt F) G)) k)⌝))
  step k acc := by
    iintro ⟨H5, H6, H7, ⟨%f, HW, %hf⟩⟩
    iapply (wp_wand_r Idealize.ShloMosaic.frame (wpE (defs₀ (F := F)) 𝒱 (c : Thread nD τ) bd) E)
    isplitl [H5 H6 H7 HW]
    · iapply (trip 𝒱 c bd E i arg2 harg2 arg3 harg3 arg4 harg4 arg5 harg5 arg6 harg6 arg7 harg7 arg8 harg8 arg9 harg9 arg10 harg10 arg11 harg11 arg12 harg12 arg13 harg13 arg14 harg14 arg1 v18 v25 v32 v39 v44 hw v52 v54 v56 v58 v59 c0 X5 X6 X7 f k)
      isplitl [H5]; · iexact H5
      isplitl [H6]; · iexact H6
      isplitl [H7]; · iexact H7
      iexact HW
    · iintro %_ ⟨H5, H6, H7, ⟨%f', HW, %hf'⟩⟩
      isplitl [H5]; · iexact H5
      isplitl [H6]; · iexact H6
      isplitl [H7]; · iexact H7
      iexists _; isplitl [HW]; · iexact HW
      ipureintro
      refine harg10.read_bijective.1 ?_
      rw [hf', hf, read_accL _ _ _ _ rfl, read_accL _ _ _ _ rfl]
      rw [accO, dif_pos k.isLt]

end Cert.Moe

end
-- ==== Proof.Run.lean ====
/-
  One grid point.

  `o'`, `tri'`, `mem'`, `rank'`, `rankT'` are what a point leaves in the output block and the four scratch blocks, as functions of
  the point, its input blocks, and what the point before left. `run` is the body's triple at these.
-/
module

public import proofs.«01_k».proof.Proof.Steps

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The first point of the grid: both coordinates are zero. -/
abbrev first (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The first group of a tile. -/
abbrev opens (i : grid0.Coords) : Prop :=
  Scalar.cmpi .ne (Scalar.extui (Scalar.cmpi .eq (BitVec.ofNat 32 (i 1).val) 0#32)) 0#32 = 1#1
/-- The last group of a tile. -/
abbrev closes (i : grid0.Coords) : Prop :=
  Scalar.cmpi .ne (Scalar.extui (Scalar.cmpi .eq (BitVec.ofNat 32 (i 1).val) 3#32)) 0#32 = 1#1

/-- The strict triangle of ones, stored at the first point. -/
def tri' (i : grid0.Coords) (tri : Vec F S1024x1024 .bf16) : Vec F S1024x1024 .bf16 := if first i then k0_pay50 (F := F) else tri
/-- Which rows are in which group. -/
def mem' (i : grid0.Coords) (x2 : Vec F S1024x128 .f32) (mem : Vec F S8x1024 .f32) : Vec F S8x1024 .f32 :=
  if opens i then k0_pay55 x2 else mem
/-- How many earlier rows of the tile are in the group. -/
def rank' (i : grid0.Coords) (x2 : Vec F S1024x128 .f32) (tri : Vec F S1024x1024 .bf16) (rank : Vec F S8x1024 .f32) : Vec F S8x1024 .f32 :=
  if opens i then k0_pay56 x2 (tri' i tri) else rank
/-- The same, by rows. -/
def rankT' (i : grid0.Coords) (x2 : Vec F S1024x128 .f32) (tri : Vec F S1024x1024 .bf16) (rankT : Vec F S1024x128 .f32) : Vec F S1024x128 .f32 :=
  if opens i then k0_pay57 x2 (tri' i tri) else rankT

/-- The count of a group's rows, as a word. -/
abbrev count (i : grid0.Coords) (mem : Vec F S8x1024 .f32) : BitVec 32 := Scalar.fptosi 32 (k0_pay63 (k0_pay58 i mem))

/-- The output block before trip `k` of the point's chunk loop. -/
abbrev chunks (i : grid0.Coords) (x0 : Vec F S1024x1024 .bf16) (x2 : Vec F S1024x128 .f32) (x3 x4 : Vec F S1x1024x2048 .bf16)
    (x5 : Vec F S1x2048x1024 .bf16) (mem rank : Vec F S8x1024 .f32) (rankT : Vec F S1024x128 .f32) (o : Vec F S1024x1024 .f32) :
    ℕ → Vec F S1024x1024 .f32 :=
  accO (BitVec.ofNat 32 (i 1).val) (k0_pay58 i mem) (k0_pay59 i rank) (k0_pay60 i rankT) (k0_pay62 (k0_pay51 x2) (k0_pay61 i))
    (count i mem) (k0_pay64 (k0_pay51 x2)) (k0_pay65 x0) (k0_pay66 (F := F)) (k0_pay67 (F := F))
    (iota .tc S128x128 32 [1] iota_S128x128_d1_w32) 0#32 x3 x4 x5 o

/-- The output block after the point's chunk loop. -/
def mid (i : grid0.Coords) (x0 : Vec F S1024x1024 .bf16) (x2 : Vec F S1024x128 .f32) (x3 x4 : Vec F S1x1024x2048 .bf16)
    (x5 : Vec F S1x2048x1024 .bf16) (mem rank : Vec F S8x1024 .f32) (rankT : Vec F S1024x128 .f32) (o : Vec F S1024x1024 .f32) :
    Vec F S1024x1024 .f32 :=
  chunks i x0 x2 x3 x4 x5 mem rank rankT (if opens i then k0_pay52 (F := F) else o) (k0_t1_loop (count i mem)).trips

/-- The output block after the point. -/
def o' (i : grid0.Coords) (x0 : Vec F S1024x1024 .bf16) (x1 : Vec F S1024x1024 .f32) (x2 : Vec F S1024x128 .f32)
    (x3 x4 : Vec F S1x1024x2048 .bf16) (x5 : Vec F S1x2048x1024 .bf16) (x6 x7 : Vec F S1x1024 .f32)
    (mem rank : Vec F S8x1024 .f32) (rankT : Vec F S1024x128 .f32) (o : Vec F S1024x1024 .f32) : Vec F S1024x1024 .f32 :=
  if closes i then k0_pay1 x1 (mid i x0 x2 x3 x4 x5 mem rank rankT o) x6 x7 else mid i x0 x2 x3 x4 x5 mem rank rankT o

/-! ## Whole-block accesses at the kernel's shapes -/

section Whole
variable {e : EltTy}

theorem readAt_S1024x1024 (v : View sig .tc .vmem S1024x1024 e) (f : v.ty.Contents (Elt F)) :
    v.readAt (Elt F) (Rect.unit (s := S1024x1024) ![0, 0] ![1024, 1024] inb_S1024x1024_S1024x1024_0_0).toLoadRect f = v.read (Elt F) f := View.readAt_full v f inb_S1024x1024_S1024x1024_0_0
theorem read_writes_S1024x1024 (v : View sig .tc .vmem S1024x1024 e) (f : v.ty.Contents (Elt F)) (w : S1024x1024.Idx → Elt F e) (L : List (View.Piece (Elt F) S1024x1024 e)) :
    v.read (Elt F) (v.writes (Elt F) f (⟨Rect.unit (s := S1024x1024) ![0, 0] ![1024, 1024] inb_S1024x1024_S1024x1024_0_0, w⟩ :: L)) = w := View.read_writes_full v f inb_S1024x1024_S1024x1024_0_0 w L
theorem readCov_S1024x1024 (v : View sig .tc .vmem S1024x1024 e) (w : S1024x1024.Idx → Elt F e) (L : List (View.Piece (Elt F) S1024x1024 e)) :
    v.readCov (⟨Rect.unit (s := S1024x1024) ![0, 0] ![1024, 1024] inb_S1024x1024_S1024x1024_0_0, w⟩ :: L) (Rect.unit (s := S1024x1024) ![0, 0] ![1024, 1024] inb_S1024x1024_S1024x1024_0_0).toLoadRect = w :=
  View.readCov_full v inb_S1024x1024_S1024x1024_0_0 inb_S1024x1024_S1024x1024_0_0 w L

theorem readAt_S8x1024 (v : View sig .tc .vmem S8x1024 e) (f : v.ty.Contents (Elt F)) :
    v.readAt (Elt F) (Rect.unit (s := S8x1024) ![0, 0] ![8, 1024] inb_S8x1024_S8x1024_0_0).toLoadRect f = v.read (Elt F) f := View.readAt_full v f inb_S8x1024_S8x1024_0_0
theorem read_writes_S8x1024 (v : View sig .tc .vmem S8x1024 e) (f : v.ty.Contents (Elt F)) (w : S8x1024.Idx → Elt F e) (L : List (View.Piece (Elt F) S8x1024 e)) :
    v.read (Elt F) (v.writes (Elt F) f (⟨Rect.unit (s := S8x1024) ![0, 0] ![8, 1024] inb_S8x1024_S8x1024_0_0, w⟩ :: L)) = w := View.read_writes_full v f inb_S8x1024_S8x1024_0_0 w L
theorem readCov_S8x1024 (v : View sig .tc .vmem S8x1024 e) (w : S8x1024.Idx → Elt F e) (L : List (View.Piece (Elt F) S8x1024 e)) :
    v.readCov (⟨Rect.unit (s := S8x1024) ![0, 0] ![8, 1024] inb_S8x1024_S8x1024_0_0, w⟩ :: L) (Rect.unit (s := S8x1024) ![0, 0] ![8, 1024] inb_S8x1024_S8x1024_0_0).toLoadRect = w :=
  View.readCov_full v inb_S8x1024_S8x1024_0_0 inb_S8x1024_S8x1024_0_0 w L

theorem readAt_S1024x128 (v : View sig .tc .vmem S1024x128 e) (f : v.ty.Contents (Elt F)) :
    v.readAt (Elt F) (Rect.unit (s := S1024x128) ![0, 0] ![1024, 128] inb_S1024x128_S1024x128_0_0).toLoadRect f = v.read (Elt F) f := View.readAt_full v f inb_S1024x128_S1024x128_0_0
theorem read_writes_S1024x128 (v : View sig .tc .vmem S1024x128 e) (f : v.ty.Contents (Elt F)) (w : S1024x128.Idx → Elt F e) (L : List (View.Piece (Elt F) S1024x128 e)) :
    v.read (Elt F) (v.writes (Elt F) f (⟨Rect.unit (s := S1024x128) ![0, 0] ![1024, 128] inb_S1024x128_S1024x128_0_0, w⟩ :: L)) = w := View.read_writes_full v f inb_S1024x128_S1024x128_0_0 w L
theorem readCov_S1024x128 (v : View sig .tc .vmem S1024x128 e) (w : S1024x128.Idx → Elt F e) (L : List (View.Piece (Elt F) S1024x128 e)) :
    v.readCov (⟨Rect.unit (s := S1024x128) ![0, 0] ![1024, 128] inb_S1024x128_S1024x128_0_0, w⟩ :: L) (Rect.unit (s := S1024x128) ![0, 0] ![1024, 128] inb_S1024x128_S1024x128_0_0).toLoadRect = w :=
  View.readCov_full v inb_S1024x128_S1024x128_0_0 inb_S1024x128_S1024x128_0_0 w L

theorem readAt_S1x1024 (v : View sig .tc .vmem S1x1024 e) (f : v.ty.Contents (Elt F)) :
    v.readAt (Elt F) (Rect.unit (s := S1x1024) ![0, 0] ![1, 1024] inb_S1x1024_S1x1024_0_0).toLoadRect f = v.read (Elt F) f := View.readAt_full v f inb_S1x1024_S1x1024_0_0

theorem readCov_eq {s : Shape} (v : View sig .tc .vmem s e) (L : List (View.Piece (Elt F) s e)) (R : LoadRect s) :
    v.readCov L R = v.readAt (Elt F) R (v.writes (Elt F) v.junk L) := rfl

end Whole

/-- What the chunk loop leaves in the block, read back. -/
theorem read_accO (v : View sig .tc .vmem S1024x1024 .f32) (G : v.ty.Contents (Elt F)) (arg1 : BitVec 32)
    (v18 v25 : FVec F S1x1024 .f32) (v32 v39 : FVec F S1024x1 .f32) (v44 : BitVec 32)
    (v52 : FVec F S1024x384 .bf16) (v54 : FVec F S1024x1024 .bf16) (v56 : FVec F S128x1024 .f32) (v58 : FVec F S1024x128 .f32)
    (v59 : IVec S128x128 32) (c0 : BitVec 32) (x3 x4 : Vec F S1x1024x2048 .bf16) (x5 : Vec F S1x2048x1024 .bf16) (k : ℕ) :
    v.read (Elt F) (v.writes (Elt F) G (accL (accO arg1 v18 v25 v32 v39 v44 v52 v54 v56 v58 v59 c0 x3 x4 x5 (v.read (Elt F) G)) k))
      = accO arg1 v18 v25 v32 v39 v44 v52 v54 v56 v58 v59 c0 x3 x4 x5 (v.read (Elt F) G) k :=
  read_accL v G _ k rfl

theorem tri'_pos {i : grid0.Coords} (h : first i) (tri : Vec F S1024x1024 .bf16) : tri' i tri = k0_pay50 (F := F) := if_pos h
theorem tri'_neg {i : grid0.Coords} (h : ¬first i) (tri : Vec F S1024x1024 .bf16) : tri' i tri = tri := if_neg h
theorem mem'_pos {i : grid0.Coords} (h : opens i) (x2 : Vec F S1024x128 .f32) (mem : Vec F S8x1024 .f32) : mem' i x2 mem = k0_pay55 x2 := if_pos h
theorem mem'_neg {i : grid0.Coords} (h : ¬opens i) (x2 : Vec F S1024x128 .f32) (mem : Vec F S8x1024 .f32) : mem' i x2 mem = mem := if_neg h
theorem rank'_pos {i : grid0.Coords} (h : opens i) (x2 : Vec F S1024x128 .f32) (tri : Vec F S1024x1024 .bf16) (rank : Vec F S8x1024 .f32) :
    rank' i x2 tri rank = k0_pay56 x2 (tri' i tri) := if_pos h
theorem rank'_neg {i : grid0.Coords} (h : ¬opens i) (x2 : Vec F S1024x128 .f32) (tri : Vec F S1024x1024 .bf16) (rank : Vec F S8x1024 .f32) :
    rank' i x2 tri rank = rank := if_neg h
theorem rankT'_pos {i : grid0.Coords} (h : opens i) (x2 : Vec F S1024x128 .f32) (tri : Vec F S1024x1024 .bf16) (rankT : Vec F S1024x128 .f32) :
    rankT' i x2 tri rankT = k0_pay57 x2 (tri' i tri) := if_pos h
theorem rankT'_neg {i : grid0.Coords} (h : ¬opens i) (x2 : Vec F S1024x128 .f32) (tri : Vec F S1024x1024 .bf16) (rankT : Vec F S1024x128 .f32) :
    rankT' i x2 tri rankT = rankT := if_neg h
theorem o'_pos {i : grid0.Coords} (h : closes i) (x0 : Vec F S1024x1024 .bf16) (x1 : Vec F S1024x1024 .f32) (x2 : Vec F S1024x128 .f32)
    (x3 x4 : Vec F S1x1024x2048 .bf16) (x5 : Vec F S1x2048x1024 .bf16) (x6 x7 : Vec F S1x1024 .f32)
    (mem rank : Vec F S8x1024 .f32) (rankT : Vec F S1024x128 .f32) (o : Vec F S1024x1024 .f32) :
    o' i x0 x1 x2 x3 x4 x5 x6 x7 mem rank rankT o = k0_pay1 x1 (mid i x0 x2 x3 x4 x5 mem rank rankT o) x6 x7 := if_pos h
theorem o'_neg {i : grid0.Coords} (h : ¬closes i) (x0 : Vec F S1024x1024 .bf16) (x1 : Vec F S1024x1024 .f32) (x2 : Vec F S1024x128 .f32)
    (x3 x4 : Vec F S1x1024x2048 .bf16) (x5 : Vec F S1x2048x1024 .bf16) (x6 x7 : Vec F S1x1024 .f32)
    (mem rank : Vec F S8x1024 .f32) (rankT : Vec F S1024x128 .f32) (o : Vec F S1024x1024 .f32) :
    o' i x0 x1 x2 x3 x4 x5 x6 x7 mem rank rankT o = mid i x0 x2 x3 x4 x5 mem rank rankT o := if_neg h
theorem mid_pos {i : grid0.Coords} (h : opens i) (x0 : Vec F S1024x1024 .bf16) (x2 : Vec F S1024x128 .f32)
    (x3 x4 : Vec F S1x1024x2048 .bf16) (x5 : Vec F S1x2048x1024 .bf16) (mem rank : Vec F S8x1024 .f32) (rankT : Vec F S1024x128 .f32)
    (o : Vec F S1024x1024 .f32) : mid i x0 x2 x3 x4 x5 mem rank rankT o
      = chunks i x0 x2 x3 x4 x5 mem rank rankT (k0_pay52 (F := F)) (k0_t1_loop (count i mem)).trips := by unfold mid; rw [if_pos h]
theorem mid_neg {i : grid0.Coords} (h : ¬opens i) (x0 : Vec F S1024x1024 .bf16) (x2 : Vec F S1024x128 .f32)
    (x3 x4 : Vec F S1x1024x2048 .bf16) (x5 : Vec F S1x2048x1024 .bf16) (mem rank : Vec F S8x1024 .f32) (rankT : Vec F S1024x128 .f32)
    (o : Vec F S1024x1024 .f32) : mid i x0 x2 x3 x4 x5 mem rank rankT o
      = chunks i x0 x2 x3 x4 x5 mem rank rankT o (k0_t1_loop (count i mem)).trips := by unfold mid; rw [if_neg h]

set_option maxHeartbeats 4000000 in
theorem run (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x128 .f32) (harg4 : arg4.IsWhole) (arg5 : Memref sig .tc .vmem S1x1024x2048 .bf16) (harg5 : arg5.IsWhole) (arg6 : Memref sig .tc .vmem S1x1024x2048 .bf16) (harg6 : arg6.IsWhole) (arg7 : Memref sig .tc .vmem S1x2048x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .bf16) (harg11 : arg11.IsWhole) (arg12 : Memref sig .tc .vmem S8x1024 .f32) (harg12 : arg12.IsWhole) (arg13 : Memref sig .tc .vmem S8x1024 .f32) (harg13 : arg13.IsWhole) (arg14 : Memref sig .tc .vmem S1024x128 .f32) (harg14 : arg14.IsWhole) (E : Set ℕ) (K : PUnit → sProp 𝕄)
    (x0 : Vec F S1024x1024 .bf16) (x1 : Vec F S1024x1024 .f32) (x2 : Vec F S1024x128 .f32) (x3 : Vec F S1x1024x2048 .bf16)
    (x4 : Vec F S1x1024x2048 .bf16) (x5 : Vec F S1x2048x1024 .bf16) (x6 : Vec F S1x1024 .f32) (x7 : Vec F S1x1024 .f32)
    (o : Vec F S1024x1024 .f32) (tri : Vec F S1024x1024 .bf16) (mem rank : Vec F S8x1024 .f32) (rankT : Vec F S1024x128 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg10 fullShare o ∗ owns (c : Thread nD τ) arg11 fullShare tri ∗ owns (c : Thread nD τ) arg12 fullShare mem ∗ owns (c : Thread nD τ) arg13 fullShare rank ∗ owns (c : Thread nD τ) arg14 fullShare rankT
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (o' i x0 x1 x2 x3 x4 x5 x6 x7 (mem' i x2 mem) (rank' i x2 tri rank) (rankT' i x2 tri rankT) o)
            ∗ owns (c : Thread nD τ) arg11 fullShare (tri' i tri) ∗ owns (c : Thread nD τ) arg12 fullShare (mem' i x2 mem)
            ∗ owns (c : Thread nD τ) arg13 fullShare (rank' i x2 tri rank) ∗ owns (c : Thread nD τ) arg14 fullShare (rankT' i x2 tri rankT)) -∗ K ⟨⟩))
      ⊢ wp frame (wpE (defs₀ (F := F)) Variants.none c none) E (cc0_moe i arg2 harg2 arg3 harg3 arg4 harg4 arg5 harg5 arg6 harg6 arg7 harg7 arg8 harg8 arg9 harg9 arg10 harg10 arg11 harg11 arg12 harg12 arg13 harg13 arg14 harg14) K := by
  simp only [cc0_moe_eq_skeleton]; unfold cc0_moe_skel
  simp only [k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, Hk⟩
  by_cases hc0 : first i <;> by_cases hc1 : opens i <;> by_cases hc2 : closes i
  all_goals
    sl_exec (disch := first | sl_exact hc0 | sl_exact hc1 | sl_exact hc2 | exact chk _)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; swap; · iexact H8
      ipureintro
      subst hf0 hf1 hf2 hf3 hf4 hf5 hf6 hf7 hf8 hfs0 hfs1 hfs2 hfs3
      first | rw [o'_pos hc2] | rw [o'_neg hc2]
      first | rw [mid_pos hc1, mem'_pos hc1, rank'_pos hc1, rankT'_pos hc1] | rw [mid_neg hc1, mem'_neg hc1, rank'_neg hc1, rankT'_neg hc1]
      try first | rw [tri'_pos hc0] | rw [tri'_neg hc0]
      sl_unfold_run_names
      try simp only [readCov_eq, View.writes_append, readAt_S1024x1024, read_accO]
      simp only [count, chunks, readAt_S1024x1024, readAt_S8x1024, readAt_S1024x128, readAt_S1x1024, read_writes_S1024x1024, read_writes_S8x1024, read_writes_S1024x128, readCov_S1024x1024, readCov_S8x1024, readCov_S1024x128]
    isplitl [HS0]
    · iexists _; isplitr; swap; · iexact HS0
      ipureintro
      first | rw [tri'_pos hc0] | rw [tri'_neg hc0, hfs0]
      try sl_unfold_run_names
      try simp only [readAt_S1024x1024, readAt_S8x1024, readAt_S1024x128, readAt_S1x1024, read_writes_S1024x1024, read_writes_S8x1024, read_writes_S1024x128, readCov_S1024x1024, readCov_S8x1024, readCov_S1024x128]
    isplitl [HS1]
    · iexists _; isplitr; swap; · iexact HS1
      ipureintro
      subst hf2
      first | rw [mem'_pos hc1] | rw [mem'_neg hc1, hfs1]
      try sl_unfold_run_names
      try simp only [readAt_S1024x1024, readAt_S8x1024, readAt_S1024x128, readAt_S1x1024, read_writes_S1024x1024, read_writes_S8x1024, read_writes_S1024x128, readCov_S1024x1024, readCov_S8x1024, readCov_S1024x128]
    isplitl [HS2]
    · iexists _; isplitr; swap; · iexact HS2
      ipureintro
      subst hf2 hfs0
      first | rw [rank'_pos hc1] | rw [rank'_neg hc1, hfs2]
      try first | rw [tri'_pos hc0] | rw [tri'_neg hc0]
      try sl_unfold_run_names
      try simp only [readAt_S1024x1024, readAt_S8x1024, readAt_S1024x128, readAt_S1x1024, read_writes_S1024x1024, read_writes_S8x1024, read_writes_S1024x128, readCov_S1024x1024, readCov_S8x1024, readCov_S1024x128]
    iexists _; isplitr; swap; · iexact HS3
    ipureintro
    subst hf2 hfs0
    first | rw [rankT'_pos hc1] | rw [rankT'_neg hc1, hfs3]
    try first | rw [tri'_pos hc0] | rw [tri'_neg hc0]
    try sl_unfold_run_names
    try simp only [readAt_S1024x1024, readAt_S8x1024, readAt_S1024x128, readAt_S1x1024, read_writes_S1024x1024, read_writes_S8x1024, read_writes_S1024x128, readCov_S1024x1024, readCov_S8x1024, readCov_S1024x128]

end Cert.Moe

end
-- ==== Proof.Launch.lean ====
/-
  The launch.

  `stAt` is what the output block and the scratch hold after each grid point, by recursion over the points. The body's triple at
  every point gives the run of the whole program, from which the frame follows at any float model.
-/
module

public import proofs.«01_k».proof.Proof.Run
public import Idealize.ShloMosaic.Lib.Claim

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points are which -/

theorem coord0 (t : Fin cfg0.N) : (grid0.coords t 0).val = t.val / 4 := by
  have ht : t.val < 64 := Nat.lt_of_lt_of_eq t.isLt N_0
  have e0 : (grid0.coords t 0).val = t.val / 4 % 16 := Pipeline.Grid.coords_val t 0 (by decide) rfl
  omega
theorem coord1 (t : Fin cfg0.N) : (grid0.coords t 1).val = t.val % 4 := by
  have e1 : (grid0.coords t 1).val = t.val / 1 % 4 := Pipeline.Grid.coords_val t 1 (by decide) rfl
  omega
theorem first_iff (t : Fin cfg0.N) : first (grid0.coords t) ↔ t.val = 0 := by
  have ht : t.val < 64 := Nat.lt_of_lt_of_eq t.isLt N_0
  simp only [first, coord0, coord1]
  word_cmp
theorem opens_iff (t : Fin cfg0.N) : opens (grid0.coords t) ↔ t.val % 4 = 0 := by
  have ht : t.val < 64 := Nat.lt_of_lt_of_eq t.isLt N_0
  simp only [opens, coord1]
  word_cmp
theorem closes_iff (t : Fin cfg0.N) : closes (grid0.coords t) ↔ t.val % 4 = 3 := by
  have ht : t.val < 64 := Nat.lt_of_lt_of_eq t.isLt N_0
  simp only [closes, coord1]
  word_cmp

/-! ## The state after each point -/

/-- The output block and the four scratch blocks. -/
structure St (F : FTy → Type) where
  o : Vec F S1024x1024 .f32
  tri : Vec F S1024x1024 .bf16
  mem : Vec F S8x1024 .f32
  rank : Vec F S8x1024 .f32
  rankT : Vec F S1024x128 .f32

/-- What point `t` leaves, from what it finds. -/
def stepSt (c : Dev nD) (t : Fin cfg0.N) (s : St F) : St F where
  o := o' (grid0.coords t) (iblk m c 0 t) (iblk m c 1 t) (iblk m c 2 t) (iblk m c 3 t) (iblk m c 4 t) (iblk m c 5 t) (iblk m c 6 t)
    (iblk m c 7 t) (mem' (grid0.coords t) (iblk m c 2 t) s.mem) (rank' (grid0.coords t) (iblk m c 2 t) s.tri s.rank)
    (rankT' (grid0.coords t) (iblk m c 2 t) s.tri s.rankT) s.o
  tri := tri' (grid0.coords t) s.tri
  mem := mem' (grid0.coords t) (iblk m c 2 t) s.mem
  rank := rank' (grid0.coords t) (iblk m c 2 t) s.tri s.rank
  rankT := rankT' (grid0.coords t) (iblk m c 2 t) s.tri s.rankT

/-- A state to start the recursion from: the first point overwrites all of it. -/
def startSt (c : Dev nD) (t : Fin cfg0.N) : St F where
  o := k0_pay52 (F := F)
  tri := k0_pay50 (F := F)
  mem := k0_pay55 (iblk m c 2 t)
  rank := k0_pay56 (iblk m c 2 t) (k0_pay50 (F := F))
  rankT := k0_pay57 (iblk m c 2 t) (k0_pay50 (F := F))

def stAt (c : Dev nD) : (n : ℕ) → n < cfg0.N → St F
  | 0, h => stepSt m c ⟨0, h⟩ (startSt m c ⟨0, h⟩)
  | n + 1, h => stepSt m c ⟨n + 1, h⟩ (stAt c n (Nat.lt_of_succ_lt h))

theorem stAt_pos (c : Dev nD) (t : Fin cfg0.N) (h : t.val ≠ 0) :
    stAt m c t.val t.isLt = stepSt m c t (stAt m c (t.val - 1) (by omega)) := by
  obtain ⟨n, hn⟩ := t
  cases n with
  | zero => exact absurd rfl h
  | succ n => rfl

/-- At a tile's first group only the triangle survives of what a point finds. -/
theorem stepSt_opens (c : Dev nD) (t : Fin cfg0.N) (h : t.val % 4 = 0) (s s' : St F) (e : s.tri = s'.tri) :
    stepSt m c t s = stepSt m c t s' := by
  have ho := (opens_iff t).mpr h
  unfold stepSt
  rw [e, mem'_pos ho, mem'_pos ho, rank'_pos ho, rank'_pos ho, rankT'_pos ho, rankT'_pos ho]
  unfold o' mid
  rw [if_pos ho, if_pos ho]

/-- At the first point nothing does. -/
theorem stepSt_first (c : Dev nD) (t : Fin cfg0.N) (h : t.val = 0) (s s' : St F) : stepSt m c t s = stepSt m c t s' := by
  have hf := (first_iff t).mpr h
  have ho := (opens_iff t).mpr (by omega)
  unfold stepSt
  rw [mem'_pos ho, mem'_pos ho, rank'_pos ho, rank'_pos ho, rankT'_pos ho, rankT'_pos ho, tri'_pos hf, tri'_pos hf]
  unfold o' mid
  rw [if_pos ho, if_pos ho]

/-! ## The invariant and the pipeline's proof data -/

abbrev st0 (t : Fin cfg0.N) : Memref sig .tc .vmem S1024x1024 .bf16 := win0_0.stage (cfg0.slots t 0)
abbrev st1 (t : Fin cfg0.N) : Memref sig .tc .vmem S1024x1024 .f32 := win0_1.stage (cfg0.slots t 1)
abbrev st2 (t : Fin cfg0.N) : Memref sig .tc .vmem S1024x128 .f32 := win0_2.stage (cfg0.slots t 2)
abbrev st3 (t : Fin cfg0.N) : Memref sig .tc .vmem S1x1024x2048 .bf16 := win0_3.stage (cfg0.slots t 3)
abbrev st4 (t : Fin cfg0.N) : Memref sig .tc .vmem S1x1024x2048 .bf16 := win0_4.stage (cfg0.slots t 4)
abbrev st5 (t : Fin cfg0.N) : Memref sig .tc .vmem S1x2048x1024 .bf16 := win0_5.stage (cfg0.slots t 5)
abbrev st6 (t : Fin cfg0.N) : Memref sig .tc .vmem S1x1024 .f32 := win0_6.stage (cfg0.slots t 6)
abbrev st7 (t : Fin cfg0.N) : Memref sig .tc .vmem S1x1024 .f32 := win0_7.stage (cfg0.slots t 7)
abbrev st8 (t : Fin cfg0.N) : Memref sig .tc .vmem S1024x1024 .f32 := win0_8.stage (cfg0.slots t 8)
abbrev hst0 (t : Fin cfg0.N) : (st0 t).IsWhole := hstage0_0 ((cfg0.slots t 0).cast nbuf0_0)
abbrev hst1 (t : Fin cfg0.N) : (st1 t).IsWhole := hstage0_1 ((cfg0.slots t 1).cast nbuf0_1)
abbrev hst2 (t : Fin cfg0.N) : (st2 t).IsWhole := hstage0_2 ((cfg0.slots t 2).cast nbuf0_2)
abbrev hst3 (t : Fin cfg0.N) : (st3 t).IsWhole := hstage0_3 ((cfg0.slots t 3).cast nbuf0_3)
abbrev hst4 (t : Fin cfg0.N) : (st4 t).IsWhole := hstage0_4 ((cfg0.slots t 4).cast nbuf0_4)
abbrev hst5 (t : Fin cfg0.N) : (st5 t).IsWhole := hstage0_5 ((cfg0.slots t 5).cast nbuf0_5)
abbrev hst6 (t : Fin cfg0.N) : (st6 t).IsWhole := hstage0_6 ((cfg0.slots t 6).cast nbuf0_6)
abbrev hst7 (t : Fin cfg0.N) : (st7 t).IsWhole := hstage0_7 ((cfg0.slots t 7).cast nbuf0_7)
abbrev hst8 (t : Fin cfg0.N) : (st8 t).IsWhole := hstage0_8 ((cfg0.slots t 8).cast nbuf0_8)
abbrev sc0 : Memref sig .tc .vmem S1024x1024 .bf16 := Memref.whole cc0_scratch0
abbrev sc1 : Memref sig .tc .vmem S8x1024 .f32 := Memref.whole cc0_scratch1
abbrev sc2 : Memref sig .tc .vmem S8x1024 .f32 := Memref.whole cc0_scratch2
abbrev sc3 : Memref sig .tc .vmem S1024x128 .f32 := Memref.whole cc0_scratch3

theorem phiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The scratch at a state. -/
def scr (c : Dev nD) (s : St F) : sProp 𝕄 :=
  iprop(iprop(owns (c : Thread nD τ) sc0 fullShare s.tri ∗ owns (c : Thread nD τ) sc1 fullShare s.mem ∗ owns (c : Thread nD τ) sc2 fullShare s.rank ∗ owns (c : Thread nD τ) sc3 fullShare s.rankT) ∗ (∃ r, prngReg c r))

/-- Before point `n`: the scratch at anything before the first, at what the point before left afterwards. -/
def PhiS (c : Dev nD) : (n : ℕ) → n ≤ cfg0.N → sProp 𝕄
  | 0, _ => Pipeline.ΦA spec0 c
  | n + 1, hn => scr c (stAt m c n hn)

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = scr c (stAt m c n hn) := rfl
theorem PhiS_pos (c : Dev nD) (n : ℕ) (h : n ≤ cfg0.N) (hz : n ≠ 0) : PhiS m c n h = scr c (stAt m c (n - 1) (by omega)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stAt m c t.val t.isLt).o
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (stAt m c t.val t.isLt).o := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Past a tile's first group the output's buffer holds what the point before left. -/
theorem before_8 (c : Dev nD) (t : Fin cfg0.N) (h : ¬t.val % 4 = 0) (d) :
    (dats m 0 c).before 8 t d = (stAt m c (t.val - 1) (Nat.lt_of_le_of_lt (Nat.sub_le _ _) t.isLt)).o := by
  have hN : t.val < 64 := lt_of_lt_of_eq t.isLt (show cfg0.N = 64 from N_0)
  rw [Dat.before_out_kept _ 8 rfl t (by omega) (Bool.eq_false_iff.mpr fun h' => by have := (flush0_8 _).mp h'; dsimp only at this; omega)
    (fun _ => rfl) (fun _ _ => rfl)]
  dsimp only [dats]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t))

/-- The body at a point that finds the state `s`. -/
theorem sound_at (c : Dev nD) (t : Fin cfg0.N) (s : St F) (hs : stepSt m c t s = stAt m c t.val t.isLt) :
    iprop(scr c s ∗ (dats m 0 c).owesAt () t.castSucc ∗ owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare (iblk m c 6 t) ∗ owns (c : Thread nD τ) (st7 t) fullShare (iblk m c 7 t) ∗ owns (c : Thread nD τ) (st8 t) fullShare s.o)
      ⊢ wp frame (wpE (defs₀ (F := F)) Variants.none c none) Set.univ (bodyAt0 t) (fun _ => bodyPost m c t) := by
  unfold bodyPost bodyAt0
  rw [show (dats m 0 c).owesAt () t.succ = (dats m 0 c).owesAt () t.castSucc from rfl,
    after_0, after_1, after_2, after_3, after_4, after_5, after_6, after_7, after_8]
  rw [show (dats m 0 c).Φ t.succ = PhiS m c (t.val + 1) t.isLt from rfl, PhiS_succ, ← hs]
  unfold scr
  iintro ⟨⟨⟨HS0, HS1, HS2, HS3⟩, Hg⟩, Ho, H0, H1, H2, H3, H4, H5, H6, H7, H8⟩
  iapply (run c (grid0.coords t) _ (hst0 t) _ (hst1 t) _ (hst2 t) _ (hst3 t) _ (hst4 t) _ (hst5 t) _ (hst6 t) _ (hst7 t) _ (hst8 t)
    _ (Memref.isWhole_whole _) _ (Memref.isWhole_whole _) _ (Memref.isWhole_whole _) _ (Memref.isWhole_whole _) Set.univ _
    (iblk m c 0 t) (iblk m c 1 t) (iblk m c 2 t) (iblk m c 3 t) (iblk m c 4 t) (iblk m c 5 t) (iblk m c 6 t) (iblk m c 7 t)
    s.o s.tri s.mem s.rank s.rankT)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  unfold bodyPre
  simp only [before_0, before_1, before_2, before_3, before_4, before_5, before_6, before_7]
  rw [PhiS_castSucc m c t]
  by_cases hz : t.val = 0
  · have key : ∀ s, stepSt m c t s = stAt m c t.val t.isLt := fun s => by
      obtain ⟨n, hn⟩ := t
      obtain rfl : n = 0 := hz
      exact stepSt_first m c _ rfl _ _
    rw [PhiS_zero m c _ _ hz, phiA_eq]
    iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_at m c t ⟨(dats m 0 c).before 8 t d8, s0, s1, s2, s3⟩ (key _))
    isplitl [HS0 HS1 HS2 HS3 Hg]
    · unfold scr
      isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS_pos m c _ _ hz]
    have key := (stAt_pos m c t hz).symm
    by_cases h4 : t.val % 4 = 0
    · generalize stAt m c (t.val - 1) _ = s at key ⊢
      have key' (o : Vec F S1024x1024 .f32) : stepSt m c t ⟨o, s.tri, s.mem, s.rank, s.rankT⟩ = stAt m c t.val t.isLt := by
        rw [← key]
        exact stepSt_opens m c t h4 ⟨o, s.tri, s.mem, s.rank, s.rankT⟩ s rfl
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_at m c t ⟨(dats m 0 c).before 8 t d8, s.tri, s.mem, s.rank, s.rankT⟩ (key' _))
      isplitl [HS]; · unfold scr; iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · simp only [before_8 m c t h4]
      generalize stAt m c (t.val - 1) _ = s at key ⊢
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_at m c t s key)
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), phiA_eq]
  unfold scr
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The run -/

set_option backward.isDefEq.respectTransparency.types false in
/-- The whole program: the arrays end at what the proof data says, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The result's array after the run. -/
theorem out_of_post {r : PUnit × MemSt nD τ sig (Elt F)} (h : Pipeline.FramePost cfgs (dats m) 0 (V m) r) (c : Dev nD) :
    r.2.mem ((c.tc : Thread nD τ).loc main_v20) = (dats m 0 c).arrAt 8 cfg0.N := by
  have hc := h c
  frame_read hc

theorem frame : θ_run defs (onTc (τ := τ) (main (F := F))) ⟨m, fun _ => 0, ρ⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.Moe

end
-- ==== Proof.Ref.lean ====
/-
  The reference's run.

  The reference is a straight line of tensor operations. `expected` writes its result as a function of the arguments, in the
  parts the mathematics has: the groups' masks, the experts of one group, the sum over the groups, the layer norm.
-/
module

public import proofs.«01_k».proof.Proof.Gen.ReferenceIdeal
public import Idealize.ShloMosaic.Lib.StableHlo.Run

@[expose] public section

noncomputable section

namespace Cert.Moe.Ref

open Cert.ReferenceIdeal Cert.ReferenceIdeal.Gen Idealize.ShloMosaic Idealize.ShloMosaic.TcCoe Idealize.SL.Sem Idealize.ShloMosaic.StableHlo

variable {F : FTy → Type} [FloatOps F]

/-- Each token's group as a row of zeros and a one. -/
def mask (g : Vec F S16384 .i32) : Vec F S16384x4 .f32 :=
  uitofp .f32 (cmpi .eq (broadcastInDim S16384x4 ![0, 1] bcast_S16384x1_S16384x4_0_1 (broadcastInDim S16384x1 ![0] bcast_S16384_S16384x1_0 g))
    (broadcastInDim S16384x4 ![0, 1] bcast_S1x4_S16384x4_0_1 (iotaInDim S1x4 32 1)))

/-- The gates of a group's experts, at zero for the tokens outside the group. -/
def gates (comb : Vec F S16384x8 .f32) (col : Vec F S16384x1 .f32) : Vec F S16384x8 .f32 :=
  mulf comb (broadcastInDim S16384x8 ![0, 1] bcast_S16384x1_S16384x8_0_1 col)

/-- `x · sigmoid x`. -/
def silu (x : Vec F S16384x8x256 .f32) : Vec F S16384x8x256 .f32 :=
  mulf x (Host.divf (broadcastInDim S16384x8x256 ![] bcast_S_S16384x8x256 (constant S_ .f32 0x3F800000#32))
    (addf (broadcastInDim S16384x8x256 ![] bcast_S_S16384x8x256 (constant S_ .f32 0x3F800000#32)) (Host.exp (Host.negf x))))

/-- One of the two projections into a group's experts. -/
def proj (h : Vec F S16384x1024 .f32) (w : Vec F S1x8x1024x256 .f32) : Vec F S16384x8x256 .f32 :=
  Host.dotGeneral dot_S16384x1024_S8x1024x256_S16384x8x256_1_1_0_02_n_n none h (shapeCast S8x1024x256 w shapeCasts_S1x8x1024x256_S8x1024x256)

/-- A group's contribution to every token. -/
def group (h : Vec F S16384x1024 .f32) (cw : Vec F S16384x8 .f32) (wg wu : Vec F S1x8x1024x256 .f32) (wd : Vec F S1x8x256x1024 .f32) :
    Vec F S16384x1024 .f32 :=
  Host.dotGeneral dot_S16384x8x256_S8x256x1024_S16384x1024_12_01_0_2_n_n none
    (mulf (mulf (silu (proj h wg)) (proj h wu))
      (broadcastInDim S16384x8x256 ![0, 1, 2] bcast_S16384x8x1_S16384x8x256_0_1_2
        (broadcastInDim S16384x8x1 ![0, 1] bcast_S16384x8_S16384x8x1_0_1 cw)))
    (shapeCast S8x256x1024 wd shapeCasts_S1x8x256x1024_S8x256x1024)

/-- The residual sum. -/
def resid (h y : Vec F S16384x1024 .f32) : Vec F S16384x1024 .f32 :=
  addf (mulf (broadcastInDim S16384x1024 ![] bcast_S_S16384x1024 (constant S_ .f32 0x3F9837F0#32)) h) y

/-- A row's mean. -/
def mean (x : Vec F S16384x1024 .f32) : Vec F S16384x1 .f32 :=
  Host.divf (broadcastInDim S16384x1 ![0] bcast_S16384_S16384x1_0
      (Host.reduceAdd x (constant S_ .f32 0x00000000#32) reducesTo_S16384x1024_S16384_d1 h_S_))
    (broadcastInDim S16384x1 ![] bcast_S_S16384x1 (constant S_ .f32 0x44800000#32))

/-- A row less its mean. -/
def centred (x : Vec F S16384x1024 .f32) : Vec F S16384x1024 .f32 :=
  subf x (broadcastInDim S16384x1024 ![0, 1] bcast_S16384x1_S16384x1024_0_1 (mean x))

/-- Layer norm over the rows. -/
def norm (x : Vec F S16384x1024 .f32) (g b : Vec F S1024 .f32) : Vec F S16384x1024 .f32 :=
  addf (mulf (mulf (centred x) (broadcastInDim S16384x1024 ![0, 1] bcast_S16384x1_S16384x1024_0_1
      (Host.rsqrt (addf (mean (mulf (centred x) (centred x))) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

/-- The four groups summed. -/
def mixture (h : Vec F S16384x1024 .f32) (comb : Vec F S16384x8 .f32) (g : Vec F S16384 .i32) (wg wu : Vec F S4x8x1024x256 .f32)
    (wd : Vec F S4x8x256x1024 .f32) : Vec F S16384x1024 .f32 :=
  addf (addf (addf (addf (broadcastInDim S16384x1024 ![] bcast_S_S16384x1024 (constant S_ .f32 0x00000000#32))
    (group h (gates comb (extractStridedSlice S16384x1 ![0, 0] (mask g) slices_S16384x4_S16384x1_0_0))
      (extractStridedSlice S1x8x1024x256 ![0, 0, 0, 0] wg slices_S4x8x1024x256_S1x8x1024x256_0_0_0_0)
      (extractStridedSlice S1x8x1024x256 ![0, 0, 0, 0] wu slices_S4x8x1024x256_S1x8x1024x256_0_0_0_0)
      (extractStridedSlice S1x8x256x1024 ![0, 0, 0, 0] wd slices_S4x8x256x1024_S1x8x256x1024_0_0_0_0)))
    (group h (gates comb (extractStridedSlice S16384x1 ![0, 1] (mask g) slices_S16384x4_S16384x1_0_1))
      (extractStridedSlice S1x8x1024x256 ![1, 0, 0, 0] wg slices_S4x8x1024x256_S1x8x1024x256_1_0_0_0)
      (extractStridedSlice S1x8x1024x256 ![1, 0, 0, 0] wu slices_S4x8x1024x256_S1x8x1024x256_1_0_0_0)
      (extractStridedSlice S1x8x256x1024 ![1, 0, 0, 0] wd slices_S4x8x256x1024_S1x8x256x1024_1_0_0_0)))
    (group h (gates comb (extractStridedSlice S16384x1 ![0, 2] (mask g) slices_S16384x4_S16384x1_0_2))
      (extractStridedSlice S1x8x1024x256 ![2, 0, 0, 0] wg slices_S4x8x1024x256_S1x8x1024x256_2_0_0_0)
      (extractStridedSlice S1x8x1024x256 ![2, 0, 0, 0] wu slices_S4x8x1024x256_S1x8x1024x256_2_0_0_0)
      (extractStridedSlice S1x8x256x1024 ![2, 0, 0, 0] wd slices_S4x8x256x1024_S1x8x256x1024_2_0_0_0)))
    (group h (gates comb (extractStridedSlice S16384x1 ![0, 3] (mask g) slices_S16384x4_S16384x1_0_3))
      (extractStridedSlice S1x8x1024x256 ![3, 0, 0, 0] wg slices_S4x8x1024x256_S1x8x1024x256_3_0_0_0)
      (extractStridedSlice S1x8x1024x256 ![3, 0, 0, 0] wu slices_S4x8x1024x256_S1x8x1024x256_3_0_0_0)
      (extractStridedSlice S1x8x256x1024 ![3, 0, 0, 0] wd slices_S4x8x256x1024_S1x8x256x1024_3_0_0_0))

/-- The whole result. -/
def expected (h : Vec F S16384x1024 .f32) (comb : Vec F S16384x8 .f32) (g : Vec F S16384 .i32) (wg wu : Vec F S4x8x1024x256 .f32)
    (wd : Vec F S4x8x256x1024 .f32) (lg lb : Vec F S1024 .f32) : Vec F S16384x1024 .f32 :=
  norm (resid h (mixture h comb g wg wu wd)) lg lb

/-- The operations in order, the called functions' in their calls' places. -/
abbrev ops : List (HloOp τ sig (Elt F)) :=
  [ TRef.unary (TRef.of (T := ⟨S16384, .i32⟩) main_arg2) (TRef.of (T := ⟨S16384x1, .i32⟩) main_call0_v0) (broadcastInDim S16384x1 ![0] bcast_S16384_S16384x1_0),
    TRef.nullary (TRef.of (T := ⟨S1x4, .i32⟩) main_call0_v1) (iotaInDim S1x4 32 1),
    TRef.unary (TRef.of (T := ⟨S16384x1, .i32⟩) main_call0_v0) (TRef.of (T := ⟨S16384x4, .i32⟩) main_call0_v2) (broadcastInDim S16384x4 ![0, 1] bcast_S16384x1_S16384x4_0_1),
    TRef.unary (TRef.of (T := ⟨S1x4, .i32⟩) main_call0_v1) (TRef.of (T := ⟨S16384x4, .i32⟩) main_call0_v3) (broadcastInDim S16384x4 ![0, 1] bcast_S1x4_S16384x4_0_1),
    TRef.binary (TRef.of (T := ⟨S16384x4, .i32⟩) main_call0_v2) (TRef.of (T := ⟨S16384x4, .i32⟩) main_call0_v3) (TRef.of (T := ⟨S16384x4, .i1⟩) main_call0_v4) (cmpi .eq),
    TRef.unary (TRef.of (T := ⟨S16384x4, .i1⟩) main_call0_v4) (TRef.of (T := ⟨S16384x4, .f32⟩) main_v0) (uitofp .f32),
    nullary main_cst (constant S_ .f32 0x00000000#32),
    unary main_cst main_v1 (broadcastInDim S16384x1024 ![] bcast_S_S16384x1024 : (⟨S_, .f32⟩ : BufTy).Contents (Elt F) → (⟨S16384x1024, .f32⟩ : BufTy).Contents (Elt F)),
    unary main_v0 main_v2 ((extractStridedSlice S16384x1 ![0, 0] · slices_S16384x4_S16384x1_0_0) : (⟨S16384x4, .f32⟩ : BufTy).Contents (Elt F) → (⟨S16384x1, .f32⟩ : BufTy).Contents (Elt F)),
    unary main_v2 main_v3 (broadcastInDim S16384x8 ![0, 1] bcast_S16384x1_S16384x8_0_1 : (⟨S16384x1, .f32⟩ : BufTy).Contents (Elt F) → (⟨S16384x8, .f32⟩ : BufTy).Contents (Elt F)),
    binary main_arg1 main_v3 main_v4 (mulf : (⟨S16384x8, .f32⟩ : BufTy).Contents (Elt F) → (⟨S16384x8, .f32⟩ : BufTy).Contents (Elt F) → (⟨S16384x8, .f32⟩ : BufTy).Contents (Elt F)),
    unary main_arg3 main_v5 ((extractStridedSlice S1x8x1024x256 ![0, 0, 0, 0] · slices_S4x8x1024x256_S1x8x1024x256_0_0_0_0) : (⟨S4x8x1024x256, .f32⟩ : BufTy).Contents (Elt F) → (⟨S1x8x1024x256, .f32⟩ : BufTy).Contents (Elt F)),
    reshape main_v5 main_v6 (rfl : (.f32 : EltTy) = .f32) shapeCasts_S1x8x1024x256_S8x1024x256,
    binary main_arg0 main_v6 main_v7 ((fun l r => Host.dotGeneral dot_S16384x1024_S8x1024x256_S16384x8x256_1_1_0_02_n_n none l r) : (⟨S16384x1024, .f32⟩ : BufTy).Contents (Elt F) → (⟨S8x1024x256, .f32⟩ : BufTy).Contents (Elt F) → (⟨S16384x8x256, .f32⟩ : BufTy).Contents (Elt F)),
    TRef.unary (TRef.of (T := ⟨S16384x8x256, .f32⟩) main_v7) (TRef.of (T := ⟨S16384x8x256, .f32⟩) main_call1_v0) Host.negf,
    TRef.unary (TRef.of (T := ⟨S16384x8x256, .f32⟩) main_call1_v0) (TRef.of (T := ⟨S16384x8x256, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S16384x8x256, .f32⟩) main_call1_v2) (broadcastInDim S16384x8x256 ![] bcast_S_S16384x8x256),
    TRef.binary (TRef.of (T := ⟨S16384x8x256, .f32⟩) main_call1_v2) (TRef.of (T := ⟨S16384x8x256, .f32⟩) main_call1_v1) (TRef.of (T := ⟨S16384x8x256, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S16384x8x256, .f32⟩) main_call1_v4) (broadcastInDim S16384x8x256 ![] bcast_S_S16384x8x256),
    TRef.binary (TRef.of (T := ⟨S16384x8x256, .f32⟩) main_call1_v4) (TRef.of (T := ⟨S16384x8x256, .f32⟩) main_call1_v3) (TRef.of (T := ⟨S16384x8x256, .f32⟩) main_call1_v5) Host.divf,
    TRef.binary (TRef.of (T := ⟨S16384x8x256, .f32⟩) main_v7) (TRef.of (T := ⟨S16384x8x256, .f32⟩) main_call1_v5) (TRef.of (T := ⟨S16384x8x256, .f32⟩) main_v8) mulf,
    unary main_arg4 main_v9 ((extractStridedSlice S1x8x1024x256 ![0, 0, 0, 0] · slices_S4x8x1024x256_S1x8x1024x256_0_0_0_0) : (⟨S4x8x1024x256, .f32⟩ : BufTy).Contents (Elt F) → (⟨S1x8x1024x256, .f32⟩ : BufTy).Contents (Elt F)),
    reshape main_v9 main_v10 (rfl : (.f32 : EltTy) = .f32) shapeCasts_S1x8x1024x256_S8x1024x256,
    binary main_arg0 main_v10 main_v11 ((fun l r => Host.dotGeneral dot_S16384x1024_S8x1024x256_S16384x8x256_1_1_0_02_n_n none l r) : (⟨S16384x1024, .f32⟩ : BufTy).Contents (Elt F) → (⟨S8x1024x256, .f32⟩ : BufTy).Contents (Elt F) → (⟨S16384x8x256, .f32⟩ : BufTy).Contents (Elt F)),
    binary main_v8 main_v11 main_v12 (mulf : (⟨S16384x8x256, .f32⟩ : BufTy).Contents (Elt F) → (⟨S16384x8x256, .f32⟩ : BufTy).Contents (Elt F) → (⟨S16384x8x256, .f32⟩ : BufTy).Contents (Elt F)),
    unary main_v4 main_v13 (broadcastInDim S16384x8x1 ![0, 1] bcast_S16384x8_S16384x8x1_0_1 : (⟨S16384x8, .f32⟩ : BufTy).Contents (Elt F) → (⟨S16384x8x1, .f32⟩ : BufTy).Contents (Elt F)),
    unary main_v13 main_v14 (broadcastInDim S16384x8x256 ![0, 1, 2] bcast_S16384x8x1_S16384x8x256_0_1_2 : (⟨S16384x8x1, .f32⟩ : BufTy).Contents (Elt F) → (⟨S16384x8x256, .f32⟩ : BufTy).Contents (Elt F)),
    binary main_v12 main_v14 main_v15 (mulf : (⟨S16384x8x256, .f32⟩ : BufTy).Contents (Elt F) → (⟨S16384x8x256, .f32⟩ : BufTy).Contents (Elt F) → (⟨S16384x8x256, .f32⟩ : BufTy).Contents (Elt F)),
    unary main_arg5 main_v16 ((extractStridedSlice S1x8x256x1024 ![0, 0, 0, 0] · slices_S4x8x256x1024_S1x8x256x1024_0_0_0_0) : (⟨S4x8x256x1024, .f32⟩ : BufTy).Contents (Elt F) → (⟨S1x8x256x1024, .f32⟩ : BufTy).Contents (Elt F)),
    reshape main_v16 main_v17 (rfl : (.f32 : EltTy) = .f32) shapeCasts_S1x8x256x1024_S8x256x1024,
    binary main_v15 main_v17 main_v18 ((fun l r => Host.dotGeneral dot_S16384x8x256_S8x256x1024_S16384x1024_12_01_0_2_n_n none l r) : (⟨S16384x8x256, .f32⟩ : BufTy).Contents (Elt F) → (⟨S8x256x1024, .f32⟩ : BufTy).Contents (Elt F) → (⟨S16384x1024, .f32⟩ : BufTy).Contents (Elt F)),
    binary main_v1 main_v18 main_v19 (addf : (⟨S16384x1024, .f32⟩ : BufTy).Contents (Elt F) → (⟨S16384x1024, .f32⟩ : BufTy).Contents (Elt F) → (⟨S16384x1024, .f32⟩ : BufTy).Contents (Elt F)),
    unary main_v0 main_v20 ((extractStridedSlice S16384x1 ![0, 1] · slices_S16384x4_S16384x1_0_1) : (⟨S16384x4, .f32⟩ : BufTy).Contents (Elt F) → (⟨S16384x1, .f32⟩ : BufTy).Contents (Elt F)),
    unary main_v20 main_v21 (broadcastInDim S16384x8 ![0, 1] bcast_S16384x1_S16384x8_0_1 : (⟨S16384x1, .f32⟩ : BufTy).Contents (Elt F) → (⟨S16384x8, .f32⟩ : BufTy).Contents (Elt F)),
    binary main_arg1 main_v21 main_v22 (mulf : (⟨S16384x8, .f32⟩ : BufTy).Contents (Elt F) → (⟨S16384x8, .f32⟩ : BufTy).Contents (Elt F) → (⟨S16384x8, .f32⟩ : BufTy).Contents (Elt F)),
    unary main_arg3 main_v23 ((extractStridedSlice S1x8x1024x256 ![1, 0, 0, 0] · slices_S4x8x1024x256_S1x8x1024x256_1_0_0_0) : (⟨S4x8x1024x256, .f32⟩ : BufTy).Contents (Elt F) → (⟨S1x8x1024x256, .f32⟩ : BufTy).Contents (Elt F)),
    reshape main_v23 main_v24 (rfl : (.f32 : EltTy) = .f32) shapeCasts_S1x8x1024x256_S8x1024x256,
    binary main_arg0 main_v24 main_v25 ((fun l r => Host.dotGeneral dot_S16384x1024_S8x1024x256_S16384x8x256_1_1_0_02_n_n none l r) : (⟨S16384x1024, .f32⟩ : BufTy).Contents (Elt F) → (⟨S8x1024x256, .f32⟩ : BufTy).Contents (Elt F) → (⟨S16384x8x256, .f32⟩ : BufTy).Contents (Elt F)),
    TRef.unary (TRef.of (T := ⟨S16384x8x256, .f32⟩) main_v25) (TRef.of (T := ⟨S16384x8x256, .f32⟩) main_call2_v0) Host.negf,
    TRef.unary (TRef.of (T := ⟨S16384x8x256, .f32⟩) main_call2_v0) (TRef.of (T := ⟨S16384x8x256, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S16384x8x256, .f32⟩) main_call2_v2) (broadcastInDim S16384x8x256 ![] bcast_S_S16384x8x256),
    TRef.binary (TRef.of (T := ⟨S16384x8x256, .f32⟩) main_call2_v2) (TRef.of (T := ⟨S16384x8x256, .f32⟩) main_call2_v1) (TRef.of (T := ⟨S16384x8x256, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S16384x8x256, .f32⟩) main_call2_v4) (broadcastInDim S16384x8x256 ![] bcast_S_S16384x8x256),
    TRef.binary (TRef.of (T := ⟨S16384x8x256, .f32⟩) main_call2_v4) (TRef.of (T := ⟨S16384x8x256, .f32⟩) main_call2_v3) (TRef.of (T := ⟨S16384x8x256, .f32⟩) main_call2_v5) Host.divf,
    TRef.binary (TRef.of (T := ⟨S16384x8x256, .f32⟩) main_v25) (TRef.of (T := ⟨S16384x8x256, .f32⟩) main_call2_v5) (TRef.of (T := ⟨S16384x8x256, .f32⟩) main_v26) mulf,
    unary main_arg4 main_v27 ((extractStridedSlice S1x8x1024x256 ![1, 0, 0, 0] · slices_S4x8x1024x256_S1x8x1024x256_1_0_0_0) : (⟨S4x8x1024x256, .f32⟩ : BufTy).Contents (Elt F) → (⟨S1x8x1024x256, .f32⟩ : BufTy).Contents (Elt F)),
    reshape main_v27 main_v28 (rfl : (.f32 : EltTy) = .f32) shapeCasts_S1x8x1024x256_S8x1024x256,
    binary main_arg0 main_v28 main_v29 ((fun l r => Host.dotGeneral dot_S16384x1024_S8x1024x256_S16384x8x256_1_1_0_02_n_n none l r) : (⟨S16384x1024, .f32⟩ : BufTy).Contents (Elt F) → (⟨S8x1024x256, .f32⟩ : BufTy).Contents (Elt F) → (⟨S16384x8x256, .f32⟩ : BufTy).Contents (Elt F)),
    binary main_v26 main_v29 main_v30 (mulf : (⟨S16384x8x256, .f32⟩ : BufTy).Contents (Elt F) → (⟨S16384x8x256, .f32⟩ : BufTy).Contents (Elt F) → (⟨S16384x8x256, .f32⟩ : BufTy).Contents (Elt F)),
    unary main_v22 main_v31 (broadcastInDim S16384x8x1 ![0, 1] bcast_S16384x8_S16384x8x1_0_1 : (⟨S16384x8, .f32⟩ : BufTy).Contents (Elt F) → (⟨S16384x8x1, .f32⟩ : BufTy).Contents (Elt F)),
    unary main_v31 main_v32 (broadcastInDim S16384x8x256 ![0, 1, 2] bcast_S16384x8x1_S16384x8x256_0_1_2 : (⟨S16384x8x1, .f32⟩ : BufTy).Contents (Elt F) → (⟨S16384x8x256, .f32⟩ : BufTy).Contents (Elt F)),
    binary main_v30 main_v32 main_v33 (mulf : (⟨S16384x8x256, .f32⟩ : BufTy).Contents (Elt F) → (⟨S16384x8x256, .f32⟩ : BufTy).Contents (Elt F) → (⟨S16384x8x256, .f32⟩ : BufTy).Contents (Elt F)),
    unary main_arg5 main_v34 ((extractStridedSlice S1x8x256x1024 ![1, 0, 0, 0] · slices_S4x8x256x1024_S1x8x256x1024_1_0_0_0) : (⟨S4x8x256x1024, .f32⟩ : BufTy).Contents (Elt F) → (⟨S1x8x256x1024, .f32⟩ : BufTy).Contents (Elt F)),
    reshape main_v34 main_v35 (rfl : (.f32 : EltTy) = .f32) shapeCasts_S1x8x256x1024_S8x256x1024,
    binary main_v33 main_v35 main_v36 ((fun l r => Host.dotGeneral dot_S16384x8x256_S8x256x1024_S16384x1024_12_01_0_2_n_n none l r) : (⟨S16384x8x256, .f32⟩ : BufTy).Contents (Elt F) → (⟨S8x256x1024, .f32⟩ : BufTy).Contents (Elt F) → (⟨S16384x1024, .f32⟩ : BufTy).Contents (Elt F)),
    binary main_v19 main_v36 main_v37 (addf : (⟨S16384x1024, .f32⟩ : BufTy).Contents (Elt F) → (⟨S16384x1024, .f32⟩ : BufTy).Contents (Elt F) → (⟨S16384x1024, .f32⟩ : BufTy).Contents (Elt F)),
    unary main_v0 main_v38 ((extractStridedSlice S16384x1 ![0, 2] · slices_S16384x4_S16384x1_0_2) : (⟨S16384x4, .f32⟩ : BufTy).Contents (Elt F) → (⟨S16384x1, .f32⟩ : BufTy).Contents (Elt F)),
    unary main_v38 main_v39 (broadcastInDim S16384x8 ![0, 1] bcast_S16384x1_S16384x8_0_1 : (⟨S16384x1, .f32⟩ : BufTy).Contents (Elt F) → (⟨S16384x8, .f32⟩ : BufTy).Contents (Elt F)),
    binary main_arg1 main_v39 main_v40 (mulf : (⟨S16384x8, .f32⟩ : BufTy).Contents (Elt F) → (⟨S16384x8, .f32⟩ : BufTy).Contents (Elt F) → (⟨S16384x8, .f32⟩ : BufTy).Contents (Elt F)),
    unary main_arg3 main_v41 ((extractStridedSlice S1x8x1024x256 ![2, 0, 0, 0] · slices_S4x8x1024x256_S1x8x1024x256_2_0_0_0) : (⟨S4x8x1024x256, .f32⟩ : BufTy).Contents (Elt F) → (⟨S1x8x1024x256, .f32⟩ : BufTy).Contents (Elt F)),
    reshape main_v41 main_v42 (rfl : (.f32 : EltTy) = .f32) shapeCasts_S1x8x1024x256_S8x1024x256,
    binary main_arg0 main_v42 main_v43 ((fun l r => Host.dotGeneral dot_S16384x1024_S8x1024x256_S16384x8x256_1_1_0_02_n_n none l r) : (⟨S16384x1024, .f32⟩ : BufTy).Contents (Elt F) → (⟨S8x1024x256, .f32⟩ : BufTy).Contents (Elt F) → (⟨S16384x8x256, .f32⟩ : BufTy).Contents (Elt F)),
    TRef.unary (TRef.of (T := ⟨S16384x8x256, .f32⟩) main_v43) (TRef.of (T := ⟨S16384x8x256, .f32⟩) main_call3_v0) Host.negf,
    TRef.unary (TRef.of (T := ⟨S16384x8x256, .f32⟩) main_call3_v0) (TRef.of (T := ⟨S16384x8x256, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S16384x8x256, .f32⟩) main_call3_v2) (broadcastInDim S16384x8x256 ![] bcast_S_S16384x8x256),
    TRef.binary (TRef.of (T := ⟨S16384x8x256, .f32⟩) main_call3_v2) (TRef.of (T := ⟨S16384x8x256, .f32⟩) main_call3_v1) (TRef.of (T := ⟨S16384x8x256, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S16384x8x256, .f32⟩) main_call3_v4) (broadcastInDim S16384x8x256 ![] bcast_S_S16384x8x256),
    TRef.binary (TRef.of (T := ⟨S16384x8x256, .f32⟩) main_call3_v4) (TRef.of (T := ⟨S16384x8x256, .f32⟩) main_call3_v3) (TRef.of (T := ⟨S16384x8x256, .f32⟩) main_call3_v5) Host.divf,
    TRef.binary (TRef.of (T := ⟨S16384x8x256, .f32⟩) main_v43) (TRef.of (T := ⟨S16384x8x256, .f32⟩) main_call3_v5) (TRef.of (T := ⟨S16384x8x256, .f32⟩) main_v44) mulf,
    unary main_arg4 main_v45 ((extractStridedSlice S1x8x1024x256 ![2, 0, 0, 0] · slices_S4x8x1024x256_S1x8x1024x256_2_0_0_0) : (⟨S4x8x1024x256, .f32⟩ : BufTy).Contents (Elt F) → (⟨S1x8x1024x256, .f32⟩ : BufTy).Contents (Elt F)),
    reshape main_v45 main_v46 (rfl : (.f32 : EltTy) = .f32) shapeCasts_S1x8x1024x256_S8x1024x256,
    binary main_arg0 main_v46 main_v47 ((fun l r => Host.dotGeneral dot_S16384x1024_S8x1024x256_S16384x8x256_1_1_0_02_n_n none l r) : (⟨S16384x1024, .f32⟩ : BufTy).Contents (Elt F) → (⟨S8x1024x256, .f32⟩ : BufTy).Contents (Elt F) → (⟨S16384x8x256, .f32⟩ : BufTy).Contents (Elt F)),
    binary main_v44 main_v47 main_v48 (mulf : (⟨S16384x8x256, .f32⟩ : BufTy).Contents (Elt F) → (⟨S16384x8x256, .f32⟩ : BufTy).Contents (Elt F) → (⟨S16384x8x256, .f32⟩ : BufTy).Contents (Elt F)),
    unary main_v40 main_v49 (broadcastInDim S16384x8x1 ![0, 1] bcast_S16384x8_S16384x8x1_0_1 : (⟨S16384x8, .f32⟩ : BufTy).Contents (Elt F) → (⟨S16384x8x1, .f32⟩ : BufTy).Contents (Elt F)),
    unary main_v49 main_v50 (broadcastInDim S16384x8x256 ![0, 1, 2] bcast_S16384x8x1_S16384x8x256_0_1_2 : (⟨S16384x8x1, .f32⟩ : BufTy).Contents (Elt F) → (⟨S16384x8x256, .f32⟩ : BufTy).Contents (Elt F)),
    binary main_v48 main_v50 main_v51 (mulf : (⟨S16384x8x256, .f32⟩ : BufTy).Contents (Elt F) → (⟨S16384x8x256, .f32⟩ : BufTy).Contents (Elt F) → (⟨S16384x8x256, .f32⟩ : BufTy).Contents (Elt F)),
    unary main_arg5 main_v52 ((extractStridedSlice S1x8x256x1024 ![2, 0, 0, 0] · slices_S4x8x256x1024_S1x8x256x1024_2_0_0_0) : (⟨S4x8x256x1024, .f32⟩ : BufTy).Contents (Elt F) → (⟨S1x8x256x1024, .f32⟩ : BufTy).Contents (Elt F)),
    reshape main_v52 main_v53 (rfl : (.f32 : EltTy) = .f32) shapeCasts_S1x8x256x1024_S8x256x1024,
    binary main_v51 main_v53 main_v54 ((fun l r => Host.dotGeneral dot_S16384x8x256_S8x256x1024_S16384x1024_12_01_0_2_n_n none l r) : (⟨S16384x8x256, .f32⟩ : BufTy).Contents (Elt F) → (⟨S8x256x1024, .f32⟩ : BufTy).Contents (Elt F) → (⟨S16384x1024, .f32⟩ : BufTy).Contents (Elt F)),
    binary main_v37 main_v54 main_v55 (addf : (⟨S16384x1024, .f32⟩ : BufTy).Contents (Elt F) → (⟨S16384x1024, .f32⟩ : BufTy).Contents (Elt F) → (⟨S16384x1024, .f32⟩ : BufTy).Contents (Elt F)),
    unary main_v0 main_v56 ((extractStridedSlice S16384x1 ![0, 3] · slices_S16384x4_S16384x1_0_3) : (⟨S16384x4, .f32⟩ : BufTy).Contents (Elt F) → (⟨S16384x1, .f32⟩ : BufTy).Contents (Elt F)),
    unary main_v56 main_v57 (broadcastInDim S16384x8 ![0, 1] bcast_S16384x1_S16384x8_0_1 : (⟨S16384x1, .f32⟩ : BufTy).Contents (Elt F) → (⟨S16384x8, .f32⟩ : BufTy).Contents (Elt F)),
    binary main_arg1 main_v57 main_v58 (mulf : (⟨S16384x8, .f32⟩ : BufTy).Contents (Elt F) → (⟨S16384x8, .f32⟩ : BufTy).Contents (Elt F) → (⟨S16384x8, .f32⟩ : BufTy).Contents (Elt F)),
    unary main_arg3 main_v59 ((extractStridedSlice S1x8x1024x256 ![3, 0, 0, 0] · slices_S4x8x1024x256_S1x8x1024x256_3_0_0_0) : (⟨S4x8x1024x256, .f32⟩ : BufTy).Contents (Elt F) → (⟨S1x8x1024x256, .f32⟩ : BufTy).Contents (Elt F)),
    reshape main_v59 main_v60 (rfl : (.f32 : EltTy) = .f32) shapeCasts_S1x8x1024x256_S8x1024x256,
    binary main_arg0 main_v60 main_v61 ((fun l r => Host.dotGeneral dot_S16384x1024_S8x1024x256_S16384x8x256_1_1_0_02_n_n none l r) : (⟨S16384x1024, .f32⟩ : BufTy).Contents (Elt F) → (⟨S8x1024x256, .f32⟩ : BufTy).Contents (Elt F) → (⟨S16384x8x256, .f32⟩ : BufTy).Contents (Elt F)),
    TRef.unary (TRef.of (T := ⟨S16384x8x256, .f32⟩) main_v61) (TRef.of (T := ⟨S16384x8x256, .f32⟩) main_call4_v0) Host.negf,
    TRef.unary (TRef.of (T := ⟨S16384x8x256, .f32⟩) main_call4_v0) (TRef.of (T := ⟨S16384x8x256, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S16384x8x256, .f32⟩) main_call4_v2) (broadcastInDim S16384x8x256 ![] bcast_S_S16384x8x256),
    TRef.binary (TRef.of (T := ⟨S16384x8x256, .f32⟩) main_call4_v2) (TRef.of (T := ⟨S16384x8x256, .f32⟩) main_call4_v1) (TRef.of (T := ⟨S16384x8x256, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S16384x8x256, .f32⟩) main_call4_v4) (broadcastInDim S16384x8x256 ![] bcast_S_S16384x8x256),
    TRef.binary (TRef.of (T := ⟨S16384x8x256, .f32⟩) main_call4_v4) (TRef.of (T := ⟨S16384x8x256, .f32⟩) main_call4_v3) (TRef.of (T := ⟨S16384x8x256, .f32⟩) main_call4_v5) Host.divf,
    TRef.binary (TRef.of (T := ⟨S16384x8x256, .f32⟩) main_v61) (TRef.of (T := ⟨S16384x8x256, .f32⟩) main_call4_v5) (TRef.of (T := ⟨S16384x8x256, .f32⟩) main_v62) mulf,
    unary main_arg4 main_v63 ((extractStridedSlice S1x8x1024x256 ![3, 0, 0, 0] · slices_S4x8x1024x256_S1x8x1024x256_3_0_0_0) : (⟨S4x8x1024x256, .f32⟩ : BufTy).Contents (Elt F) → (⟨S1x8x1024x256, .f32⟩ : BufTy).Contents (Elt F)),
    reshape main_v63 main_v64 (rfl : (.f32 : EltTy) = .f32) shapeCasts_S1x8x1024x256_S8x1024x256,
    binary main_arg0 main_v64 main_v65 ((fun l r => Host.dotGeneral dot_S16384x1024_S8x1024x256_S16384x8x256_1_1_0_02_n_n none l r) : (⟨S16384x1024, .f32⟩ : BufTy).Contents (Elt F) → (⟨S8x1024x256, .f32⟩ : BufTy).Contents (Elt F) → (⟨S16384x8x256, .f32⟩ : BufTy).Contents (Elt F)),
    binary main_v62 main_v65 main_v66 (mulf : (⟨S16384x8x256, .f32⟩ : BufTy).Contents (Elt F) → (⟨S16384x8x256, .f32⟩ : BufTy).Contents (Elt F) → (⟨S16384x8x256, .f32⟩ : BufTy).Contents (Elt F)),
    unary main_v58 main_v67 (broadcastInDim S16384x8x1 ![0, 1] bcast_S16384x8_S16384x8x1_0_1 : (⟨S16384x8, .f32⟩ : BufTy).Contents (Elt F) → (⟨S16384x8x1, .f32⟩ : BufTy).Contents (Elt F)),
    unary main_v67 main_v68 (broadcastInDim S16384x8x256 ![0, 1, 2] bcast_S16384x8x1_S16384x8x256_0_1_2 : (⟨S16384x8x1, .f32⟩ : BufTy).Contents (Elt F) → (⟨S16384x8x256, .f32⟩ : BufTy).Contents (Elt F)),
    binary main_v66 main_v68 main_v69 (mulf : (⟨S16384x8x256, .f32⟩ : BufTy).Contents (Elt F) → (⟨S16384x8x256, .f32⟩ : BufTy).Contents (Elt F) → (⟨S16384x8x256, .f32⟩ : BufTy).Contents (Elt F)),
    unary main_arg5 main_v70 ((extractStridedSlice S1x8x256x1024 ![3, 0, 0, 0] · slices_S4x8x256x1024_S1x8x256x1024_3_0_0_0) : (⟨S4x8x256x1024, .f32⟩ : BufTy).Contents (Elt F) → (⟨S1x8x256x1024, .f32⟩ : BufTy).Contents (Elt F)),
    reshape main_v70 main_v71 (rfl : (.f32 : EltTy) = .f32) shapeCasts_S1x8x256x1024_S8x256x1024,
    binary main_v69 main_v71 main_v72 ((fun l r => Host.dotGeneral dot_S16384x8x256_S8x256x1024_S16384x1024_12_01_0_2_n_n none l r) : (⟨S16384x8x256, .f32⟩ : BufTy).Contents (Elt F) → (⟨S8x256x1024, .f32⟩ : BufTy).Contents (Elt F) → (⟨S16384x1024, .f32⟩ : BufTy).Contents (Elt F)),
    binary main_v55 main_v72 main_v73 (addf : (⟨S16384x1024, .f32⟩ : BufTy).Contents (Elt F) → (⟨S16384x1024, .f32⟩ : BufTy).Contents (Elt F) → (⟨S16384x1024, .f32⟩ : BufTy).Contents (Elt F)),
    nullary main_cst_0 (constant S_ .f32 0x3F9837F0#32),
    unary main_cst_0 main_v74 (broadcastInDim S16384x1024 ![] bcast_S_S16384x1024 : (⟨S_, .f32⟩ : BufTy).Contents (Elt F) → (⟨S16384x1024, .f32⟩ : BufTy).Contents (Elt F)),
    binary main_v74 main_arg0 main_v75 (mulf : (⟨S16384x1024, .f32⟩ : BufTy).Contents (Elt F) → (⟨S16384x1024, .f32⟩ : BufTy).Contents (Elt F) → (⟨S16384x1024, .f32⟩ : BufTy).Contents (Elt F)),
    binary main_v75 main_v73 main_v76 (addf : (⟨S16384x1024, .f32⟩ : BufTy).Contents (Elt F) → (⟨S16384x1024, .f32⟩ : BufTy).Contents (Elt F) → (⟨S16384x1024, .f32⟩ : BufTy).Contents (Elt F)),
    nullary main_cst_1 (constant S_ .f32 0x00000000#32),
    binary main_v76 main_cst_1 main_v77 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v77 main_v78 (broadcastInDim S16384x1 ![0] bcast_S16384_S16384x1_0 : (⟨S16384, .f32⟩ : BufTy).Contents (Elt F) → (⟨S16384x1, .f32⟩ : BufTy).Contents (Elt F)),
    nullary main_cst_2 (constant S_ .f32 0x44800000#32),
    unary main_cst_2 main_v79 (broadcastInDim S16384x1 ![] bcast_S_S16384x1 : (⟨S_, .f32⟩ : BufTy).Contents (Elt F) → (⟨S16384x1, .f32⟩ : BufTy).Contents (Elt F)),
    binary main_v78 main_v79 main_v80 (Host.divf : (⟨S16384x1, .f32⟩ : BufTy).Contents (Elt F) → (⟨S16384x1, .f32⟩ : BufTy).Contents (Elt F) → (⟨S16384x1, .f32⟩ : BufTy).Contents (Elt F)),
    unary main_v80 main_v81 (broadcastInDim S16384x1024 ![0, 1] bcast_S16384x1_S16384x1024_0_1 : (⟨S16384x1, .f32⟩ : BufTy).Contents (Elt F) → (⟨S16384x1024, .f32⟩ : BufTy).Contents (Elt F)),
    binary main_v76 main_v81 main_v82 (subf : (⟨S16384x1024, .f32⟩ : BufTy).Contents (Elt F) → (⟨S16384x1024, .f32⟩ : BufTy).Contents (Elt F) → (⟨S16384x1024, .f32⟩ : BufTy).Contents (Elt F)),
    binary main_v82 main_v82 main_v83 (mulf : (⟨S16384x1024, .f32⟩ : BufTy).Contents (Elt F) → (⟨S16384x1024, .f32⟩ : BufTy).Contents (Elt F) → (⟨S16384x1024, .f32⟩ : BufTy).Contents (Elt F)),
    nullary main_cst_3 (constant S_ .f32 0x00000000#32),
    binary main_v83 main_cst_3 main_v84 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v84 main_v85 (broadcastInDim S16384x1 ![0] bcast_S16384_S16384x1_0 : (⟨S16384, .f32⟩ : BufTy).Contents (Elt F) → (⟨S16384x1, .f32⟩ : BufTy).Contents (Elt F)),
    nullary main_cst_4 (constant S_ .f32 0x44800000#32),
    unary main_cst_4 main_v86 (broadcastInDim S16384x1 ![] bcast_S_S16384x1 : (⟨S_, .f32⟩ : BufTy).Contents (Elt F) → (⟨S16384x1, .f32⟩ : BufTy).Contents (Elt F)),
    binary main_v85 main_v86 main_v87 (Host.divf : (⟨S16384x1, .f32⟩ : BufTy).Contents (Elt F) → (⟨S16384x1, .f32⟩ : BufTy).Contents (Elt F) → (⟨S16384x1, .f32⟩ : BufTy).Contents (Elt F)),
    unary main_v80 main_v88 (broadcastInDim S16384x1024 ![0, 1] bcast_S16384x1_S16384x1024_0_1 : (⟨S16384x1, .f32⟩ : BufTy).Contents (Elt F) → (⟨S16384x1024, .f32⟩ : BufTy).Contents (Elt F)),
    binary main_v76 main_v88 main_v89 (subf : (⟨S16384x1024, .f32⟩ : BufTy).Contents (Elt F) → (⟨S16384x1024, .f32⟩ : BufTy).Contents (Elt F) → (⟨S16384x1024, .f32⟩ : BufTy).Contents (Elt F)),
    nullary main_cst_5 (constant S_ .f32 0x3727C5AC#32),
    unary main_cst_5 main_v90 (broadcastInDim S16384x1 ![] bcast_S_S16384x1 : (⟨S_, .f32⟩ : BufTy).Contents (Elt F) → (⟨S16384x1, .f32⟩ : BufTy).Contents (Elt F)),
    binary main_v87 main_v90 main_v91 (addf : (⟨S16384x1, .f32⟩ : BufTy).Contents (Elt F) → (⟨S16384x1, .f32⟩ : BufTy).Contents (Elt F) → (⟨S16384x1, .f32⟩ : BufTy).Contents (Elt F)),
    unary main_v91 main_v92 (Host.rsqrt : (⟨S16384x1, .f32⟩ : BufTy).Contents (Elt F) → (⟨S16384x1, .f32⟩ : BufTy).Contents (Elt F)),
    unary main_v92 main_v93 (broadcastInDim S16384x1024 ![0, 1] bcast_S16384x1_S16384x1024_0_1 : (⟨S16384x1, .f32⟩ : BufTy).Contents (Elt F) → (⟨S16384x1024, .f32⟩ : BufTy).Contents (Elt F)),
    binary main_v89 main_v93 main_v94 (mulf : (⟨S16384x1024, .f32⟩ : BufTy).Contents (Elt F) → (⟨S16384x1024, .f32⟩ : BufTy).Contents (Elt F) → (⟨S16384x1024, .f32⟩ : BufTy).Contents (Elt F)),
    unary main_arg6 main_v95 (broadcastInDim S1x1024 ![1] bcast_S1024_S1x1024_1 : (⟨S1024, .f32⟩ : BufTy).Contents (Elt F) → (⟨S1x1024, .f32⟩ : BufTy).Contents (Elt F)),
    unary main_v95 main_v96 (broadcastInDim S16384x1024 ![0, 1] bcast_S1x1024_S16384x1024_0_1 : (⟨S1x1024, .f32⟩ : BufTy).Contents (Elt F) → (⟨S16384x1024, .f32⟩ : BufTy).Contents (Elt F)),
    binary main_v94 main_v96 main_v97 (mulf : (⟨S16384x1024, .f32⟩ : BufTy).Contents (Elt F) → (⟨S16384x1024, .f32⟩ : BufTy).Contents (Elt F) → (⟨S16384x1024, .f32⟩ : BufTy).Contents (Elt F)),
    unary main_arg7 main_v98 (broadcastInDim S1x1024 ![1] bcast_S1024_S1x1024_1 : (⟨S1024, .f32⟩ : BufTy).Contents (Elt F) → (⟨S1x1024, .f32⟩ : BufTy).Contents (Elt F)),
    unary main_v98 main_v99 (broadcastInDim S16384x1024 ![0, 1] bcast_S1x1024_S16384x1024_0_1 : (⟨S1x1024, .f32⟩ : BufTy).Contents (Elt F) → (⟨S16384x1024, .f32⟩ : BufTy).Contents (Elt F)),
    binary main_v97 main_v99 main_v100 (addf : (⟨S16384x1024, .f32⟩ : BufTy).Contents (Elt F) → (⟨S16384x1024, .f32⟩ : BufTy).Contents (Elt F) → (⟨S16384x1024, .f32⟩ : BufTy).Contents (Elt F)) ]

theorem main_ops (c : Dev nD) : main (F := F) c = seq ops := rfl
theorem no_scoped_refs : (Finset.univ.filter fun b : Ref sig .tc => b.isScoped) = ∅ := by decide
theorem no_scoped_sems : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., unary_bufs_sub .., binary_bufs_sub .., unary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., unary_bufs_sub .., reshape_bufs_sub .., binary_bufs_sub .., binary_bufs_sub .., unary_bufs_sub .., unary_bufs_sub .., binary_bufs_sub .., unary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., unary_bufs_sub .., reshape_bufs_sub .., binary_bufs_sub .., binary_bufs_sub .., unary_bufs_sub .., unary_bufs_sub .., binary_bufs_sub .., unary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., unary_bufs_sub .., reshape_bufs_sub .., binary_bufs_sub .., binary_bufs_sub .., unary_bufs_sub .., unary_bufs_sub .., binary_bufs_sub .., unary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- The result read off the arguments of device `c`. -/
def result (m : (ℓ : Loc nD τ sig) → Buf (Elt F) ℓ) (c : Dev nD) : Buf (Elt F) ((c.tc : Thread nD τ).loc main_v100) :=
  expected (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

set_option maxRecDepth 8192 in
set_option maxHeartbeats 58000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v100).trans (by simp only [ops, TRef.binary, TRef.nullary, TRef.unary, TRef.toBuf, TRef.ofBuf, cast_eq]; after_results_simp <;> rfl <;> (unfold result expected mixture group norm centred mean resid proj silu gates mask; rfl)),
      (h c main_arg0).trans (by simp only [ops, TRef.binary, TRef.nullary, TRef.unary, TRef.toBuf, TRef.ofBuf, cast_eq]; after_results_simp <;> rfl),
      (h c main_arg1).trans (by simp only [ops, TRef.binary, TRef.nullary, TRef.unary, TRef.toBuf, TRef.ofBuf, cast_eq]; after_results_simp <;> rfl),
      (h c main_arg2).trans (by simp only [ops, TRef.binary, TRef.nullary, TRef.unary, TRef.toBuf, TRef.ofBuf, cast_eq]; after_results_simp <;> rfl),
      (h c main_arg3).trans (by simp only [ops, TRef.binary, TRef.nullary, TRef.unary, TRef.toBuf, TRef.ofBuf, cast_eq]; after_results_simp <;> rfl),
      (h c main_arg4).trans (by simp only [ops, TRef.binary, TRef.nullary, TRef.unary, TRef.toBuf, TRef.ofBuf, cast_eq]; after_results_simp <;> rfl),
      (h c main_arg5).trans (by simp only [ops, TRef.binary, TRef.nullary, TRef.unary, TRef.toBuf, TRef.ofBuf, cast_eq]; after_results_simp <;> rfl),
      (h c main_arg6).trans (by simp only [ops, TRef.binary, TRef.nullary, TRef.unary, TRef.toBuf, TRef.ofBuf, cast_eq]; after_results_simp <;> rfl),
      (h c main_arg7).trans (by simp only [ops, TRef.binary, TRef.nullary, TRef.unary, TRef.toBuf, TRef.ofBuf, cast_eq]; after_results_simp <;> rfl)⟩)
    (run_seq no_scoped_refs no_scoped_sems defs main (fun _ => ops) main_ops (fun _ => ops_sub) m ρ)

end Cert.Moe.Ref

end
-- ==== Proof.Scalars.lean ====
/-
  Scalar facts over the extended reals: flags as zeros and ones, comparisons, counts as sums of flags.
-/
module

public import Idealize.ShloMosaic.PureOps.Ideal.Laws
public import Idealize.ShloMosaic.Lib.WordCmp
public import Idealize.ShloMosaic.Lib.WordArith
public import Idealize.ShloMosaic.Lib.Routing.Count
public import Mathlib.Data.Nat.Count

@[expose] public section

noncomputable section

namespace Cert.Moe

open Idealize.ShloMosaic

/-- A one-bit word widened and read as a number. -/
theorem flag (φ : FTy) (b : BitVec 1) : (FloatOps.sitofp (F := Ideal) φ (BitVec.setWidth 32 b) : EReal) = if b = 1#1 then 1 else 0 := by
  show (((BitVec.setWidth 32 b).toInt : ℝ) : EReal) = _
  have h : b = 0#1 ∨ b = 1#1 := by
    have := b.isLt
    rcases Nat.lt_or_ge b.toNat 1 with h | h
    · exact .inl (BitVec.eq_of_toNat_eq (by simpa using h))
    · exact .inr (BitVec.eq_of_toNat_eq (by show b.toNat = 1; omega))
  rcases h with rfl | rfl
  · simp
  · simp

theorem andi_iff (a b : BitVec 1) : IntOp.andi a b = 1#1 ↔ a = 1#1 ∧ b = 1#1 := by
  revert a b; decide

theorem oeq_iff (φ : FTy) (x y : Ideal φ) : FloatOps.cmpf .oeq x y = 1#1 ↔ (x : EReal) = y := by
  show Ideal.cmp .oeq x y = 1#1 ↔ _
  exact (WordArith.ofBool_eq_one_iff _).trans decide_eq_true_iff

theorem ogt_iff (φ : FTy) (x y : Ideal φ) : FloatOps.cmpf .ogt x y = 1#1 ↔ (y : EReal) < x := by
  show Ideal.cmp .ogt x y = 1#1 ↔ _
  exact (WordArith.ofBool_eq_one_iff _).trans decide_eq_true_iff

theorem olt_iff (φ : FTy) (x y : Ideal φ) : FloatOps.cmpf .olt x y = 1#1 ↔ (x : EReal) < y := by
  show Ideal.cmp .olt x y = 1#1 ↔ _
  exact (WordArith.ofBool_eq_one_iff _).trans decide_eq_true_iff

/-- Two small words are equal when their numbers are. -/
theorem ofNat_eq_iff (a b : ℕ) (ha : a < 2 ^ 31) (hb : b < 2 ^ 31) : IntOp.cmpi .eq (BitVec.ofNat 32 a) (BitVec.ofNat 32 b) = 1#1 ↔ a = b := by
  word_cmp

theorem ofNat_slt_iff (a b : ℕ) (ha : a < 2 ^ 31) (hb : b < 2 ^ 31) : IntOp.cmpi .slt (BitVec.ofNat 32 a) (BitVec.ofNat 32 b) = 1#1 ↔ a < b := by
  word_cmp

theorem sitofp_ofNat (φ : FTy) (n : ℕ) (h : n < 2 ^ 31) : (FloatOps.sitofp (F := Ideal) φ (BitVec.ofNat 32 n) : EReal) = ((n : ℝ) : EReal) := by
  show (((BitVec.ofNat 32 n).toInt : ℝ) : EReal) = _
  rw [WordArith.toInt_ofNat_small n h]; rfl

theorem select_eq {α : Type} (b : BitVec 1) (x y : α) : Scalar.select b x y = if b = 1#1 then x else y := by
  rfl

/-- A sum of flags is the number of the ones. -/
theorem sum_flags {ι : Type} [DecidableEq ι] (s : Finset ι) (p : ι → Prop) [DecidablePred p] :
    (∑ i ∈ s, (if p i then (1 : EReal) else 0)) = (((s.filter p).card : ℝ) : EReal) := by
  induction s using Finset.induction_on with
  | empty => simp
  | insert a s ha ih =>
    rw [Finset.sum_insert ha, ih, Finset.filter_insert]
    by_cases h : p a
    · rw [if_pos h, if_pos h, Finset.card_insert_of_notMem (fun hm => ha (Finset.mem_filter.1 hm).1)]
      push_cast
      rw [add_comm]
    · rw [if_neg h, if_neg h, zero_add]

/-- A sum of flags over `Fin n` counts. -/
theorem sum_flags_count (n : ℕ) (P : ℕ → Prop) [DecidablePred P] : (∑ i : Fin n, (if P i.val then (1 : EReal) else 0)) = ((Nat.count P n : ℝ) : EReal) := by
  rw [sum_flags, Routing.card_filter_fin]

/-- A sum of flags below a position counts up to it. -/
theorem sum_flags_below (n : ℕ) (P : ℕ → Prop) [DecidablePred P] (t : ℕ) (ht : t ≤ n) :
    (∑ i : Fin n, (if P i.val then (1 : EReal) else 0) * (if i.val < t then 1 else 0)) = ((Nat.count P t : ℝ) : EReal) := by
  have e : ∀ i : Fin n, (if P i.val then (1 : EReal) else 0) * (if i.val < t then 1 else 0) = if P i.val ∧ i.val < t then 1 else 0 := by
    intro i; by_cases h : P i.val <;> by_cases h' : i.val < t <;> simp [h, h']
  rw [Finset.sum_congr rfl fun i _ => e i, sum_flags_count n (fun i => P i ∧ i < t)]
  have hc : Nat.count (fun i => P i ∧ i < t) n = Nat.count P t := by
    obtain ⟨d, rfl⟩ := Nat.exists_eq_add_of_le ht
    rw [Nat.count_add]
    have h0 : Nat.count (fun k => P (t + k) ∧ t + k < t) d = 0 := by
      rw [Nat.count_eq_card_filter_range]; simp
    rw [h0, Nat.add_zero]
    exact Routing.count_congr_of_lt t fun i hi => by simp [hi]
  rw [hc]

/-- A number cast to a word. -/
theorem fptosi_nat (φ : FTy) (n : ℕ) (h : n < 2 ^ 31) : (Scalar.fptosi (F := Ideal) 32 (φ := φ) (((n : ℝ) : EReal) : Ideal φ)) = BitVec.ofNat 32 n := by
  show Ideal.fptosi 32 (((n : ℝ) : EReal)) = _
  have e : Ideal.toIntClamped (-(2 ^ (32 - 1) : Nat)) ((2 ^ (32 - 1) : Nat) - 1) (((n : ℝ) : EReal)) = (n : ℤ) := by
    show max _ (min _ (if (0 : ℝ) ≤ (n : ℝ) then ⌊(n : ℝ)⌋ else ⌈(n : ℝ)⌉)) = _
    rw [if_pos (Nat.cast_nonneg n), Int.floor_natCast]
    have : (n : ℤ) < 2 ^ 31 := by exact_mod_cast h
    norm_num at this ⊢
    omega
  show BitVec.ofInt 32 _ = _
  rw [e, BitVec.ofInt_natCast]

/-- A finite number less itself. -/
theorem sub_self_of_finite (x : EReal) (h1 : x ≠ ⊤) (h2 : x ≠ ⊥) : x - x = 0 := EReal.sub_self h1 h2

/-- The sum over the tokens picks the one that a one-hot row marks. -/
theorem sum_pick {ι : Type} [Fintype ι] [DecidableEq ι] (a : ι) (f : ι → EReal) : (∑ i, (if i = a then (1 : EReal) else 0) * f i) = f a := by
  rw [Finset.sum_eq_single a]
  · rw [if_pos rfl, one_mul]
  · intro b _ hb; rw [if_neg hb, zero_mul]
  · intro h; exact absurd (Finset.mem_univ a) h

theorem sum_pick' {ι : Type} [Fintype ι] [DecidableEq ι] (a : ι) (f : ι → EReal) : (∑ i, (if i = a then f i else 0)) = f a := by
  rw [Finset.sum_ite_eq' Finset.univ a f, if_pos (Finset.mem_univ a)]

end Cert.Moe

end
-- ==== Proof.Payloads.lean ====
/-
  The payloads of the routing part at an index: who is a member of a group, in which order, and how many they are.
-/
module

public import proofs.«01_k».proof.Proof.Launch
public import proofs.«01_k».proof.Proof.Scalars
public import Idealize.ShloMosaic.Lib.Pointwise

@[expose] public section

set_option maxRecDepth 16384

noncomputable section

namespace Cert.Moe

open Idealize.ShloMosaic Idealize.ShloMosaic.TcCoe
open Cert.KernelIdeal Cert.KernelIdeal.Gen

/-- The triangle: a one where the row comes before the column. -/
theorem tri_apply (r c : Fin 1024) : k0_pay50 (F := Ideal) (ix2 r c) = (if r.val < c.val then (1 : EReal) else 0) := by
  pointwise [k0_pay50]
  rw [flag]
  simp only [ofNat_slt_iff _ _ (show r.val < 2 ^ 31 by omega) (show c.val < 2 ^ 31 by omega)]

/-- Lane `32 + a` of a token's row, for the four groups. -/
theorem member128_apply (cw : Vec Ideal S1024x128 .f32) (a : Fin 128) (t : Fin 1024) (h : a.val < 4) :
    k0_pay53 cw (ix2 a t) = (cw (ix2 t ⟨32 + a.val, by omega⟩) : EReal) := by
  pointwise [k0_pay53, k0_pay51]
  have e : ∀ x : Fin 128, (FloatOps.sitofp (F := Ideal) .f32 (BitVec.setWidth 32 (IntOp.andi (IntOp.cmpi .eq (BitVec.ofNat 32 x.val)
      (IntOp.addi (BitVec.ofNat 32 a.val) 32#32)) (IntOp.cmpi .slt (BitVec.ofNat 32 a.val) 4#32))) : EReal)
      = if x = (⟨32 + a.val, by omega⟩ : Fin 128) then 1 else 0 := by
    intro x
    rw [flag]
    have e1 : IntOp.addi (BitVec.ofNat 32 a.val) 32#32 = BitVec.ofNat 32 (a.val + 32) := (BitVec.ofNat_add _ _).symm
    rw [e1]
    simp only [andi_iff, ofNat_eq_iff _ _ (show x.val < 2 ^ 31 by omega) (show a.val + 32 < 2 ^ 31 by omega),
      ofNat_slt_iff a.val 4 (by omega) (by omega), h, and_true, Fin.ext_iff, Nat.add_comm 32 a.val]
  simp only [e]
  exact sum_pick _ _

theorem member_apply (cw : Vec Ideal S1024x128 .f32) (a : Fin 8) (t : Fin 1024) (h : a.val < 4) :
    k0_pay55 cw (ix2 a t) = (cw (ix2 t ⟨32 + a.val, by omega⟩) : EReal) := by
  have e := member128_apply cw ⟨a.val, by omega⟩ t h
  refine Eq.trans ?_ e
  pointwise [k0_pay55]

/-- A token's place among the members before it. -/
theorem rank128_apply (cw : Vec Ideal S1024x128 .f32) (a : Fin 128) (t : Fin 1024) (h : a.val < 4) :
    k0_pay54 cw (k0_pay50 (F := Ideal)) (ix2 a t)
      = (∑ r : Fin 1024, cw (ix2 r ⟨32 + a.val, by omega⟩) * (if r.val < t.val then (1 : EReal) else 0) : EReal) := by
  pointwise [k0_pay54]
  refine Finset.sum_congr rfl fun r _ => ?_
  rw [tri_apply, member128_apply cw a r h]

theorem rank_apply (cw : Vec Ideal S1024x128 .f32) (a : Fin 8) (t : Fin 1024) (h : a.val < 4) :
    k0_pay56 cw (k0_pay50 (F := Ideal)) (ix2 a t)
      = (∑ r : Fin 1024, cw (ix2 r ⟨32 + a.val, by omega⟩) * (if r.val < t.val then (1 : EReal) else 0) : EReal) := by
  have e := rank128_apply cw ⟨a.val, by omega⟩ t h
  refine Eq.trans ?_ e
  pointwise [k0_pay56]

theorem rankT_apply (cw : Vec Ideal S1024x128 .f32) (a : Fin 128) (t : Fin 1024) (h : a.val < 4) :
    k0_pay57 cw (k0_pay50 (F := Ideal)) (ix2 t a)
      = (∑ r : Fin 1024, cw (ix2 r ⟨32 + a.val, by omega⟩) * (if r.val < t.val then (1 : EReal) else 0) : EReal) := by
  refine Eq.trans ?_ (rank128_apply cw a t h)
  pointwise [k0_pay57]
  try rfl

/-- The row of a group. -/
theorem row_apply (i : grid0.Coords) (g : Fin 8) (hg : (i 1).val = g.val) (mem : Vec Ideal S8x1024 .f32) (t : Fin 1024) :
    k0_pay58 i mem (ix2 (0 : Fin 1) t) = (mem (ix2 g t) : EReal) := by
  pointwise [k0_pay58]
  simp only [select_eq, hg]
  have e : ∀ x : Fin 8, (IntOp.cmpi .eq (BitVec.ofNat 32 x.val) (BitVec.ofNat 32 g.val) = 1#1) = (x = g) := fun x =>
    propext ((ofNat_eq_iff _ _ (by omega) (by omega)).trans Fin.ext_iff.symm)
  simp only [e]
  exact sum_pick' g _

theorem row_apply' (i : grid0.Coords) (g : Fin 8) (hg : (i 1).val = g.val) (mem : Vec Ideal S8x1024 .f32) (t : Fin 1024) :
    k0_pay59 i mem (ix2 (0 : Fin 1) t) = (mem (ix2 g t) : EReal) := row_apply i g hg mem t

/-- The column of a group. -/
theorem col_apply (i : grid0.Coords) (g : Fin 128) (hg : (i 1).val = g.val) (m : Vec Ideal S1024x128 .f32) (t : Fin 1024) :
    k0_pay60 i m (ix2 t (0 : Fin 1)) = (m (ix2 t g) : EReal) := by
  pointwise [k0_pay60]
  simp only [select_eq, hg]
  have e : ∀ x : Fin 128, (IntOp.cmpi .eq (BitVec.ofNat 32 x.val) (BitVec.ofNat 32 g.val) = 1#1) = (x = g) := fun x =>
    propext ((ofNat_eq_iff _ _ (by omega) (by omega)).trans Fin.ext_iff.symm)
  simp only [e]
  exact sum_pick' g _

/-- The membership column of a group. -/
theorem inCol_apply (i : grid0.Coords) (g : ℕ) (hg : (i 1).val = g) (h : g < 4) (cw : Vec Ideal S1024x128 .f32) (t : Fin 1024) :
    k0_pay62 (k0_pay51 cw) (k0_pay61 i) (ix2 t (0 : Fin 1)) = (cw (ix2 t ⟨32 + g, by omega⟩) : EReal) := by
  pointwise [k0_pay62, k0_pay51, k0_pay61]
  simp only [select_eq, hg]
  have e1 : IntOp.addi (BitVec.ofNat 32 g) 32#32 = BitVec.ofNat 32 (32 + g) := by
    rw [Nat.add_comm]; exact (BitVec.ofNat_add _ _).symm
  have e : ∀ x : Fin 128, (IntOp.cmpi .eq (BitVec.ofNat 32 x.val) (IntOp.addi (BitVec.ofNat 32 g) 32#32) = 1#1) = (x = ⟨32 + g, by omega⟩) := fun x => by
    rw [e1]; exact propext ((ofNat_eq_iff _ _ (by omega) (by omega)).trans ⟨fun h => Fin.ext h, fun h => congrArg Fin.val h⟩)
  simp only [Scalar.addi, e]
  exact sum_pick' _ _

/-- The sum of a row. -/
theorem total_apply (v : FVec Ideal S1x1024 .f32) : k0_pay63 (F := Ideal) v = (∑ t : Fin 1024, v (ix2 (0 : Fin 1) t) : EReal) := by
  pointwise [k0_pay63]
  simp

/-- The three parts of the gates: all of it, then nothing twice. -/
theorem parts_apply (v : FVec Ideal S1024x128 .f32) (hv : ∀ j, (v j : EReal) ≠ ⊤ ∧ (v j : EReal) ≠ ⊥) (t : Fin 1024) (l : Fin 384) :
    k0_pay64 (F := Ideal) v (ix2 t l) = (if h : l.val < 128 then v (ix2 t ⟨l.val, h⟩) else 0 : EReal) := by
  have hz : ∀ j, (v j : EReal) - v j = 0 := fun j => sub_self_of_finite _ (hv j).1 (hv j).2
  pointwise [k0_pay64]
  simp only [hz]
  split
  · rfl
  · split <;> simp [hz]

theorem tokens_apply (x : Vec Ideal S1024x1024 .bf16) (r c : Fin 1024) : k0_pay65 x (ix2 r c) = x (ix2 r c) := by
  pointwise [k0_pay65]

theorem rows_apply (i : Fin 128) (t : Fin 1024) : k0_pay66 (F := Ideal) (ix2 i t) = ((i.val : ℝ) : EReal) := by
  pointwise [k0_pay66]
  exact sitofp_ofNat _ _ (by omega)

theorem lanes_apply (i : Fin 128) (t : Fin 1024) : k0_pay67 (F := Ideal) (ix2 t i) = ((i.val : ℝ) : EReal) := by
  pointwise [k0_pay67]
  exact sitofp_ofNat _ _ (by omega)

end Cert.Moe

end
-- ==== Proof.Hidden.lean ====
/-
  One chunk's expert part at an index: the gathered rows through the eight experts of a group, and what goes back to the tokens.
-/
module

public import proofs.«01_k».proof.Proof.Payloads

@[expose] public section

set_option maxRecDepth 16384

noncomputable section

namespace Cert.Moe

open Idealize.ShloMosaic Idealize.ShloMosaic.TcCoe
open Cert.KernelIdeal Cert.KernelIdeal.Gen

/-- Position `f` of expert `e` among the columns of a group's weights. -/
abbrev col (e : Fin 8) (f : Fin 256) : Fin 2048 := ⟨256 * e.val + f.val, by omega⟩

/-- A sum over the columns is a sum over the experts and their positions. -/
theorem sum_cols (F : Fin 2048 → EReal) : (∑ q, F q) = ∑ e : Fin 8, ∑ f : Fin 256, F (col e f) := by
  rw [← (finProdFinEquiv (m := 8) (n := 256)).sum_comp, Fintype.sum_prod_type]
  refine Finset.sum_congr rfl fun e _ => Finset.sum_congr rfl fun f _ => congrArg F ?_
  apply Fin.ext
  show f.val + 256 * e.val = 256 * e.val + f.val
  omega

/-- One hidden entry from its gate, its up value and the token's gate for the expert. -/
def act (a u c : EReal) : EReal := a * Ideal.div 1 (1 + Ideal.exp (0 - a)) * u * c

/-- The lane of an expert's gate. -/
theorem lane_pick (g e : ℕ) (hg : g < 4) (he : e < 8) (v : Fin 128 → BitVec 32) (hv : ∀ x, v x = BitVec.ofNat 32 x.val) (F : Fin 128 → EReal) :
    (∑ x : Fin 128, Scalar.select (IntOp.cmpi .eq (v x) (Scalar.addi (Scalar.muli (BitVec.ofNat 32 g) 8#32) (BitVec.ofNat 32 e))) (F x) 0 : EReal)
      = F ⟨8 * g + e, by omega⟩ := by
  have e1 : Scalar.addi (Scalar.muli (BitVec.ofNat 32 g) 8#32) (BitVec.ofNat 32 e) = BitVec.ofNat 32 (8 * g + e) := by
    rw [Nat.mul_comm 8 g]
    show BitVec.ofNat 32 g * BitVec.ofNat 32 8 + BitVec.ofNat 32 e = _
    rw [BitVec.ofNat_add, BitVec.ofNat_mul]
  have e2 : ∀ x : Fin 128, (IntOp.cmpi .eq (v x) (BitVec.ofNat 32 (8 * g + e)) = 1#1) = (x = ⟨8 * g + e, by omega⟩) := fun x => by
    rw [hv]
    exact propext ((ofNat_eq_iff _ _ (by omega) (by omega)).trans ⟨fun h => Fin.ext h, fun h => congrArg Fin.val h⟩)
  simp only [select_eq, e1, e2]
  exact sum_pick' _ _

/-- The hidden entries of a chunk's rows. -/
def hid (g : ℕ) (hg : g < 4) (v107 : FVec Ideal S128x128 .f32) (v110 v113 : FVec Ideal S128x2048 .f32) (e : Fin 8) (i : Fin 128) (f : Fin 256) : EReal :=
  act (v110 (ix2 i (col e f))) (v113 (ix2 i (col e f))) (v107 (ix2 i ⟨8 * g + e.val, by omega⟩))

theorem hid_congr {g : ℕ} {hg : g < 4} {v107 : FVec Ideal S128x128 .f32} {v110 v113 : FVec Ideal S128x2048 .f32} {e e' : Fin 8} {i : Fin 128} {f f' : Fin 256}
    (h : e.val = e'.val) (h' : f.val = f'.val) : hid g hg v107 v110 v113 e i f = hid g hg v107 v110 v113 e' i f' := by
  rw [Fin.ext h, Fin.ext h']

variable (g : ℕ) (hg : g < 4) (v59 : IVec S128x128 32) (h59 : ∀ (i x : Fin 128), v59 (ix2 i x) = BitVec.ofNat 32 x.val)
  (v107 : FVec Ideal S128x128 .f32) (v110 v113 : FVec Ideal S128x2048 .f32)

include h59

theorem hid1 (i : Fin 128) (f : Fin 256) : k0_pay12 (BitVec.ofNat 32 g) v59 v107 v110 v113 (ix2 i f) = hid g hg v107 v110 v113 1 i f := by
  pointwise [k0_pay12]
  rw [lane_pick g 1 hg (by omega) (fun x => v59 (ix2 i x)) (fun x => h59 i x)]; rfl

theorem hid2 (i : Fin 128) (f : Fin 256) :
    k0_pay17 v113 (k0_pay13 (BitVec.ofNat 32 g) v59 v107) (k0_pay14 v110) (k0_pay15 v110) k0_pay16 (ix2 i f) = hid g hg v107 v110 v113 2 i f := by
  pointwise [k0_pay17, k0_pay13, k0_pay14, k0_pay15, k0_pay16]
  rw [lane_pick g 2 hg (by omega) (fun x => v59 (ix2 i x)) (fun x => h59 i x)]; rfl

theorem hid3 (i : Fin 128) (f : Fin 256) : k0_pay18 (BitVec.ofNat 32 g) v59 v107 v110 v113 (ix2 i f) = hid g hg v107 v110 v113 3 i f := by
  pointwise [k0_pay18]
  rw [lane_pick g 3 hg (by omega) (fun x => v59 (ix2 i x)) (fun x => h59 i x)]; rfl

theorem hid4 (i : Fin 128) (f : Fin 256) :
    k0_pay21 v113 (k0_pay19 (BitVec.ofNat 32 g) v59 v107) (k0_pay20 v110) (ix2 i f) = hid g hg v107 v110 v113 4 i f := by
  pointwise [k0_pay21, k0_pay19, k0_pay20]
  rw [lane_pick g 4 hg (by omega) (fun x => v59 (ix2 i x)) (fun x => h59 i x)]; rfl

theorem hid5 (i : Fin 128) (f : Fin 256) : k0_pay22 (BitVec.ofNat 32 g) v59 v107 v110 v113 (ix2 i f) = hid g hg v107 v110 v113 5 i f := by
  pointwise [k0_pay22]
  rw [lane_pick g 5 hg (by omega) (fun x => v59 (ix2 i x)) (fun x => h59 i x)]; rfl

/-- What a chunk adds to the output block, from the first six experts' hidden entries and the last two's values. -/
theorem back_apply (v32 v39 : FVec Ideal S1024x1 .f32) (v58 : FVec Ideal S1024x128 .f32) (v88 : Ideal .f32) (a b c d e f : FVec Ideal S128x256 .bf16)
    (ha : ∀ i q, a (ix2 i q) = hid g hg v107 v110 v113 0 i q) (hb : ∀ i q, b (ix2 i q) = hid g hg v107 v110 v113 1 i q)
    (hc : ∀ i q, c (ix2 i q) = hid g hg v107 v110 v113 2 i q) (hd : ∀ i q, d (ix2 i q) = hid g hg v107 v110 v113 3 i q)
    (he : ∀ i q, e (ix2 i q) = hid g hg v107 v110 v113 4 i q) (hf : ∀ i q, f (ix2 i q) = hid g hg v107 v110 v113 5 i q)
    (x5 : Vec Ideal S1x2048x1024 .bf16) (o : Vec Ideal S1024x1024 .f32) (t j : Fin 1024) :
    (k0_pay25 (F := Ideal) (BitVec.ofNat 32 g) v32 v39 v58 v59 v88 v107 v110 v113 a b c d e f (k0_pay23 (BitVec.ofNat 32 g) v59 v107) (k0_pay24 v110 v113) x5 o
        (ix2 t j) : EReal)
      = o (ix2 t j) + ∑ i : Fin 128, (if (v32 (ix2 t (0 : Fin 1)) : EReal) = v88 + v58 (ix2 t i) ∧ (0 : EReal) < v39 (ix2 t (0 : Fin 1)) then (1 : EReal) else 0)
          * ∑ x : Fin 8, ∑ q : Fin 256, hid g hg v107 v110 v113 x i q * x5 (ix3 (0 : Fin 1) (col x q) j) := by
  pointwise [k0_pay25]
  refine congrArg (o (ix2 t j) + ·) (Finset.sum_congr rfl fun i _ => ?_)
  refine congr_arg₂ (· * ·) ?_ ?_
  · rw [flag]
    simp only [andi_iff, WordArith.ofBool_eq_one_iff, decide_eq_true_eq]
  · rw [sum_cols]
    refine Finset.sum_congr rfl fun x _ => Finset.sum_congr rfl fun q _ => ?_
    refine congrArg (· * _) ?_
    rw [lane_pick g 7 hg (by omega) (fun x => v59 (ix2 i x)) (fun x => h59 i x)]
    have h6 : ∀ q, (k0_pay24 v110 v113 (ix2 i q) : EReal) * k0_pay23 (BitVec.ofNat 32 g) v59 v107 (ix2 i (0 : Fin 1)) = hid g hg v107 v110 v113 6 i q := by
      intro q
      pointwise [k0_pay24, k0_pay23]
      rw [lane_pick g 6 hg (by omega) (fun x => v59 (ix2 i x)) (fun x => h59 i x)]; rfl
    have h7 : ∀ n (hn : 1792 + n < 2048) (hn' : n < 256), (v110 (ix2 i ⟨1792 + n, hn⟩) * Ideal.div 1 (1 + Ideal.exp (0 - v110 (ix2 i ⟨1792 + n, hn⟩)))
        * v113 (ix2 i ⟨1792 + n, hn⟩) * v107 (ix2 i ⟨8 * g + 7, by omega⟩) : EReal) = hid g hg v107 v110 v113 7 i ⟨n, hn'⟩ := fun n hn hn' => rfl
    have hxv := x.isLt
    have hqv := q.isLt
    simp only [ha, hb, hc, hd, he, hf, h6]
    split; · exact hid_congr (by show 0 = x.val; omega) (by show _ = q.val; dsimp only; omega)
    split; · exact hid_congr (by show 1 = x.val; omega) (by show _ = q.val; dsimp only; omega)
    split; · exact hid_congr (by show 2 = x.val; omega) (by show _ = q.val; dsimp only; omega)
    split; · exact hid_congr (by show 3 = x.val; omega) (by show _ = q.val; dsimp only; omega)
    split; · exact hid_congr (by show 4 = x.val; omega) (by show _ = q.val; dsimp only; omega)
    split; · exact hid_congr (by show 5 = x.val; omega) (by show _ = q.val; dsimp only; omega)
    split; · exact hid_congr (by show 6 = x.val; omega) (by show _ = q.val; dsimp only; omega)
    rw [h7 _ _ (by omega)]
    exact hid_congr (by show 7 = x.val; omega) (by show _ = q.val; dsimp only; omega)

end Cert.Moe

end
-- ==== Proof.Chunk.lean ====
/-
  One chunk, and all of them: every member of the group receives its experts' sum exactly once.
-/
module

public import proofs.«01_k».proof.Proof.Hidden

@[expose] public section

set_option maxRecDepth 16384

noncomputable section

namespace Cert.Moe

open Idealize.ShloMosaic Idealize.ShloMosaic.TcCoe
open Cert.KernelIdeal Cert.KernelIdeal.Gen

/-- What the eight experts of a group make of a token: its row, its gates, and the group's weights. -/
def experts (g : ℕ) (hg : g < 4) (x : Fin 1024 → EReal) (c : Fin 128 → EReal) (x3 x4 : Vec Ideal S1x1024x2048 .bf16) (x5 : Vec Ideal S1x2048x1024 .bf16)
    (d : Fin 1024) : EReal :=
  ∑ e : Fin 8, ∑ f : Fin 256, act (∑ s, x s * x3 (ix3 (0 : Fin 1) s (col e f))) (∑ s, x s * x4 (ix3 (0 : Fin 1) s (col e f))) (c ⟨8 * g + e.val, by omega⟩)
    * x5 (ix3 (0 : Fin 1) (col e f) d)

/-- What the values before the loop say: `P` marks the members, in the order of the tokens, and `C` are the gates. -/
structure Routed (P : ℕ → Prop) [DecidablePred P] (C : Fin 1024 → Fin 128 → EReal) (v18 v25 : FVec Ideal S1x1024 .f32) (v32 v39 : FVec Ideal S1024x1 .f32)
    (v52 : FVec Ideal S1024x384 .bf16) (v56 : FVec Ideal S128x1024 .f32) (v58 : FVec Ideal S1024x128 .f32) (v59 : IVec S128x128 32) : Prop where
  h18 : ∀ t : Fin 1024, (v18 (ix2 (0 : Fin 1) t) : EReal) = if P t.val then 1 else 0
  h25 : ∀ t : Fin 1024, (v25 (ix2 (0 : Fin 1) t) : EReal) = ((Nat.count P t.val : ℝ) : EReal)
  h32 : ∀ t : Fin 1024, (v32 (ix2 t (0 : Fin 1)) : EReal) = ((Nat.count P t.val : ℝ) : EReal)
  h39 : ∀ t : Fin 1024, (v39 (ix2 t (0 : Fin 1)) : EReal) = if P t.val then 1 else 0
  h52 : ∀ (t : Fin 1024) (l : Fin 384), (v52 (ix2 t l) : EReal) = if h : l.val < 128 then C t ⟨l.val, h⟩ else 0
  h56 : ∀ (i : Fin 128) (t : Fin 1024), (v56 (ix2 i t) : EReal) = ((i.val : ℝ) : EReal)
  h58 : ∀ (i : Fin 128) (t : Fin 1024), (v58 (ix2 t i) : EReal) = ((i.val : ℝ) : EReal)
  h59 : ∀ i x : Fin 128, v59 (ix2 i x) = BitVec.ofNat 32 x.val

/-- The first place of chunk `k`. -/
theorem base_eq (v44 : BitVec 32) (k : Fin (k0_t1_loop v44).trips) (hk : k.val < 2 ^ 20) :
    (k0_pay2 (F := Ideal) v44 0#32 1#32 k : EReal) = (((128 * k.val : ℕ) : ℝ) : EReal) := by
  have e : Scalar.muli (Scf.iv 0#32 1#32 k.val) 128#32 = BitVec.ofNat 32 (128 * k.val) := by
    show (0#32 + BitVec.ofNat 32 k.val * 1#32) * BitVec.ofNat 32 128 = _
    rw [BitVec.zero_add, BitVec.mul_one, Nat.mul_comm, BitVec.ofNat_mul]
  show (FloatOps.sitofp (F := Ideal) .f32 (Scalar.muli (Scf.iv 0#32 1#32 k.val) 128#32) : EReal) = _
  rw [e, sitofp_ofNat _ _ (by omega)]

theorem place_iff (n a i : ℕ) : (((n : ℝ) : EReal)) = ((a : ℕ) : ℝ) + ((i : ℝ) : EReal) ↔ n = a + i := by
  rw [← EReal.coe_add, EReal.coe_eq_coe_iff]
  exact_mod_cast Iff.rfl

theorem pos_iff (p : Prop) [Decidable p] : (0 : EReal) < (if p then 1 else 0) ↔ p := by
  by_cases h : p <;> simp [h]

variable {P : ℕ → Prop} [DecidablePred P] {C : Fin 1024 → Fin 128 → EReal} {v18 v25 : FVec Ideal S1x1024 .f32} {v32 v39 : FVec Ideal S1024x1 .f32}
  {v52 : FVec Ideal S1024x384 .bf16} {v56 : FVec Ideal S128x1024 .f32} {v58 : FVec Ideal S1024x128 .f32} {v59 : IVec S128x128 32}
  (R : Routed P C v18 v25 v32 v39 v52 v56 v58 v59) (v44 : BitVec 32) (k : Fin (k0_t1_loop v44).trips) (hk : k.val < 2 ^ 20)
  (v54 : FVec Ideal S1024x1024 .bf16)

include R hk

/-- The row of the gathering matrix: a one at the member whose place it is. -/
theorem gather_apply (i : Fin 128) (t : Fin 1024) :
    (k0_pay3 (F := Ideal) v18 v25 v44 v56 0#32 1#32 k (ix2 i t) : EReal) = if Nat.count P t.val = 128 * k.val + i.val ∧ P t.val then 1 else 0 := by
  have hb := base_eq v44 k hk
  pointwise [k0_pay3]
  rw [flag]
  simp only [andi_iff, WordArith.ofBool_eq_one_iff, decide_eq_true_eq, R.h25, R.h18, R.h56, hb, place_iff, pos_iff]

/-- At a member's place the row is a one at that member. -/
theorem gather_member (i : Fin 128) (t : Fin 1024) (ht : P t.val) (hi : Nat.count P t.val = 128 * k.val + i.val) (r : Fin 1024) :
    (k0_pay3 (F := Ideal) v18 v25 v44 v56 0#32 1#32 k (ix2 i r) : EReal) = if r = t then 1 else 0 := by
  rw [gather_apply R v44 k hk]
  refine if_congr ⟨fun h => ?_, fun h => ?_⟩ rfl rfl
  · exact Fin.ext (Nat.count_injective h.2 ht (h.1.trans hi.symm))
  · subst h; exact ⟨hi, ht⟩

theorem gates_member (i : Fin 128) (t : Fin 1024) (ht : P t.val) (hi : Nat.count P t.val = 128 * k.val + i.val) (l : Fin 128) :
    (k0_pay5 (F := Ideal) v18 v25 v44 v52 v56 0#32 1#32 k (ix2 i l) : EReal) = C t l := by
  pointwise [k0_pay5]
  simp only [gather_member R v44 k hk i t ht hi]
  simp only [sum_pick, R.h52]
  rw [dif_pos (by exact l.isLt), dif_neg (by show ¬ (128 + l.val < 128); omega), dif_neg (by show ¬ (256 + l.val < 128); omega), add_zero, add_zero]

theorem gate_member (x3 : Vec Ideal S1x1024x2048 .bf16) (i : Fin 128) (t : Fin 1024) (ht : P t.val) (hi : Nat.count P t.val = 128 * k.val + i.val)
    (q : Fin 2048) :
    (k0_pay6 (F := Ideal) v18 v25 v44 v54 v56 0#32 1#32 k x3 (ix2 i q) : EReal) = ∑ s : Fin 1024, v54 (ix2 t s) * x3 (ix3 (0 : Fin 1) s q) := by
  pointwise [k0_pay6, k0_pay4]
  simp only [gather_member R v44 k hk i t ht hi]
  simp only [sum_pick]

theorem up_member (x4 : Vec Ideal S1x1024x2048 .bf16) (i : Fin 128) (t : Fin 1024) (ht : P t.val) (hi : Nat.count P t.val = 128 * k.val + i.val)
    (q : Fin 2048) :
    (k0_pay7 (F := Ideal) v18 v25 v44 v54 v56 0#32 1#32 k x4 (ix2 i q) : EReal) = ∑ s : Fin 1024, v54 (ix2 t s) * x4 (ix3 (0 : Fin 1) s q) :=
  gate_member R v44 k hk v54 x4 i t ht hi q

/-- What one chunk adds. -/
theorem step_apply (g : ℕ) (hg : g < 4) (x3 x4 : Vec Ideal S1x1024x2048 .bf16) (x5 : Vec Ideal S1x2048x1024 .bf16) (o : Vec Ideal S1024x1024 .f32)
    (t d : Fin 1024) :
    (stepO (F := Ideal) (BitVec.ofNat 32 g) v18 v25 v32 v39 v44 v52 v54 v56 v58 v59 0#32 x3 x4 x5 k o (ix2 t d) : EReal)
      = o (ix2 t d) + if P t.val ∧ Nat.count P t.val / 128 = k.val then experts g hg (fun s => v54 (ix2 t s)) (C t) x3 x4 x5 d else 0 := by
  have hb := base_eq v44 k hk
  unfold stepO
  rw [back_apply g hg v59 R.h59 _ _ _ v32 v39 v58 _ _ _ _ _ _ _ ?_ (hid1 g hg v59 R.h59 _ _ _) (hid2 g hg v59 R.h59 _ _ _) (hid3 g hg v59 R.h59 _ _ _)
    (hid4 g hg v59 R.h59 _ _ _) (hid5 g hg v59 R.h59 _ _ _)]
  · refine congrArg (o (ix2 t d) + ·) ?_
    simp only [R.h32, R.h39, R.h58, hb, place_iff, pos_iff]
    by_cases h : P t.val ∧ Nat.count P t.val / 128 = k.val
    · rw [if_pos h]
      have hi : Nat.count P t.val = 128 * k.val + (⟨Nat.count P t.val % 128, Nat.mod_lt _ (by decide)⟩ : Fin 128).val := by
        show _ = 128 * k.val + Nat.count P t.val % 128
        omega
      generalize (⟨Nat.count P t.val % 128, Nat.mod_lt _ (by decide)⟩ : Fin 128) = i0 at hi
      have e : ∀ i : Fin 128, (Nat.count P t.val = 128 * k.val + i.val ∧ P t.val) = (i = i0) := fun i =>
        propext ⟨fun hh => Fin.ext (by omega), fun hh => ⟨by rw [hh]; exact hi, h.1⟩⟩
      simp only [e]
      rw [sum_pick]
      refine Finset.sum_congr rfl fun x _ => Finset.sum_congr rfl fun q _ => congrArg (· * _) ?_
      unfold hid
      rw [gate_member R v44 k hk v54 x3 i0 t h.1 hi, up_member R v44 k hk v54 x4 i0 t h.1 hi, gates_member R v44 k hk i0 t h.1 hi]
    · rw [if_neg h]
      refine Finset.sum_eq_zero fun i _ => ?_
      rw [if_neg, zero_mul]
      rintro ⟨hh, hp⟩
      exact h ⟨hp, by omega⟩
  · intro i q
    pointwise [k0_pay11, k0_pay8, k0_pay9, k0_pay10]
    have := lane_pick g 0 hg (by omega) (fun x => v59 (ix2 i x)) (fun x => R.h59 i x)
    rw [this]
    have e : col 0 q = ⟨q.val, by omega⟩ := Fin.ext (by show 256 * 0 + q.val = q.val; omega)
    unfold hid act
    rw [e]
    rfl

omit hk k
/-- All chunks before `n`. -/
theorem acc_apply (g : ℕ) (hg : g < 4) (x3 x4 : Vec Ideal S1x1024x2048 .bf16) (x5 : Vec Ideal S1x2048x1024 .bf16) (o : Vec Ideal S1024x1024 .f32)
    (t d : Fin 1024) (n : ℕ) (hn : n ≤ (k0_t1_loop v44).trips) (hn' : n < 2 ^ 20) :
    (accO (F := Ideal) (BitVec.ofNat 32 g) v18 v25 v32 v39 v44 v52 v54 v56 v58 v59 0#32 x3 x4 x5 o n (ix2 t d) : EReal)
      = o (ix2 t d) + if P t.val ∧ Nat.count P t.val / 128 < n then experts g hg (fun s => v54 (ix2 t s)) (C t) x3 x4 x5 d else 0 := by
  induction n with
  | zero => rw [accO, if_neg (by simp), add_zero]
  | succ n ih =>
    rw [accO, dif_pos (by omega), step_apply R v44 ⟨n, by omega⟩ (by show n < _; omega) v54 g hg, ih (by omega) (by omega), add_assoc]
    refine congrArg (o (ix2 t d) + ·) ?_
    by_cases hp : P t.val
    · rcases Nat.lt_trichotomy (Nat.count P t.val / 128) n with h | h | h
      · rw [if_pos ⟨hp, h⟩, if_neg (by rintro ⟨_, h'⟩; dsimp only at h'; omega), if_pos ⟨hp, by omega⟩, add_zero]
      · rw [if_neg (by rintro ⟨_, h'⟩; omega), if_pos ⟨hp, h⟩, if_pos ⟨hp, by omega⟩, zero_add]
      · rw [if_neg (by rintro ⟨_, h'⟩; omega), if_neg (by rintro ⟨_, h'⟩; dsimp only at h'; omega), if_neg (by rintro ⟨_, h'⟩; omega), add_zero]
    · rw [if_neg (fun h => hp h.1), if_neg (fun h => hp h.1), if_neg (fun h => hp h.1), add_zero]

/-- All chunks: a member receives its experts' sum, another token nothing. -/
theorem chunks_apply (hc : v44 = BitVec.ofNat 32 (Nat.count P 1024)) (g : ℕ) (hg : g < 4) (x3 x4 : Vec Ideal S1x1024x2048 .bf16)
    (x5 : Vec Ideal S1x2048x1024 .bf16) (o : Vec Ideal S1024x1024 .f32) (t d : Fin 1024) :
    (accO (F := Ideal) (BitVec.ofNat 32 g) v18 v25 v32 v39 v44 v52 v54 v56 v58 v59 0#32 x3 x4 x5 o (k0_t1_loop v44).trips (ix2 t d) : EReal)
      = o (ix2 t d) + if P t.val then experts g hg (fun s => v54 (ix2 t s)) (C t) x3 x4 x5 d else 0 := by
  have hle : Nat.count P 1024 ≤ 1024 := Nat.count_le _
  have htr : (k0_t1_loop v44).trips = (Nat.count P 1024 + 127) / 128 := by rw [hc]; exact trips_of_count _ hle
  rw [acc_apply R v44 v54 g hg x3 x4 x5 o t d _ (Nat.le_refl _) (by omega)]
  refine congrArg (o (ix2 t d) + ·) (if_congr ⟨fun h => h.1, fun h => ⟨h, ?_⟩⟩ rfl rfl)
  have hlt : Nat.count P t.val < Nat.count P 1024 := Nat.count_strict_mono h t.isLt
  omega

end Cert.Moe

end
-- ==== Proof.Tile.lean ====
/-
  One grid point: what the output block holds after the group's chunks, from the blocks the point reads.
-/
module

public import proofs.«01_k».proof.Proof.Chunk

@[expose] public section

set_option maxRecDepth 16384

noncomputable section

namespace Cert.Moe

open Idealize.ShloMosaic Idealize.ShloMosaic.TcCoe
open Cert.KernelIdeal Cert.KernelIdeal.Gen

theorem lane_lt {g : ℕ} (hg : g < 4) : 32 + g < 128 := by omega

variable (i : grid0.Coords) (g : ℕ) (hg : g < 4) (hi : (i 1).val = g) (x2 : Vec Ideal S1024x128 .f32)
  (hfin : ∀ j, (x2 j : EReal) ≠ ⊤ ∧ (x2 j : EReal) ≠ ⊥) (P : ℕ → Prop) [DecidablePred P]
  (hP : ∀ t : Fin 1024, (x2 (ix2 t ⟨32 + g, lane_lt hg⟩) : EReal) = if P t.val then 1 else 0)

include hi hP

/-- The number of members, as the word that bounds the loop. -/
theorem count_eq : count i (k0_pay55 x2) = BitVec.ofNat 32 (Nat.count P 1024) := by
  have e : (k0_pay63 (F := Ideal) (k0_pay58 i (k0_pay55 x2)) : EReal) = ((Nat.count P 1024 : ℝ) : EReal) := by
    rw [total_apply, ← sum_flags_count]
    refine Finset.sum_congr rfl fun t _ => ?_
    rw [row_apply i ⟨g, by omega⟩ hi, member_apply x2 ⟨g, by omega⟩ t hg]
    exact hP t
  show Scalar.fptosi (F := Ideal) 32 (φ := .f32) _ = _
  rw [e]
  have : Nat.count P 1024 ≤ 1024 := Nat.count_le _
  exact fptosi_nat .f32 _ (by omega)

include hfin in
/-- The values before the loop. -/
theorem routed : Routed P (fun t l => x2 (ix2 t l)) (k0_pay58 i (k0_pay55 x2)) (k0_pay59 i (k0_pay56 x2 (k0_pay50 (F := Ideal))))
    (k0_pay60 i (k0_pay57 x2 (k0_pay50 (F := Ideal)))) (k0_pay62 (k0_pay51 x2) (k0_pay61 i)) (k0_pay64 (k0_pay51 x2)) (k0_pay66 (F := Ideal))
    (k0_pay67 (F := Ideal)) (iota .tc S128x128 32 [1] iota_S128x128_d1_w32) where
  h18 t := by
    rw [row_apply i ⟨g, by omega⟩ hi, member_apply x2 ⟨g, by omega⟩ t hg]
    exact hP t
  h25 t := by
    rw [row_apply' i ⟨g, by omega⟩ hi, rank_apply x2 ⟨g, by omega⟩ t hg, ← sum_flags_below 1024 P t.val (by omega)]
    exact Finset.sum_congr rfl fun r _ => congrArg (· * _) (hP r)
  h32 t := by
    rw [col_apply i ⟨g, by omega⟩ hi, rankT_apply x2 ⟨g, by omega⟩ t hg, ← sum_flags_below 1024 P t.val (by omega)]
    exact Finset.sum_congr rfl fun r _ => congrArg (· * _) (hP r)
  h39 t := by
    rw [inCol_apply i g hi hg]
    exact hP t
  h52 t l := by
    have e : ∀ j, k0_pay51 x2 j = x2 j := fun j => by
      obtain ⟨a, b, rfl⟩ : ∃ (a : Fin 1024) (b : Fin 128), j = ix2 a b := ⟨j 0, j 1, eq_ix2 j⟩
      pointwise [k0_pay51]
    rw [parts_apply (k0_pay51 x2) (fun j => by rw [e]; exact hfin j)]
    simp only [e]
  h56 := rows_apply
  h58 := lanes_apply
  h59 a x := by pointwise []

include hfin in
/-- The output block after the group's chunks: the members have their experts' sum added. -/
theorem mid_apply (x0 : Vec Ideal S1024x1024 .bf16) (x3 x4 : Vec Ideal S1x1024x2048 .bf16) (x5 : Vec Ideal S1x2048x1024 .bf16)
    (o : Vec Ideal S1024x1024 .f32) (t d : Fin 1024) :
    (mid i x0 x2 x3 x4 x5 (k0_pay55 x2) (k0_pay56 x2 (k0_pay50 (F := Ideal))) (k0_pay57 x2 (k0_pay50 (F := Ideal))) o (ix2 t d) : EReal)
      = (if opens i then 0 else (o (ix2 t d) : EReal))
        + if P t.val then experts g hg (fun s => x0 (ix2 t s)) (fun l => x2 (ix2 t l)) x3 x4 x5 d else 0 := by
  subst hi
  have R := routed i _ hg rfl x2 hfin P hP
  have h := chunks_apply R (count i (k0_pay55 x2)) (k0_pay65 x0) (count_eq i _ hg rfl x2 P hP) _ hg x3 x4 x5 (if opens i then k0_pay52 (F := Ideal) else o) t d
  unfold mid chunks
  refine h.trans ?_
  refine congr_arg₂ (· + ·) ?_ ?_
  · split
    · pointwise [k0_pay52]
    · rfl
  · simp only [tokens_apply]

end Cert.Moe

end
-- ==== Proof.Host.lean ====
/-
  The arrays the kernel call reads, at an index, from the program's arguments.
-/
module

public import proofs.«01_k».proof.Proof.Launch
public import proofs.«01_k».proof.Proof.Tile

@[expose] public section

set_option maxRecDepth 16384

noncomputable section

namespace Cert.Moe

open Idealize.ShloMosaic Idealize.ShloMosaic.TcCoe Idealize.ShloMosaic.StableHlo
open Cert.KernelIdeal Cert.KernelIdeal.Gen

section Whole
variable {F : FTy → Type} [FloatOps F] (m : (ℓ : Loc nD τ sig) → Buf (Elt F) ℓ) (c : Dev nD)

/-- Each token's group as a row of zeros and a one. -/
def mask (g : Vec F S16384 .i32) : Vec F S16384x4 .f32 :=
  uitofp .f32 (cmpi .eq (broadcastInDim S16384x4 ![0, 1] bcast_S16384x1_S16384x4_0_1 (broadcastInDim S16384x1 ![0] bcast_S16384_S16384x1_0 g))
    (broadcastInDim S16384x4 ![0, 1] bcast_S1x4_S16384x4_0_1 (iotaInDim S1x4 32 1)))

/-- The gates of all the experts, at zero outside a token's group. -/
def allGates (comb : Vec F S16384x8 .f32) (g : Vec F S16384 .i32) : Vec F S16384x4x8 .f32 :=
  mulf (broadcastInDim S16384x4x8 ![0, 1, 2] bcast_S16384x4x1_S16384x4x8_0_1_2 (broadcastInDim S16384x4x1 ![0, 1] bcast_S16384x4_S16384x4x1_0_1 (mask g)))
    (broadcastInDim S16384x4x8 ![0, 1, 2] bcast_S16384x1x8_S16384x4x8_0_1_2 (broadcastInDim S16384x1x8 ![0, 2] bcast_S16384x8_S16384x1x8_0_2 comb))

/-- The gates and the groups side by side, padded to the lanes. -/
def lanes (comb : Vec F S16384x8 .f32) (g : Vec F S16384 .i32) : Vec F S16384x128 .f32 :=
  concatenate S16384x128 1 [⟨S16384x32, shapeCast S16384x32 (allGates comb g) shapeCasts_S16384x4x8_S16384x32⟩, ⟨S16384x4, mask g⟩,
    ⟨S16384x92, broadcastInDim S16384x92 ![] bcast_S_S16384x92 (constant S_ .f32 0x00000000#32)⟩] concatenates_S16384x32_S16384x4_S16384x92_S16384x128_d1

/-- A projection's weights with the experts' columns side by side. -/
def wide (w : Vec F S4x8x1024x256 .f32) : Vec F S4x1024x2048 .bf16 :=
  shapeCast S4x1024x2048 (transpose S4x1024x8x256 [0, 2, 1, 3] (truncf .bf16 w bitsLt_bf16_f32) transposes_S4x8x1024x256_S4x1024x8x256_0_2_1_3)
    shapeCasts_S4x1024x8x256_S4x1024x2048

/-- The projection back, the experts' rows one below the other. -/
def tall (w : Vec F S4x8x256x1024 .f32) : Vec F S4x2048x1024 .bf16 :=
  shapeCast S4x2048x1024 (truncf .bf16 w bitsLt_bf16_f32 : Vec F S4x8x256x1024 .bf16) shapeCasts_S4x8x256x1024_S4x2048x1024

theorem V_all :
    V m c main_v8 = lanes (m ((c.tc : Thread nD τ).loc main_arg1)) (m ((c.tc : Thread nD τ).loc main_arg2))
    ∧ V m c main_v9 = truncf .bf16 (m ((c.tc : Thread nD τ).loc main_arg0)) bitsLt_bf16_f32
    ∧ V m c main_v12 = wide (m ((c.tc : Thread nD τ).loc main_arg3))
    ∧ V m c main_v15 = wide (m ((c.tc : Thread nD τ).loc main_arg4))
    ∧ V m c main_v17 = tall (m ((c.tc : Thread nD τ).loc main_arg5))
    ∧ V m c main_v18 = broadcastInDim S1x1024 ![1] bcast_S1024_S1x1024_1 (m ((c.tc : Thread nD τ).loc main_arg6))
    ∧ V m c main_v19 = broadcastInDim S1x1024 ![1] bcast_S1024_S1x1024_1 (m ((c.tc : Thread nD τ).loc main_arg7)) := by
  simp only [V, hostOps0, hostOps0_1, List.flatten_cons, List.flatten_nil, List.append_nil, List.cons_append, List.nil_append, TRef.binary, TRef.nullary, TRef.unary, TRef.toBuf, TRef.ofBuf, cast_eq]
  refine ⟨?_, ?_, ?_, ?_, ?_, ?_, ?_⟩ <;> after_results_simp <;> rfl

end Whole

theorem mask_apply (g : Vec Ideal S16384 .i32) (t : Fin 16384) (q : Fin 4) :
    (mask (F := Ideal) g (ix2 t q) : EReal) = if g (ix1 t) = BitVec.ofNat 32 q.val then 1 else 0 := by
  pointwise [mask]
  show (((IntOp.cmpi .eq (g (ix1 t)) (BitVec.ofNat 32 q.val)).toNat : ℝ) : EReal) = _
  by_cases e : g (ix1 t) = BitVec.ofNat 32 q.val <;> simp [IntOp.cmpi, e]

theorem allGates_apply (comb : Vec Ideal S16384x8 .f32) (g : Vec Ideal S16384 .i32) (t : Fin 16384) (q : Fin 4) (e : Fin 8) :
    (allGates comb g (ix3 t q e) : EReal) = (if g (ix1 t) = BitVec.ofNat 32 q.val then 1 else 0) * comb (ix2 t e) := by
  pointwise [allGates]
  rw [mask_apply]

theorem lanes_gate (comb : Vec Ideal S16384x8 .f32) (g : Vec Ideal S16384 .i32) (t : Fin 16384) (q : Fin 4) (e : Fin 8) :
    (lanes comb g (ix2 t ⟨8 * q.val + e.val, by omega⟩) : EReal) = (if g (ix1 t) = BitVec.ofNat 32 q.val then 1 else 0) * comb (ix2 t e) := by
  rw [← allGates_apply]
  pointwise [lanes]
  rw [dif_pos (by omega)]

theorem lanes_group (comb : Vec Ideal S16384x8 .f32) (g : Vec Ideal S16384 .i32) (t : Fin 16384) (q : Fin 4) :
    (lanes comb g (ix2 t ⟨32 + q.val, by omega⟩) : EReal) = if g (ix1 t) = BitVec.ofNat 32 q.val then 1 else 0 := by
  rw [← mask_apply]
  pointwise [lanes]

theorem lanes_rest (comb : Vec Ideal S16384x8 .f32) (g : Vec Ideal S16384 .i32) (t : Fin 16384) (l : Fin 128) (h : 36 ≤ l.val) :
    (lanes comb g (ix2 t l) : EReal) = 0 := by
  pointwise [lanes]
  rw [dif_neg (by omega), dif_neg (by omega)]

theorem wide_apply (w : Vec Ideal S4x8x1024x256 .f32) (q : Fin 4) (s : Fin 1024) (e : Fin 8) (f : Fin 256) :
    (wide w (ix3 q s (col e f)) : EReal) = w (ix4 q e s f) := by
  pointwise [wide]
  rw [show (⟨(256 * e.val + f.val) / 256, by omega⟩ : Fin 8) = e from Fin.ext (by show (256 * e.val + f.val) / 256 = e.val; omega),
    show (⟨(256 * e.val + f.val) % 256, by omega⟩ : Fin 256) = f from Fin.ext (by show (256 * e.val + f.val) % 256 = f.val; omega)]

theorem tall_apply (w : Vec Ideal S4x8x256x1024 .f32) (q : Fin 4) (d : Fin 1024) (e : Fin 8) (f : Fin 256) :
    (tall w (ix3 q (col e f) d) : EReal) = w (ix4 q e f d) := by
  pointwise [tall]
  rw [show (⟨(256 * e.val + f.val) / 256, by omega⟩ : Fin 8) = e from Fin.ext (by show (256 * e.val + f.val) / 256 = e.val; omega),
    show (⟨(256 * e.val + f.val) % 256, by omega⟩ : Fin 256) = f from Fin.ext (by show (256 * e.val + f.val) % 256 = f.val; omega)]

end Cert.Moe

end
-- ==== Proof.Blocks.lean ====
/-
  The blocks a grid point reads, at an index: which rows and which group each window's block is.
-/
module

public import proofs.«01_k».proof.Proof.Host

@[expose] public section

set_option maxRecDepth 16384

noncomputable section

namespace Cert.Moe

open Idealize.ShloMosaic Idealize.ShloMosaic.TcCoe
open Cert.KernelIdeal Cert.KernelIdeal.Gen

variable {F : FTy → Type} [FloatOps F] (m : (ℓ : Loc nD τ sig) → Buf (Elt F) ℓ) (c : Dev nD)

/-- Row `r` of a point's tile, among all the rows. -/
abbrev row (t : Fin cfg0.N) (r : Fin 1024) : Fin 16384 :=
  ⟨1024 * (t.val / 4) + r.val, by have : t.val < 64 := lt_of_lt_of_eq t.isLt N_0; omega⟩

/-- A point's group. -/
abbrev grp (t : Fin cfg0.N) : Fin 4 := ⟨t.val % 4, by omega⟩

theorem index_tile : ∀ t : Fin cfg0.N, (win0_0.index t (0 : Fin 2) = t.val / 4 ∧ win0_0.index t (1 : Fin 2) = 0)
    ∧ (win0_1.index t (0 : Fin 2) = t.val / 4 ∧ win0_1.index t (1 : Fin 2) = 0)
    ∧ (win0_2.index t (0 : Fin 2) = t.val / 4 ∧ win0_2.index t (1 : Fin 2) = 0)
    ∧ (win0_8.index t (0 : Fin 2) = t.val / 4 ∧ win0_8.index t (1 : Fin 2) = 0) :=
  (by decide +kernel : ∀ t : Fin grid0.N, _)

theorem index_group : ∀ t : Fin cfg0.N, (win0_3.index t (0 : Fin 3) = t.val % 4 ∧ win0_3.index t (1 : Fin 3) = 0 ∧ win0_3.index t (2 : Fin 3) = 0)
    ∧ (win0_4.index t (0 : Fin 3) = t.val % 4 ∧ win0_4.index t (1 : Fin 3) = 0 ∧ win0_4.index t (2 : Fin 3) = 0)
    ∧ (win0_5.index t (0 : Fin 3) = t.val % 4 ∧ win0_5.index t (1 : Fin 3) = 0 ∧ win0_5.index t (2 : Fin 3) = 0) :=
  (by decide +kernel : ∀ t : Fin grid0.N, _)

theorem index_whole : ∀ t : Fin cfg0.N, (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem blk0 (t : Fin cfg0.N) (r s : Fin 1024) : iblk m c 0 t (ix2 r s) = V m c main_v9 (ix2 (row t r) s) := by
  obtain ⟨⟨h0, h1⟩, -⟩ := index_tile t
  refine congrArg (V m c main_v9) (funext fun a => Fin.ext ?_)
  match a with
  | ⟨0, _⟩ => show win0_0.index t (0 : Fin 2) * 1024 + 1 * r.val = 1024 * (t.val / 4) + r.val; omega
  | ⟨1, _⟩ => show win0_0.index t (1 : Fin 2) * 1024 + 1 * s.val = s.val; omega

theorem blk1 (t : Fin cfg0.N) (r s : Fin 1024) : iblk m c 1 t (ix2 r s) = V m c main_arg0 (ix2 (row t r) s) := by
  obtain ⟨-, ⟨h0, h1⟩, -⟩ := index_tile t
  refine congrArg (V m c main_arg0) (funext fun a => Fin.ext ?_)
  match a with
  | ⟨0, _⟩ => show win0_1.index t (0 : Fin 2) * 1024 + 1 * r.val = 1024 * (t.val / 4) + r.val; omega
  | ⟨1, _⟩ => show win0_1.index t (1 : Fin 2) * 1024 + 1 * s.val = s.val; omega

theorem blk2 (t : Fin cfg0.N) (r : Fin 1024) (l : Fin 128) : iblk m c 2 t (ix2 r l) = V m c main_v8 (ix2 (row t r) l) := by
  obtain ⟨-, -, ⟨h0, h1⟩, -⟩ := index_tile t
  refine congrArg (V m c main_v8) (funext fun a => Fin.ext ?_)
  match a with
  | ⟨0, _⟩ => show win0_2.index t (0 : Fin 2) * 1024 + 1 * r.val = 1024 * (t.val / 4) + r.val; omega
  | ⟨1, _⟩ => show win0_2.index t (1 : Fin 2) * 128 + 1 * l.val = l.val; omega

theorem blk3 (t : Fin cfg0.N) (s : Fin 1024) (q : Fin 2048) : iblk m c 3 t (ix3 0 s q) = V m c main_v12 (ix3 (grp t) s q) := by
  obtain ⟨⟨h0, h1, h2⟩, -⟩ := index_group t
  refine congrArg (V m c main_v12) (funext fun a => Fin.ext ?_)
  match a with
  | ⟨0, _⟩ => show win0_3.index t (0 : Fin 3) * 1 + 1 * 0 = t.val % 4; omega
  | ⟨1, _⟩ => show win0_3.index t (1 : Fin 3) * 1024 + 1 * s.val = s.val; omega
  | ⟨2, _⟩ => show win0_3.index t (2 : Fin 3) * 2048 + 1 * q.val = q.val; omega

theorem blk4 (t : Fin cfg0.N) (s : Fin 1024) (q : Fin 2048) : iblk m c 4 t (ix3 0 s q) = V m c main_v15 (ix3 (grp t) s q) := by
  obtain ⟨-, ⟨h0, h1, h2⟩, -⟩ := index_group t
  refine congrArg (V m c main_v15) (funext fun a => Fin.ext ?_)
  match a with
  | ⟨0, _⟩ => show win0_4.index t (0 : Fin 3) * 1 + 1 * 0 = t.val % 4; omega
  | ⟨1, _⟩ => show win0_4.index t (1 : Fin 3) * 1024 + 1 * s.val = s.val; omega
  | ⟨2, _⟩ => show win0_4.index t (2 : Fin 3) * 2048 + 1 * q.val = q.val; omega

theorem blk5 (t : Fin cfg0.N) (q : Fin 2048) (d : Fin 1024) : iblk m c 5 t (ix3 0 q d) = V m c main_v17 (ix3 (grp t) q d) := by
  obtain ⟨-, -, h0, h1, h2⟩ := index_group t
  refine congrArg (V m c main_v17) (funext fun a => Fin.ext ?_)
  match a with
  | ⟨0, _⟩ => show win0_5.index t (0 : Fin 3) * 1 + 1 * 0 = t.val % 4; omega
  | ⟨1, _⟩ => show win0_5.index t (1 : Fin 3) * 2048 + 1 * q.val = q.val; omega
  | ⟨2, _⟩ => show win0_5.index t (2 : Fin 3) * 1024 + 1 * d.val = d.val; omega

theorem blk6 (t : Fin cfg0.N) (d : Fin 1024) : iblk m c 6 t (ix2 0 d) = V m c main_v18 (ix2 0 d) := by
  obtain ⟨⟨h0, h1⟩, -⟩ := index_whole t
  refine congrArg (V m c main_v18) (funext fun a => Fin.ext ?_)
  match a with
  | ⟨0, _⟩ => show win0_6.index t (0 : Fin 2) * 1 + 1 * 0 = 0; omega
  | ⟨1, _⟩ => show win0_6.index t (1 : Fin 2) * 1024 + 1 * d.val = d.val; omega

theorem blk7 (t : Fin cfg0.N) (d : Fin 1024) : iblk m c 7 t (ix2 0 d) = V m c main_v19 (ix2 0 d) := by
  obtain ⟨-, h0, h1⟩ := index_whole t
  refine congrArg (V m c main_v19) (funext fun a => Fin.ext ?_)
  match a with
  | ⟨0, _⟩ => show win0_7.index t (0 : Fin 2) * 1 + 1 * 0 = 0; omega
  | ⟨1, _⟩ => show win0_7.index t (1 : Fin 2) * 1024 + 1 * d.val = d.val; omega

/-- A tile's points read the same gates. -/
theorem blk2_eq (t t' : Fin cfg0.N) (h : t.val / 4 = t'.val / 4) : (iblk m c 2 t : Vec F S1024x128 .f32) = iblk m c 2 t' := by
  funext j
  obtain ⟨r, l, rfl⟩ : ∃ (r : Fin 1024) (l : Fin 128), j = ix2 r l := ⟨j 0, j 1, eq_ix2 j⟩
  refine (blk2 m c t r l).trans ((congrArg (V m c main_v8) ?_).trans (blk2 m c t' r l).symm)
  rw [show row t r = row t' r from Fin.ext (by show 1024 * (t.val / 4) + r.val = 1024 * (t'.val / 4) + r.val; rw [h])]

end Cert.Moe

end
-- ==== Proof.RefValue.lean ====
/-
  The reference's result at an index.
-/
module

public import proofs.«01_k».proof.Proof.Ref
public import proofs.«01_k».proof.Proof.Chunk

@[expose] public section

set_option maxRecDepth 16384

noncomputable section

namespace Cert.Moe

open Idealize.ShloMosaic Idealize.ShloMosaic.TcCoe

/-- One token through the eight experts of a group. -/
def expertsOf (h : Fin 1024 → EReal) (c : Fin 8 → EReal) (wg wu : Fin 8 → Fin 1024 → Fin 256 → EReal) (wd : Fin 8 → Fin 256 → Fin 1024 → EReal)
    (d : Fin 1024) : EReal :=
  ∑ e : Fin 8, ∑ f : Fin 256, act (∑ s, h s * wg e s f) (∑ s, h s * wu e s f) (c e) * wd e f d

/-- With gates zero the group gives nothing. -/
theorem expertsOf_zero (h : Fin 1024 → EReal) (wg wu : Fin 8 → Fin 1024 → Fin 256 → EReal) (wd : Fin 8 → Fin 256 → Fin 1024 → EReal)
    (d : Fin 1024) : expertsOf h (fun _ => 0) wg wu wd d = 0 :=
  Finset.sum_eq_zero fun e _ => Finset.sum_eq_zero fun f _ => by rw [act, mul_zero, zero_mul]

/-- A row's mean. -/
def rowMean (x : Fin 1024 → EReal) : EReal := Ideal.div (∑ s, x s) (Scalar.ofBits (F := Ideal) .f32 0x44800000#32)

/-- A row's layer norm. -/
def rowNorm (x : Fin 1024 → EReal) (g b : Fin 1024 → EReal) (d : Fin 1024) : EReal :=
  (x d - rowMean x) * Scalar.rsqrt (F := Ideal) (φ := .f32) (rowMean (fun s => (x s - rowMean x) * (x s - rowMean x)) + Scalar.ofBits (F := Ideal) .f32 0x3727C5AC#32) * g d + b d

namespace Ref

open Cert.ReferenceIdeal Cert.ReferenceIdeal.Gen

theorem mask_apply (g : Vec Ideal S16384 .i32) (t : Fin 16384) (q : Fin 4) :
    (mask (F := Ideal) g (ix2 t q) : EReal) = if g (ix1 t) = BitVec.ofNat 32 q.val then 1 else 0 := by
  pointwise [mask]
  show (((IntOp.cmpi .eq (g (ix1 t)) (BitVec.ofNat 32 q.val)).toNat : ℝ) : EReal) = _
  by_cases e : g (ix1 t) = BitVec.ofNat 32 q.val <;> simp [IntOp.cmpi, e]

theorem gates_apply (comb : Vec Ideal S16384x8 .f32) (col : Vec Ideal S16384x1 .f32) (t : Fin 16384) (e : Fin 8) :
    (gates comb col (ix2 t e) : EReal) = comb (ix2 t e) * col (ix2 t 0) := by
  pointwise [gates]

theorem proj_apply (h : Vec Ideal S16384x1024 .f32) (w : Vec Ideal S1x8x1024x256 .f32) (t : Fin 16384) (e : Fin 8) (f : Fin 256) :
    (proj h w (ix3 t e f) : EReal) = ∑ s : Fin 1024, (h (ix2 t s) : EReal) * w (ix4 0 e s f) := by
  pointwise [proj]

theorem silu_apply (x : Vec Ideal S16384x8x256 .f32) (t : Fin 16384) (e : Fin 8) (f : Fin 256) :
    (silu x (ix3 t e f) : EReal) = x (ix3 t e f) * Ideal.div 1 (1 + Ideal.exp (0 - x (ix3 t e f))) := by
  pointwise [silu]
  rw [zero_sub]

theorem group_apply (h : Vec Ideal S16384x1024 .f32) (cw : Vec Ideal S16384x8 .f32) (wg wu : Vec Ideal S1x8x1024x256 .f32)
    (wd : Vec Ideal S1x8x256x1024 .f32) (t : Fin 16384) (d : Fin 1024) :
    (group h cw wg wu wd (ix2 t d) : EReal) = expertsOf (fun s => h (ix2 t s)) (fun e => cw (ix2 t e)) (fun e s f => wg (ix4 0 e s f))
      (fun e s f => wu (ix4 0 e s f)) (fun e f d => wd (ix4 0 e f d)) d := by
  pointwise [group]
  simp only [silu_apply, proj_apply]
  rfl

theorem mean_apply (x : Vec Ideal S16384x1024 .f32) (t : Fin 16384) :
    (mean x (ix2 t 0) : EReal) = rowMean fun s => x (ix2 t s) := by
  pointwise [mean]
  rfl

theorem centred_apply (x : Vec Ideal S16384x1024 .f32) (t : Fin 16384) (d : Fin 1024) :
    (centred x (ix2 t d) : EReal) = x (ix2 t d) - rowMean fun s => x (ix2 t s) := by
  rw [← mean_apply]
  pointwise [centred]

theorem norm_apply (x : Vec Ideal S16384x1024 .f32) (g b : Vec Ideal S1024 .f32) (t : Fin 16384) (d : Fin 1024) :
    (norm x g b (ix2 t d) : EReal) = rowNorm (fun s => x (ix2 t s)) (fun d => g (ix1 d)) (fun d => b (ix1 d)) d := by
  pointwise [norm]
  have e : ∀ s, mulf (centred x) (centred x) (ix2 t s) = (x (ix2 t s) - rowMean fun s => x (ix2 t s)) * (x (ix2 t s) - rowMean fun s => x (ix2 t s)) :=
    fun s => congr_arg₂ (· * ·) (centred_apply x t s) (centred_apply x t s)
  rw [mean_apply, centred_apply]
  simp only [e]
  rfl

/-- A group's contribution to a token: its experts' sum for the tokens that chose it. -/
def part (h : Vec Ideal S16384x1024 .f32) (comb : Vec Ideal S16384x8 .f32) (g : Vec Ideal S16384 .i32) (wg wu : Vec Ideal S4x8x1024x256 .f32)
    (wd : Vec Ideal S4x8x256x1024 .f32) (t : Fin 16384) (d : Fin 1024) (q : Fin 4) : EReal :=
  if g (ix1 t) = BitVec.ofNat 32 q.val then expertsOf (fun s => h (ix2 t s)) (fun e => comb (ix2 t e)) (fun e s f => wg (ix4 q e s f))
    (fun e s f => wu (ix4 q e s f)) (fun e f d => wd (ix4 q e f d)) d else 0

theorem part_of (h : Vec Ideal S16384x1024 .f32) (comb : Vec Ideal S16384x8 .f32) (g : Vec Ideal S16384 .i32) (wg wu : Vec Ideal S4x8x1024x256 .f32)
    (wd : Vec Ideal S4x8x256x1024 .f32) (t : Fin 16384) (d : Fin 1024) (q : Fin 4) {c : Fin 8 → EReal} {wg' wu' : Fin 8 → Fin 1024 → Fin 256 → EReal}
    {wd' : Fin 8 → Fin 256 → Fin 1024 → EReal}
    (hc : ∀ e, c e = comb (ix2 t e) * if g (ix1 t) = BitVec.ofNat 32 q.val then 1 else 0) (hg : ∀ e s f, wg' e s f = wg (ix4 q e s f))
    (hu : ∀ e s f, wu' e s f = wu (ix4 q e s f)) (hd : ∀ e f d, wd' e f d = wd (ix4 q e f d)) :
    expertsOf (fun s => h (ix2 t s)) c wg' wu' wd' d = part h comb g wg wu wd t d q := by
  obtain rfl : wg' = fun e s f => wg (ix4 q e s f) := funext fun e => funext fun s => funext fun f => hg e s f
  obtain rfl : wu' = fun e s f => wu (ix4 q e s f) := funext fun e => funext fun s => funext fun f => hu e s f
  obtain rfl : wd' = fun e f d => wd (ix4 q e f d) := funext fun e => funext fun f => funext fun d => hd e f d
  rw [show c = _ from funext hc]
  unfold part
  split
  · simp only [mul_one]
  · simp only [mul_zero]
    exact expertsOf_zero _ _ _ _ _

theorem mixture_apply (h : Vec Ideal S16384x1024 .f32) (comb : Vec Ideal S16384x8 .f32) (g : Vec Ideal S16384 .i32) (wg wu : Vec Ideal S4x8x1024x256 .f32)
    (wd : Vec Ideal S4x8x256x1024 .f32) (t : Fin 16384) (d : Fin 1024) :
    (mixture h comb g wg wu wd (ix2 t d) : EReal)
      = part h comb g wg wu wd t d 0 + part h comb g wg wu wd t d 1 + part h comb g wg wu wd t d 2 + part h comb g wg wu wd t d 3 := by
  pointwise [mixture]
  simp only [group_apply, gates_apply]
  refine congr_arg₂ (· + ·) (congr_arg₂ (· + ·) (congr_arg₂ (· + ·) ?_ ?_) ?_) ?_
  · refine part_of _ _ _ _ _ _ _ _ _ (fun e => ?_) (fun e s f => ?_) (fun e s f => ?_) (fun e f d => ?_)
    · pointwise []
      rw [mask_apply]
      rfl
    all_goals pointwise []
  · refine part_of _ _ _ _ _ _ _ _ _ (fun e => ?_) (fun e s f => ?_) (fun e s f => ?_) (fun e f d => ?_)
    · pointwise []
      rw [mask_apply]
      rfl
    all_goals pointwise []
  · refine part_of _ _ _ _ _ _ _ _ _ (fun e => ?_) (fun e s f => ?_) (fun e s f => ?_) (fun e f d => ?_)
    · pointwise []
      rw [mask_apply]
      rfl
    all_goals pointwise []
  · refine part_of _ _ _ _ _ _ _ _ _ (fun e => ?_) (fun e s f => ?_) (fun e s f => ?_) (fun e f d => ?_)
    · pointwise []
      rw [mask_apply]
      rfl
    all_goals pointwise []

theorem expected_apply (h : Vec Ideal S16384x1024 .f32) (comb : Vec Ideal S16384x8 .f32) (g : Vec Ideal S16384 .i32) (wg wu : Vec Ideal S4x8x1024x256 .f32)
    (wd : Vec Ideal S4x8x256x1024 .f32) (lg lb : Vec Ideal S1024 .f32) (t : Fin 16384) (d : Fin 1024) :
    (expected h comb g wg wu wd lg lb (ix2 t d) : EReal)
      = rowNorm (fun s => Scalar.ofBits (F := Ideal) .f32 0x3F9837F0#32 * h (ix2 t s)
          + (part h comb g wg wu wd t s 0 + part h comb g wg wu wd t s 1 + part h comb g wg wu wd t s 2 + part h comb g wg wu wd t s 3))
        (fun d => lg (ix1 d)) (fun d => lb (ix1 d)) d := by
  unfold expected
  rw [norm_apply]
  congr 1
  funext s
  pointwise [resid]
  rw [mixture_apply]

end Ref

end Cert.Moe

end
-- ==== Proof.State.lean ====
/-
  The output block along the grid: a tile's four points add its four groups, and the last applies the layer norm.
-/
module

public import proofs.«01_k».proof.Proof.Blocks
public import proofs.«01_k».proof.Proof.RefValue

@[expose] public section

set_option maxRecDepth 16384

noncomputable section

namespace Cert.Moe

open Idealize.ShloMosaic Idealize.ShloMosaic.TcCoe
open Cert.KernelIdeal Cert.KernelIdeal.Gen

section Kept
variable {F : FTy → Type} [FloatOps F] (m : (ℓ : Loc nD τ sig) → Buf (Elt F) ℓ) (c : Dev nD)

/-- The scratch after a point: the triangle, and the tables of the point's tile. -/
structure Kept (t : Fin cfg0.N) (s : St F) : Prop where
  tri : s.tri = k0_pay50 (F := F)
  mem : s.mem = k0_pay55 (iblk m c 2 t)
  rank : s.rank = k0_pay56 (iblk m c 2 t) (k0_pay50 (F := F))
  rankT : s.rankT = k0_pay57 (iblk m c 2 t) (k0_pay50 (F := F))

theorem kept_same (t : Fin cfg0.N) (s : St F) (h : Kept m c t s) : Kept m c t (stepSt m c t s) where
  tri := by show (if _ then _ else _) = _; split; · rfl
            · exact h.tri
  mem := by show (if _ then _ else _) = _; split; · rfl
            · exact h.mem
  rank := by
    have e : tri' (grid0.coords t) s.tri = k0_pay50 (F := F) := by unfold tri'; rw [h.tri, ite_self]
    show (if _ then k0_pay56 _ (tri' (grid0.coords t) s.tri) else _) = _
    rw [e, h.rank, ite_self]
  rankT := by
    have e : tri' (grid0.coords t) s.tri = k0_pay50 (F := F) := by unfold tri'; rw [h.tri, ite_self]
    show (if _ then k0_pay57 _ (tri' (grid0.coords t) s.tri) else _) = _
    rw [e, h.rankT, ite_self]

theorem kept (c : Dev nD) (n : ℕ) (hn : n < cfg0.N) : Kept m c ⟨n, hn⟩ (stAt m c n hn) := by
  induction n with
  | zero => exact kept_same m c _ _ ⟨rfl, rfl, rfl, rfl⟩
  | succ n ih =>
    have h := ih (Nat.lt_of_succ_lt hn)
    show Kept m c _ (stepSt m c ⟨n + 1, hn⟩ (stAt m c n _))
    by_cases h4 : (n + 1) % 4 = 0
    · rw [stepSt_opens m c ⟨n + 1, hn⟩ h4 _ ⟨(stAt m c n (Nat.lt_of_succ_lt hn)).o, k0_pay50 (F := F), k0_pay55 (iblk m c 2 ⟨n + 1, hn⟩),
        k0_pay56 (iblk m c 2 ⟨n + 1, hn⟩) (k0_pay50 (F := F)), k0_pay57 (iblk m c 2 ⟨n + 1, hn⟩) (k0_pay50 (F := F))⟩ h.tri]
      exact kept_same m c _ _ ⟨rfl, rfl, rfl, rfl⟩
    · have e : (iblk m c 2 ⟨n, Nat.lt_of_succ_lt hn⟩ : Vec F S1024x128 .f32) = iblk m c 2 ⟨n + 1, hn⟩ :=
        blk2_eq m c _ _ (by show n / 4 = (n + 1) / 4; omega)
      exact kept_same m c _ _ ⟨h.tri, h.mem.trans (congrArg k0_pay55 e), h.rank.trans (congrArg (k0_pay56 · (k0_pay50 (F := F))) e),
        h.rankT.trans (congrArg (k0_pay57 · (k0_pay50 (F := F))) e)⟩

/-- The output block a point leaves, from the tables of its tile. -/
theorem step_o (t : Fin cfg0.N) (s : St F) (k : Kept m c t (stepSt m c t s)) :
    (stepSt m c t s).o = o' (grid0.coords t) (iblk m c 0 t) (iblk m c 1 t) (iblk m c 2 t) (iblk m c 3 t) (iblk m c 4 t)
      (iblk m c 5 t) (iblk m c 6 t) (iblk m c 7 t) (k0_pay55 (iblk m c 2 t)) (k0_pay56 (iblk m c 2 t) (k0_pay50 (F := F)))
      (k0_pay57 (iblk m c 2 t) (k0_pay50 (F := F))) s.o := by
  have e1 : mem' (grid0.coords t) (iblk m c 2 t) s.mem = _ := k.mem
  have e2 : rank' (grid0.coords t) (iblk m c 2 t) s.tri s.rank = _ := k.rank
  have e3 : rankT' (grid0.coords t) (iblk m c 2 t) s.tri s.rankT = _ := k.rankT
  show o' (grid0.coords t) _ _ _ _ _ _ _ _ (mem' (grid0.coords t) (iblk m c 2 t) s.mem) (rank' (grid0.coords t) (iblk m c 2 t) s.tri s.rank)
    (rankT' (grid0.coords t) (iblk m c 2 t) s.tri s.rankT) s.o = _
  rw [e1, e2, e3]

/-- A point finds what the one before left. -/
theorem kept_o (t : Fin cfg0.N) (h : t.val ≠ 0) : (stAt m c t.val t.isLt).o
    = o' (grid0.coords t) (iblk m c 0 t) (iblk m c 1 t) (iblk m c 2 t) (iblk m c 3 t) (iblk m c 4 t)
      (iblk m c 5 t) (iblk m c 6 t) (iblk m c 7 t) (k0_pay55 (iblk m c 2 t)) (k0_pay56 (iblk m c 2 t) (k0_pay50 (F := F)))
      (k0_pay57 (iblk m c 2 t) (k0_pay50 (F := F))) (stAt m c (t.val - 1) (by omega)).o := by
  have k := kept m c t.val t.isLt
  rw [stAt_pos m c t h] at k ⊢
  exact step_o m c t _ k

end Kept

theorem pay1_apply (x1 y : Vec Ideal S1024x1024 .f32) (x6 x7 : Vec Ideal S1x1024 .f32) (r d : Fin 1024) :
    (k0_pay1 x1 y x6 x7 (ix2 r d) : EReal)
      = rowNorm (fun s => Scalar.ofBits (F := Ideal) .f32 0x3F9837F0#32 * x1 (ix2 r s) + y (ix2 r s)) (fun d => x6 (ix2 0 d)) (fun d => x7 (ix2 0 d)) d := by
  pointwise [k0_pay1]
  rfl

section Value
variable (m : (ℓ : Loc nD τ sig) → Buf (Elt Ideal) ℓ) (c : Dev nD)

abbrev a0 : Vec Ideal S16384x1024 .f32 := m ((c.tc : Thread nD τ).loc main_arg0)
abbrev a1 : Vec Ideal S16384x8 .f32 := m ((c.tc : Thread nD τ).loc main_arg1)
abbrev a2 : Vec Ideal S16384 .i32 := m ((c.tc : Thread nD τ).loc main_arg2)
abbrev a3 : Vec Ideal S4x8x1024x256 .f32 := m ((c.tc : Thread nD τ).loc main_arg3)
abbrev a4 : Vec Ideal S4x8x1024x256 .f32 := m ((c.tc : Thread nD τ).loc main_arg4)
abbrev a5 : Vec Ideal S4x8x256x1024 .f32 := m ((c.tc : Thread nD τ).loc main_arg5)
abbrev a6 : Vec Ideal S1024 .f32 := m ((c.tc : Thread nD τ).loc main_arg6)
abbrev a7 : Vec Ideal S1024 .f32 := m ((c.tc : Thread nD τ).loc main_arg7)

/-- A group's contribution to a token. -/
abbrev contrib (t : Fin 16384) (d : Fin 1024) (q : Fin 4) : EReal := Ref.part (a0 m c) (a1 m c) (a2 m c) (a3 m c) (a4 m c) (a5 m c) t d q

theorem x0_apply (t : Fin cfg0.N) (r s : Fin 1024) : (iblk m c 0 t (ix2 r s) : EReal) = a0 m c (ix2 (row t r) s) := by
  rw [blk0, (V_all m c).2.1]
  rfl
theorem x1_apply (t : Fin cfg0.N) (r s : Fin 1024) : (iblk m c 1 t (ix2 r s) : EReal) = a0 m c (ix2 (row t r) s) := by
  rw [blk1, V_main_arg0]
theorem x2_apply (t : Fin cfg0.N) (r : Fin 1024) (l : Fin 128) : (iblk m c 2 t (ix2 r l) : EReal) = lanes (a1 m c) (a2 m c) (ix2 (row t r) l) := by
  rw [blk2, (V_all m c).1]
theorem x3_apply (t : Fin cfg0.N) (s : Fin 1024) (e : Fin 8) (f : Fin 256) : (iblk m c 3 t (ix3 0 s (col e f)) : EReal) = a3 m c (ix4 (grp t) e s f) := by
  rw [blk3, (V_all m c).2.2.1]
  exact wide_apply (a3 m c) (grp t) s e f
theorem x4_apply (t : Fin cfg0.N) (s : Fin 1024) (e : Fin 8) (f : Fin 256) : (iblk m c 4 t (ix3 0 s (col e f)) : EReal) = a4 m c (ix4 (grp t) e s f) := by
  rw [blk4, (V_all m c).2.2.2.1]
  exact wide_apply (a4 m c) (grp t) s e f
theorem x5_apply (t : Fin cfg0.N) (e : Fin 8) (f : Fin 256) (d : Fin 1024) : (iblk m c 5 t (ix3 0 (col e f) d) : EReal) = a5 m c (ix4 (grp t) e f d) := by
  rw [blk5, (V_all m c).2.2.2.2.1]
  exact tall_apply (a5 m c) (grp t) d e f
theorem x6_apply (t : Fin cfg0.N) (d : Fin 1024) : (iblk m c 6 t (ix2 0 d) : EReal) = a6 m c (ix1 d) := by
  rw [blk6, (V_all m c).2.2.2.2.2.1]
  pointwise []
theorem x7_apply (t : Fin cfg0.N) (d : Fin 1024) : (iblk m c 7 t (ix2 0 d) : EReal) = a7 m c (ix1 d) := by
  rw [blk7, (V_all m c).2.2.2.2.2.2]
  pointwise []

/-- The rows of a point's tile that chose its group. -/
abbrev chose (t : Fin cfg0.N) (n : ℕ) : Prop := ∃ h : n < 1024, a2 m c (ix1 (row t ⟨n, h⟩)) = BitVec.ofNat 32 (t.val % 4)

theorem chose_iff (t : Fin cfg0.N) (r : Fin 1024) : chose m c t r.val ↔ a2 m c (ix1 (row t r)) = BitVec.ofNat 32 (grp t).val :=
  ⟨fun ⟨_, h⟩ => h, fun h => ⟨r.isLt, h⟩⟩

variable (hfin : ∀ j, (a1 m c j : EReal) ≠ ⊤ ∧ (a1 m c j : EReal) ≠ ⊥)

include hfin in
theorem lanes_finite (t : Fin 16384) (l : Fin 128) : (lanes (a1 m c) (a2 m c) (ix2 t l) : EReal) ≠ ⊤ ∧ (lanes (a1 m c) (a2 m c) (ix2 t l) : EReal) ≠ ⊥ := by
  by_cases h : l.val < 32
  · have e := lanes_gate (a1 m c) (a2 m c) t ⟨l.val / 8, by omega⟩ ⟨l.val % 8, by omega⟩
    rw [show (⟨8 * (⟨l.val / 8, by omega⟩ : Fin 4).val + (⟨l.val % 8, by omega⟩ : Fin 8).val, by dsimp only; omega⟩ : Fin 128) = l from
      Fin.ext (by show 8 * (l.val / 8) + l.val % 8 = l.val; omega)] at e
    rw [e]
    split
    · rw [one_mul]; exact hfin _
    · rw [zero_mul]; exact ⟨EReal.zero_ne_top, EReal.zero_ne_bot⟩
  by_cases h' : l.val < 36
  · have e := lanes_group (a1 m c) (a2 m c) t ⟨l.val - 32, by omega⟩
    rw [show (⟨32 + (⟨l.val - 32, by omega⟩ : Fin 4).val, by dsimp only; omega⟩ : Fin 128) = l from
      Fin.ext (by show 32 + (l.val - 32) = l.val; omega)] at e
    rw [e]
    split
    · exact ⟨EReal.coe_ne_top 1, EReal.coe_ne_bot 1⟩
    · exact ⟨EReal.zero_ne_top, EReal.zero_ne_bot⟩
  · rw [lanes_rest (a1 m c) (a2 m c) t l (by omega)]
    exact ⟨EReal.zero_ne_top, EReal.zero_ne_bot⟩

include hfin in
/-- A point adds its group's contribution. -/
theorem mid_eq (t : Fin cfg0.N) (o : Vec Ideal S1024x1024 .f32) (r d : Fin 1024) :
    (mid (grid0.coords t) (iblk m c 0 t) (iblk m c 2 t) (iblk m c 3 t) (iblk m c 4 t) (iblk m c 5 t) (k0_pay55 (iblk m c 2 t))
      (k0_pay56 (iblk m c 2 t) (k0_pay50 (F := Ideal))) (k0_pay57 (iblk m c 2 t) (k0_pay50 (F := Ideal))) o (ix2 r d) : EReal)
      = (if opens (grid0.coords t) then 0 else (o (ix2 r d) : EReal)) + contrib m c (row t r) d (grp t) := by
  have hg : t.val % 4 < 4 := by omega
  refine (mid_apply (grid0.coords t) (t.val % 4) hg (coord1 t) (iblk m c 2 t) (fun j => ?_) (chose m c t) (fun r => ?_)
    (iblk m c 0 t) (iblk m c 3 t) (iblk m c 4 t) (iblk m c 5 t) o r d).trans (congrArg ((if opens (grid0.coords t) then 0 else (o (ix2 r d) : EReal)) + ·) ?_)
  · obtain ⟨r, l, rfl⟩ : ∃ (r : Fin 1024) (l : Fin 128), j = ix2 r l := ⟨j 0, j 1, eq_ix2 j⟩
    rw [x2_apply]
    exact lanes_finite m c hfin _ _
  · rw [x2_apply]
    refine (lanes_group (a1 m c) (a2 m c) (row t r) (grp t)).trans ?_
    exact if_congr (chose_iff m c t r).symm rfl rfl
  · unfold contrib Ref.part
    rw [if_congr (chose_iff m c t r) rfl rfl]
    refine ite_congr rfl (fun h => ?_) fun _ => rfl
    unfold experts expertsOf
    refine Finset.sum_congr rfl fun e _ => Finset.sum_congr rfl fun f _ => ?_
    have e2 : (iblk m c 2 t (ix2 r ⟨8 * (t.val % 4) + e.val, by omega⟩) : EReal) = a1 m c (ix2 (row t r) e) := by
      rw [x2_apply]
      refine (lanes_gate (a1 m c) (a2 m c) (row t r) (grp t) e).trans ?_
      rw [if_pos h, one_mul]
    simp only [x0_apply, x3_apply, x4_apply, x5_apply, e2]

include hfin in
/-- A tile's first point starts from zero. -/
theorem o_first (t : Fin cfg0.N) (h : t.val % 4 = 0) (r d : Fin 1024) :
    ((stAt m c t.val t.isLt).o (ix2 r d) : EReal) = contrib m c (row t r) d 0 := by
  have hc : ¬closes (grid0.coords t) := fun hc => by have := (closes_iff t).mp hc; omega
  have ho := (opens_iff t).mpr h
  obtain ⟨s, hs⟩ : ∃ s, stAt m c t.val t.isLt = stepSt m c t s := by
    obtain ⟨n, hn⟩ := t
    cases n with
    | zero => exact ⟨_, rfl⟩
    | succ n => exact ⟨_, rfl⟩
  have k := kept m c t.val t.isLt
  rw [hs] at k ⊢
  rw [step_o m c t s k]
  unfold o'
  rw [if_neg hc, mid_eq m c hfin, if_pos ho, zero_add, show grp t = 0 from Fin.ext h]

include hfin in
/-- The middle points add to what the point before left. -/
theorem o_next (t : Fin cfg0.N) (h : t.val % 4 ≠ 0) (h' : t.val % 4 ≠ 3) (r d : Fin 1024) :
    ((stAt m c t.val t.isLt).o (ix2 r d) : EReal) = (stAt m c (t.val - 1) (by omega)).o (ix2 r d) + contrib m c (row t r) d (grp t) := by
  have hc : ¬closes (grid0.coords t) := fun hc => h' ((closes_iff t).mp hc)
  have ho : ¬opens (grid0.coords t) := fun ho => h ((opens_iff t).mp ho)
  rw [kept_o m c t (by omega)]
  unfold o'
  rw [if_neg hc, mid_eq m c hfin, if_neg ho]

include hfin in
/-- The last point adds its group's and applies the layer norm. -/
theorem o_last (t : Fin cfg0.N) (h : t.val % 4 = 3) (r d : Fin 1024) :
    ((stAt m c t.val t.isLt).o (ix2 r d) : EReal)
      = rowNorm (fun s => Scalar.ofBits (F := Ideal) .f32 0x3F9837F0#32 * a0 m c (ix2 (row t r) s)
          + ((stAt m c (t.val - 1) (by omega)).o (ix2 r s) + contrib m c (row t r) s 3)) (fun d => a6 m c (ix1 d)) (fun d => a7 m c (ix1 d)) d := by
  have hc := (closes_iff t).mpr h
  have ho : ¬opens (grid0.coords t) := fun ho => by have := (opens_iff t).mp ho; omega
  rw [kept_o m c t (by omega)]
  unfold o'
  rw [if_pos hc, pay1_apply]
  simp only [mid_eq m c hfin, if_neg ho, x1_apply, x6_apply, x7_apply, show grp t = 3 from Fin.ext h]

include hfin in
/-- What a tile's last point leaves is the reference's rows. -/
theorem o_tile (t : Fin cfg0.N) (h : t.val % 4 = 3) (r d : Fin 1024) :
    ((stAt m c t.val t.isLt).o (ix2 r d) : EReal)
      = Ref.expected (F := Ideal) (a0 m c) (a1 m c) (a2 m c) (a3 m c) (a4 m c) (a5 m c) (a6 m c) (a7 m c) (ix2 (row t r) d) := by
  have row_eq : ∀ (n : ℕ) (hn : n < cfg0.N), n / 4 = t.val / 4 → row ⟨n, hn⟩ r = row t r := fun n hn e =>
    Fin.ext (by show 1024 * (n / 4) + r.val = 1024 * (t.val / 4) + r.val; rw [e])
  have h0 := fun s => o_first m c hfin ⟨t.val - 1 - 1 - 1, by omega⟩ (by show (t.val - 1 - 1 - 1) % 4 = 0; omega) r s
  have h1 := fun s => o_next m c hfin ⟨t.val - 1 - 1, by omega⟩ (by show (t.val - 1 - 1) % 4 ≠ 0; omega) (by show (t.val - 1 - 1) % 4 ≠ 3; omega) r s
  have h2 := fun s => o_next m c hfin ⟨t.val - 1, by omega⟩ (by show (t.val - 1) % 4 ≠ 0; omega) (by show (t.val - 1) % 4 ≠ 3; omega) r s
  rw [row_eq _ _ (by omega)] at h0 h1 h2
  rw [show grp ⟨t.val - 1 - 1, by omega⟩ = 1 from Fin.ext (by show (t.val - 1 - 1) % 4 = 1; omega)] at h1
  rw [show grp ⟨t.val - 1, by omega⟩ = 2 from Fin.ext (by show (t.val - 1) % 4 = 2; omega)] at h2
  rw [o_last m c hfin t h, Ref.expected_apply]
  congr 1
  funext s
  rw [h2 s, h1 s, h0 s]

/-- The reference's result of the kernel program's arguments. -/
def target : Buf (Elt Ideal) ((c : Thread nD τ).loc main_v20) :=
  Ref.expected (F := Ideal) (a0 m c) (a1 m c) (a2 m c) (a3 m c) (a4 m c) (a5 m c) (a6 m c) (a7 m c)

theorem mem_blk8 (t : Fin cfg0.N) (i : S16384x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v20).slice (win0_8.rect t)).set ↔ _
  rw [View.set_slice_whole, Rect.mem_set_unit]
  exact Iff.rfl

include hfin in
theorem flushed_eq (t : Fin cfg0.N) (hf : (cfg0.win 8).flush t = true) :
    (dats m 0 c).flushed 8 t = ((cfg0.win 8).blk t).view.read (Elt Ideal) (target m c) := by
  show (cfg0.win 8).cut (grid0.coords t) ((dats m 0 c).after 8 t) = _
  rw [after_8]
  obtain ⟨-, -, -, h0, h1⟩ := index_tile t
  funext y
  have hb0 : (((cfg0.win 8).blk t).view.emb y 0).val = win0_8.index t (0 : Fin 2) * 1024 + 1 * (y 0).val := rfl
  have hb1 : (((cfg0.win 8).blk t).view.emb y 1).val = win0_8.index t (1 : Fin 2) * 1024 + 1 * (y 1).val := rfl
  have hy0 : (y 0).val < 1024 := (y 0).isLt
  have hy1 : (y 1).val < 1024 := (y 1).isLt
  have e1 : (cfg0.win 8).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  have e2 : ((cfg0.win 8).blk t).view.emb y = ix2 (row t ⟨(y 0).val, hy0⟩) (⟨(y 1).val, hy1⟩ : Fin 1024) := by
    funext a; apply Fin.ext
    match a with
    | ⟨0, _⟩ => show (((cfg0.win 8).blk t).view.emb y 0).val = 1024 * (t.val / 4) + (y 0).val; rw [hb0]; omega
    | ⟨1, _⟩ => show (((cfg0.win 8).blk t).view.emb y 1).val = (y 1).val; rw [hb1]; omega
  show (stAt m c t.val t.isLt).o ((cfg0.win 8).xinj (grid0.coords t) y) = target m c (((cfg0.win 8).blk t).view.emb y)
  rw [e1, e2]
  exact o_tile m c hfin t ((flush0_8 t).mp hf) _ _

include hfin in
/-- The array after the run is the reference's result. -/
theorem final : (dats m 0 c).arrAt 8 cfg0.N = target m c :=
  (dats m 0 c).arrAt_eq_of_cover 8 _ (fun t hf => flushed_eq m c hfin t hf) fun i => by
    have hi0 : (i 0).val < 16384 := (i 0).isLt
    have hi1 : (i 1).val < 1024 := (i 1).isLt
    have hN : cfg0.N = 64 := N_0
    have hN' : grid0.N = 64 := N_0
    refine ⟨⟨4 * ((i 0).val / 1024) + 3, by omega⟩, (flush0_8 _).mpr (by show (4 * ((i 0).val / 1024) + 3) % 4 = 3; omega), ?_⟩
    obtain ⟨-, -, -, h0, h1⟩ := index_tile ⟨4 * ((i 0).val / 1024) + 3, by omega⟩
    have h0' : win0_8.index ⟨4 * ((i 0).val / 1024) + 3, by omega⟩ (0 : Fin 2) = (4 * ((i 0).val / 1024) + 3) / 4 := h0
    rw [mem_blk8]
    intro a
    match a with
    | ⟨0, _⟩ =>
      have e : (4 * ((i 0).val / 1024) + 3) / 4 = (i 0).val / 1024 := by omega
      show win0_8.index _ (0 : Fin 2) * 1024 ≤ (i 0).val ∧ (i 0).val < win0_8.index _ (0 : Fin 2) * 1024 + 1024
      rw [h0', e]
      omega
    | ⟨1, _⟩ =>
      show win0_8.index _ (1 : Fin 2) * 1024 ≤ (i 1).val ∧ (i 1).val < win0_8.index _ (1 : Fin 2) * 1024 + 1024
      rw [h1]
      omega

end Value

end Cert.Moe

end
-- ==== Proof.Value.lean ====
/-
  The precondition, read: every gate is finite.
-/
module

public import proofs.«01_k».proof.Proof.State
public import proofs.«01_k».proof.Proof.Gen.Pre_gates_finite
public import Idealize.ShloMosaic.Lib.ReduceAll

@[expose] public section

set_option maxRecDepth 16384

noncomputable section

namespace Cert.Moe

open Idealize.ShloMosaic Idealize.ShloMosaic.TcCoe
open Cert.KernelIdeal Cert.KernelIdeal.Gen

theorem finite_of_abs (x : EReal) (h : max x (-x) < ⊤) : x ≠ ⊤ ∧ x ≠ ⊥ := by
  constructor
  · rintro rfl
    exact absurd h (by simp)
  · rintro rfl
    exact absurd h (by simp)

theorem inf_eq : Ideal.ofBits .f32 0x7F800000#32 = ⊤ := by
  unfold Ideal.ofBits Ideal.ieee
  simp

theorem all_finite (x : Vec Ideal Cert.Pre_gates_finite.S16384x8 .f32)
    (h : Host.reduce IntOp.andi (cmpf (F := Ideal) .olt (Host.absf x) (broadcastInDim Cert.Pre_gates_finite.S16384x8 ![]
      Cert.Pre_gates_finite.Gen.bcast_S_S16384x8 (constant (F := Ideal) Cert.Pre_gates_finite.S_ .f32 0x7F800000#32)))
      (constantI Cert.Pre_gates_finite.S_ 1 1#1) Cert.Pre_gates_finite.Gen.reducesTo_S16384x8_S_d0_1 Cert.Pre_gates_finite.Gen.h_S_ = fun _ => 1#1)
    (r : Fin 16384) (e : Fin 8) : (x (ix2 r e) : EReal) ≠ ⊤ ∧ (x (ix2 r e) : EReal) ≠ ⊥ := by
  have e1 := Host.reduce_andi_all _ _ _ _ (fun a => a.elim0) (congrFun h (fun a => a.elim0)) (ix2 r e)
  have e2 := (olt_iff .f32 _ _).mp e1
  refine finite_of_abs _ (lt_of_lt_of_eq e2 ?_)
  pointwise []
  exact inf_eq

theorem gates_finite (m : (ℓ : Loc nD τ sig) → Buf (Elt Ideal) ℓ) (c : Dev nD)
    (h : Cert.Pre_gates_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) = fun _ => 1#1)
    (j : S16384x8.Idx) : (a1 m c j : EReal) ≠ ⊤ ∧ (a1 m c j : EReal) ≠ ⊥ := by
  obtain ⟨r, e, rfl⟩ : ∃ (r : Fin 16384) (e : Fin 8), j = ix2 r e := ⟨j 0, j 1, eq_ix2 j⟩
  exact all_finite (a1 m c) h r e

end Cert.Moe

end
-- ==== Proof.PostHost.lean ====
/-
  The arrays the routing call reads, at an index, from the program's arguments.
-/
module

public import proofs.«01_k».proof.Proof.Gen.Kernel2Ideal.Frame
public import proofs.«01_k».proof.Proof.Scalars
public import Idealize.ShloMosaic.Lib.Routing.OpsOne
public import Idealize.ShloMosaic.Lib.Pointwise

@[expose] public section

set_option maxRecDepth 16384

noncomputable section

namespace Cert.Post

open Idealize.ShloMosaic Idealize.ShloMosaic.TcCoe Idealize.ShloMosaic.StableHlo
open Idealize.ShloMosaic.Routing (shape1 shape2)
open Cert.Kernel2Ideal Cert.Kernel2Ideal.Gen

/-- Where an entry of a block of rows lands when the block is written at one row. -/
theorem lands_rows {R C U : ℕ} (d : ScatterDims (shape2 R C) (shape1 1) (shape2 U C)) (huw : d.updateWindowDims = [0, 1]) (hiw : d.insertedWindowDims = [])
    (hsd : d.scatterDimsToOperandDims = [0]) (hivd : d.indexVectorDim = 0) (idx : IVec (shape1 1) 32) (b : ℕ) (hidx : ∀ j, (idx j).toInt = b)
    (k : Fin U) (e : Fin C) (r : Fin R) (c : Fin C) :
    d.resultIdx? (ix2 k e) idx = some (ix2 r c) ↔ b + k.val = r.val ∧ e = c := by
  rw [show d.resultIdx? (ix2 k e) idx = some (ix2 r c) ↔ _ from Routing.resultIdx?_ix2 d (ix2 k e) idx r c]
  have hs0 : d.start (ix2 k e) idx 0 = b := by
    unfold ScatterDims.start
    rw [dif_pos (by rw [hsd]; exact List.mem_singleton.mpr rfl), hidx]
  have hs1 : d.start (ix2 k e) idx 1 = 0 := by
    unfold ScatterDims.start
    rw [dif_neg (by rw [hsd]; simp)]
  have hk : d.sKept = [0, 1] := by
    show (shape2 R C).kept d.insertedWindowDims = _
    rw [hiw]
    rfl
  have pick : ∀ (l : List (Fin 2)) (n : ℕ) (h : n < l.length) (q : Fin 2), l = [0, 1] → n = q.val → l[n]'h = q := by
    intro l n h q hl hn
    subst hl
    subst hn
    fin_cases q <;> rfl
  have hw : ∀ q : Fin 2, d.window (ix2 k e) q = ((ix2 k e : (shape2 U C).Idx) q).val := by
    intro q
    unfold ScatterDims.window
    rw [dif_pos (by rw [hk]; fin_cases q <;> simp), pick _ _ _ q huw (by rw [hk]; fin_cases q <;> rfl)]
  rw [hs0, hs1, hw, hw]
  show (b : ℤ) + (k.val : ℤ) = (r.val : ℤ) ∧ (0 : ℤ) + (e.val : ℤ) = (c.val : ℤ) ↔ _
  rw [Fin.ext_iff]
  omega

/-- A block of rows written at one row: inside it. -/
theorem rows_hit {α : Type} {R C U : ℕ} (d : ScatterDims (shape2 R C) (shape1 1) (shape2 U C)) (huw : d.updateWindowDims = [0, 1]) (hiw : d.insertedWindowDims = [])
    (hsd : d.scatterDimsToOperandDims = [0]) (hivd : d.indexVectorDim = 0) (x : (shape2 R C).Idx → α) (idx : IVec (shape1 1) 32) (u : (shape2 U C).Idx → α)
    (b : ℕ) (hidx : ∀ j, (idx j).toInt = b) (r : Fin R) (c : Fin C) (k : Fin U) (hr : b + k.val = r.val) :
    Host.scatter d (fun _ b => b) x idx u (ix2 r c) = u (ix2 k c) := by
  refine Routing.scatter_set_hit d x idx u _ _ (fun k' hk' => ?_) (ix2 k c) ((lands_rows d huw hiw hsd hivd idx b hidx k c r c).mpr ⟨hr, rfl⟩)
  obtain ⟨p, q, rfl⟩ : ∃ (p : Fin U) (q : Fin C), k' = ix2 p q := ⟨k' 0, k' 1, eq_ix2 k'⟩
  obtain ⟨h1, rfl⟩ := (lands_rows d huw hiw hsd hivd idx b hidx p q r c).mp hk'
  rw [show p = k from Fin.ext (Nat.add_left_cancel (h1.trans hr.symm))]

/-- A block of rows written at one row: outside it. -/
theorem rows_miss {α : Type} {R C U : ℕ} (d : ScatterDims (shape2 R C) (shape1 1) (shape2 U C)) (huw : d.updateWindowDims = [0, 1]) (hiw : d.insertedWindowDims = [])
    (hsd : d.scatterDimsToOperandDims = [0]) (hivd : d.indexVectorDim = 0) (x : (shape2 R C).Idx → α) (idx : IVec (shape1 1) 32) (u : (shape2 U C).Idx → α)
    (b : ℕ) (hidx : ∀ j, (idx j).toInt = b) (r : Fin R) (c : Fin C) (hr : ∀ k : Fin U, b + k.val ≠ r.val) :
    Host.scatter d (fun _ b => b) x idx u (ix2 r c) = x (ix2 r c) := by
  refine Routing.scatter_set_miss d x idx u _ fun k' hk' => ?_
  obtain ⟨p, q, rfl⟩ : ∃ (p : Fin U) (q : Fin C), k' = ix2 p q := ⟨k' 0, k' 1, eq_ix2 k'⟩
  exact hr p ((lands_rows d huw hiw hsd hivd idx b hidx p q r c).mp hk').1

section Whole
variable {F : FTy → Type} [FloatOps F] [Named F] (m : (ℓ : Loc nD τ sig) → Buf (Elt F) ℓ) (c : Dev nD)

/-- The experts' columns of the router, then the groups', one below the other. -/
def routerW (wg : Vec F S1024x4 .f32) (we : Vec F S4x1024x8 .f32) : Vec F S128x1024 .f32 :=
  Host.scatter scatter_S128x1024_S1_S4x1024_01_n_0_0 (fun _ b => b)
    (Host.scatter scatter_S128x1024_S1_S32x1024_01_n_0_0 (fun _ b => b)
      (broadcastInDim S128x1024 ![] bcast_S_S128x1024 (constant S_ .f32 0x00000000#32) : Vec F S128x1024 .f32)
      (broadcastInDim S1 ![] bcast_S_S1 (constantI S_ 32 0#32))
      (shapeCast S32x1024 (transpose S4x8x1024 [0, 2, 1] we transposes_S4x1024x8_S4x8x1024_0_2_1) shapeCasts_S4x8x1024_S32x1024))
    (broadcastInDim S1 ![] bcast_S_S1 (constantI S_ 32 32#32))
    (transpose S4x1024 [1, 0] wg transposes_S1024x4_S4x1024_1_0)

/-- A pair of words, the row first. -/
def place (b : BitVec 32) : IVec S2 32 :=
  concatenate S2 0 [⟨S1, broadcastInDim S1 ![] bcast_S_S1 (constantI S_ 32 b)⟩, ⟨S1, broadcastInDim S1 ![] bcast_S_S1 (constantI S_ 32 0#32)⟩] concatenates_S1_S1_S2_d0

/-- The router's offsets likewise. -/
def routerB (bg : Vec F S4 .f32) (be : Vec F S4x8 .f32) : Vec F S128x1 .f32 :=
  Host.scatter scatter_S128x1_S2_S4_0_1_01_0 (fun _ b => b)
    (Host.scatter scatter_S128x1_S2_S32_0_1_01_0 (fun _ b => b)
      (broadcastInDim S128x1 ![] bcast_S_S128x1 (constant S_ .f32 0x00000000#32) : Vec F S128x1 .f32)
      (place 0#32) (shapeCast S32 be shapeCasts_S4x8_S32))
    (place 32#32) bg

theorem V_all :
    V m c main_v2 = truncf .bf16 (transpose S2x512x8192 [0, 2, 1] (extractStridedSlice S2x8192x512 ![0, 0, 0] (m ((c.tc : Thread nD τ).loc main_arg0))
        slices_S2x8192x1024_S2x8192x512_0_0_0) transposes_S2x8192x512_S2x512x8192_0_2_1) bitsLt_bf16_f32
    ∧ V m c main_v5 = truncf .bf16 (transpose S2x512x8192 [0, 2, 1] (extractStridedSlice S2x8192x512 ![0, 0, 512] (m ((c.tc : Thread nD τ).loc main_arg0))
        slices_S2x8192x1024_S2x8192x512_0_0_512) transposes_S2x8192x512_S2x512x8192_0_2_1) bitsLt_bf16_f32
    ∧ V m c main_v25 = extractStridedSlice S512x1024 ![0, 0] (truncf .bf16 (m ((c.tc : Thread nD τ).loc main_arg2)) bitsLt_bf16_f32 : Vec F S1024x1024 .bf16)
        slices_S1024x1024_S512x1024_0_0
    ∧ V m c main_v26 = extractStridedSlice S512x1024 ![512, 0] (truncf .bf16 (m ((c.tc : Thread nD τ).loc main_arg2)) bitsLt_bf16_f32 : Vec F S1024x1024 .bf16)
        slices_S1024x1024_S512x1024_512_0
    ∧ V m c main_v27 = broadcastInDim S1x1024 ![1] bcast_S1024_S1x1024_1 (m ((c.tc : Thread nD τ).loc main_arg3))
    ∧ V m c main_v28 = broadcastInDim S1x1024 ![1] bcast_S1024_S1x1024_1 (m ((c.tc : Thread nD τ).loc main_arg4))
    ∧ V m c main_v29 = truncf .bf16 (routerW (m ((c.tc : Thread nD τ).loc main_arg5)) (m ((c.tc : Thread nD τ).loc main_arg7))) bitsLt_bf16_f32
    ∧ V m c main_v32 = truncf .bf16 (subf (routerW (m ((c.tc : Thread nD τ).loc main_arg5)) (m ((c.tc : Thread nD τ).loc main_arg7)))
        (extf .f32 (truncf .bf16 (routerW (m ((c.tc : Thread nD τ).loc main_arg5)) (m ((c.tc : Thread nD τ).loc main_arg7))) bitsLt_bf16_f32 : Vec F S128x1024 .bf16)
          bitsLt_bf16_f32)) bitsLt_bf16_f32
    ∧ V m c main_v24 = routerB (m ((c.tc : Thread nD τ).loc main_arg6)) (m ((c.tc : Thread nD τ).loc main_arg8)) := by
  simp only [V, hostOps0, List.flatten_cons, List.flatten_nil, List.append_nil, List.cons_append, List.nil_append, TRef.binary, TRef.nullary, TRef.unary, TRef.toBuf, TRef.ofBuf, cast_eq]
  refine ⟨?_, ?_, ?_, ?_, ?_, ?_, ?_, ?_, ?_⟩ <;> after_results_simp <;> rfl

end Whole

theorem const_word (b : BitVec 32) (j : S1.Idx) : (broadcastInDim S1 ![] bcast_S_S1 (constantI S_ 32 b)) j = b := rfl

theorem place_row (b : BitVec 32) : place b (ValueIdx.ix1 0) = b :=
  show place b (ix1 0) = b by pointwise [place]

theorem place_col (b : BitVec 32) : place b (ValueIdx.ix1 1) = 0#32 :=
  show place b (ix1 1) = 0#32 by pointwise [place]

theorem routerW_expert (wg : Vec Ideal S1024x4 .f32) (we : Vec Ideal S4x1024x8 .f32) (q : Fin 4) (e : Fin 8) (d : Fin 1024) :
    (routerW wg we (ix2 (⟨8 * q.val + e.val, by omega⟩ : Fin 128) d) : EReal) = we (ix3 q d e) := by
  unfold routerW
  rw [rows_miss _ rfl rfl rfl rfl _ _ _ 32 (fun j => by rw [const_word]; rfl) _ _ (fun k => by show 32 + k.val ≠ 8 * q.val + e.val; omega),
    rows_hit (R := 128) (C := 1024) (U := 32) scatter_S128x1024_S1_S32x1024_01_n_0_0 rfl rfl rfl rfl _ _ _ 0 (fun j => by rw [const_word]; rfl) _ _ (⟨8 * q.val + e.val, by omega⟩ : Fin 32) (Nat.zero_add _)]
  pointwise []

theorem routerW_group (wg : Vec Ideal S1024x4 .f32) (we : Vec Ideal S4x1024x8 .f32) (q : Fin 4) (d : Fin 1024) :
    (routerW wg we (ix2 (⟨32 + q.val, by omega⟩ : Fin 128) d) : EReal) = wg (ix2 d q) := by
  unfold routerW
  rw [rows_hit _ rfl rfl rfl rfl _ _ _ 32 (fun j => by rw [const_word]; rfl) _ _ q rfl]
  pointwise []

theorem routerB_expert (bg : Vec Ideal S4 .f32) (be : Vec Ideal S4x8 .f32) (q : Fin 4) (e : Fin 8) :
    (routerB bg be (ix2 (⟨8 * q.val + e.val, by omega⟩ : Fin 128) 0) : EReal) = be (ix2 q e) := by
  unfold routerB
  have h32 : (place 32#32 (ValueIdx.ix1 (0 : Fin 2))).toInt = 32 := by rw [place_row]; rfl
  have h0 : (place 0#32 (ValueIdx.ix1 (0 : Fin 2))).toInt = 0 := by rw [place_row]; rfl
  have hc : (place 0#32 (ValueIdx.ix1 (1 : Fin 2))).toInt = 0 := by rw [place_col]; rfl
  rw [Routing.scatter_column_signed (R := 128) (C := 1) (U := 4) _ (by omega) rfl rfl rfl, if_neg (by
    rw [h32]
    rintro ⟨-, h, -⟩
    have h' : (32 : ℤ) ≤ ((8 * q.val + e.val : ℕ) : ℤ) := h
    omega),
    Routing.scatter_column_signed (R := 128) (C := 1) (U := 32) _ (by omega) rfl rfl rfl, if_pos (by
    rw [h0, hc]
    refine ⟨rfl, ?_, ?_⟩
    · show (0 : ℤ) ≤ ((8 * q.val + e.val : ℕ) : ℤ); omega
    · show ((8 * q.val + e.val : ℕ) : ℤ) < 0 + (32 : ℕ); omega)]
  refine (congrArg (shapeCast S32 be shapeCasts_S4x8_S32) (congrArg ix1 (a₂ := (⟨8 * q.val + e.val, by omega⟩ : Fin 32)) (Fin.ext ?_))).trans ?_
  · show (((8 * q.val + e.val : ℕ) : ℤ) - (place 0#32 (ValueIdx.ix1 (0 : Fin 2))).toInt).toNat % 32 = 8 * q.val + e.val
    rw [h0]; omega
  · pointwise []

theorem routerB_group (bg : Vec Ideal S4 .f32) (be : Vec Ideal S4x8 .f32) (q : Fin 4) :
    (routerB bg be (ix2 (⟨32 + q.val, by omega⟩ : Fin 128) 0) : EReal) = bg (ix1 q) := by
  unfold routerB
  have h32 : (place 32#32 (ValueIdx.ix1 (0 : Fin 2))).toInt = 32 := by rw [place_row]; rfl
  have hc : (place 32#32 (ValueIdx.ix1 (1 : Fin 2))).toInt = 0 := by rw [place_col]; rfl
  rw [Routing.scatter_column_signed (R := 128) (C := 1) (U := 4) _ (by omega) rfl rfl rfl, if_pos (by
    rw [h32, hc]
    refine ⟨rfl, ?_, ?_⟩
    · show (32 : ℤ) ≤ ((32 + q.val : ℕ) : ℤ); omega
    · show ((32 + q.val : ℕ) : ℤ) < 32 + (4 : ℕ); omega)]
  refine congrArg bg (congrArg ix1 (Fin.ext ?_))
  show (((32 + q.val : ℕ) : ℤ) - (place 32#32 (ValueIdx.ix1 (0 : Fin 2))).toInt).toNat % 4 = q.val
  rw [h32]; omega

end Cert.Post

end
-- ==== Proof.PostTop.lean ====
/-
  The first place where a row is largest, found by a maximum and a least position among equals, and by a stable sort.
-/
module

public import proofs.«01_k».proof.Proof.Scalars
public import Idealize.ShloMosaic.Lib.SortFacts
public import Idealize.ShloMosaic.Lib.SortNet.Extract

@[expose] public section

noncomputable section

namespace Cert.Post

open Idealize.ShloMosaic

/-- `i` is the first place where `f` is largest. -/
structure First {n : ℕ} (f : Fin n → EReal) (i : Fin n) : Prop where
  top : ∀ j, f j ≤ f i
  new : ∀ j, j < i → f j < f i

/-- A row with one place left out. -/
def without {n : ℕ} (f : Fin n → EReal) (i : Fin n) (k : Fin n) : EReal := if k = i then ⊥ else f k

theorem without_self {n : ℕ} (f : Fin n → EReal) (i : Fin n) : without f i i = ⊥ := if_pos rfl

theorem without_ne {n : ℕ} (f : Fin n → EReal) {i k : Fin n} (h : k ≠ i) : without f i k = f k := if_neg h

theorem exists_first {n : ℕ} (hn : 0 < n) (f : Fin n → EReal) : ∃ i, First f i := by
  haveI : Nonempty (Fin n) := ⟨⟨0, hn⟩⟩
  obtain ⟨m, hm⟩ := Finite.exists_max f
  have hex : ∃ k : ℕ, ∃ h : k < n, ∀ j, f j ≤ f ⟨k, h⟩ := ⟨m.val, m.isLt, hm⟩
  classical
  obtain ⟨h, hi⟩ := Nat.find_spec hex
  refine ⟨⟨Nat.find hex, h⟩, hi, fun j hj => ?_⟩
  have hmin := Nat.find_min hex (m := j.val) hj
  by_contra hle
  exact hmin ⟨j.isLt, fun k => (hi k).trans (not_lt.mp hle)⟩

theorem First.unique {n : ℕ} {f : Fin n → EReal} {i j : Fin n} (hi : First f i) (hj : First f j) : i = j := by
  rcases lt_trichotomy i j with h | h | h
  · exact absurd (hi.top j) (not_le.mpr (hj.new i h))
  · exact h
  · exact absurd (hj.top i) (not_le.mpr (hi.new j h))

/-- The order of a row decides where it is largest. -/
theorem First.mono {n : ℕ} {f g : Fin n → EReal} {i : Fin n} (h : First f i) (hle : ∀ a b, f a ≤ f b → g a ≤ g b)
    (hlt : ∀ a b, f a < f b → g a < g b) : First g i :=
  ⟨fun j => hle _ _ (h.top j), fun j hj => hlt _ _ (h.new j hj)⟩

/-- The first largest of what is left is not the place left out. -/
theorem First.ne {n : ℕ} {f : Fin n → EReal} {i j k : Fin n} (h : First (without f i) j) (hk : k ≠ i) (hf : f k ≠ ⊥) : j ≠ i := by
  rintro rfl
  have := h.top k
  rw [without_self, without_ne f hk] at this
  exact hf (le_bot_iff.mp this)

/-- A row laid into a longer one that is least elsewhere. -/
theorem First.embed {n N : ℕ} {f : Fin n → EReal} {g : Fin N → EReal} {i : Fin n} (h : First f i) (hi : f i ≠ ⊥) (b : ℕ) (hb : b + n ≤ N)
    (hin : ∀ q : Fin n, g ⟨b + q.val, by omega⟩ = f q) (hout : ∀ x : Fin N, ¬(b ≤ x.val ∧ x.val < b + n) → g x = ⊥) :
    First g ⟨b + i.val, by omega⟩ where
  top x := by
    rw [hin]
    by_cases hx : b ≤ x.val ∧ x.val < b + n
    · have e := hin ⟨x.val - b, by omega⟩
      rw [show (⟨b + (⟨x.val - b, by omega⟩ : Fin n).val, by dsimp only; omega⟩ : Fin N) = x from Fin.ext (by show b + (x.val - b) = x.val; omega)] at e
      rw [e]
      exact h.top _
    · rw [hout x hx]
      exact bot_le
  new x hx' := by
    have hx'' : x.val < b + i.val := hx'
    rw [hin]
    by_cases hx : b ≤ x.val ∧ x.val < b + n
    · have e := hin ⟨x.val - b, by omega⟩
      rw [show (⟨b + (⟨x.val - b, by omega⟩ : Fin n).val, by dsimp only; omega⟩ : Fin N) = x from Fin.ext (by show b + (x.val - b) = x.val; omega)] at e
      rw [e]
      exact h.new _ (by show x.val - b < i.val; omega)
    · rw [hout x hx]
      exact bot_lt_iff_ne_bot.mpr hi

/-- The maximum is the value there. -/
theorem First.fold_max {n : ℕ} {f : Fin n → EReal} {i : Fin n} (h : First f i) : Finset.fold max ⊥ f Finset.univ = f i :=
  le_antisymm ((Finset.fold_max_le _).mpr ⟨bot_le, fun j _ => h.top j⟩) ((Finset.le_fold_max _).mpr (.inr ⟨i, Finset.mem_univ i, le_rfl⟩))

theorem toInt_fold_min {ι : Type} [DecidableEq ι] (w : ι → BitVec 32) (a : BitVec 32) (s : Finset ι) :
    (Finset.fold IntOp.minsi a w s).toInt = Finset.fold min a.toInt (fun x => (w x).toInt) s := by
  induction s using Finset.induction_on with
  | empty => rfl
  | insert x s hx ih => rw [Finset.fold_insert hx, Finset.fold_insert hx, SortNet.toInt_minsi, ih]

/-- The least position among those that meet a condition. -/
theorem fold_min_first {n : ℕ} (hn : n ≤ 128) (p : Fin n → Prop) [DecidablePred p] (i : Fin n) (hi : p i) (hnew : ∀ j, p j → i ≤ j) :
    Finset.fold IntOp.minsi 2147483647#32 (fun x : Fin n => if p x then BitVec.ofNat 32 x.val else 128#32) Finset.univ = BitVec.ofNat 32 i.val := by
  apply BitVec.eq_of_toInt_eq
  rw [toInt_fold_min, WordArith.toInt_ofNat_small i.val (by omega)]
  have e : ∀ x : Fin n, (if p x then BitVec.ofNat 32 x.val else 128#32).toInt = if p x then (x.val : ℤ) else 128 := by
    intro x
    split
    · exact WordArith.toInt_ofNat_small _ (by omega)
    · rfl
  simp only [e]
  refine le_antisymm ?_ ?_
  · refine (Finset.fold_min_le _).mpr (.inr ⟨i, Finset.mem_univ i, ?_⟩)
    rw [if_pos hi]
  · refine (Finset.le_fold_min _).mpr ⟨?_, fun x _ => ?_⟩
    · show (i.val : ℤ) ≤ 2147483647
      omega
    · split
      · rename_i hx
        exact_mod_cast hnew x hx
      · omega

/-- The first place where a row meets its maximum. -/
theorem First.fold_min {n : ℕ} (hn : n ≤ 128) {f : Fin n → EReal} {i : Fin n} (h : First f i) :
    Finset.fold IntOp.minsi 2147483647#32 (fun x : Fin n => if f x = f i then BitVec.ofNat 32 x.val else 128#32) Finset.univ = BitVec.ofNat 32 i.val := by
  classical
  exact fold_min_first hn (fun x => f x = f i) i rfl fun j hj => not_lt.mp fun hlt => absurd hj (h.new j hlt).ne

/-! ## The stable sort -/

/-- Sorted before: larger, or as large and at an earlier place. -/
def Ahead {n : ℕ} (f : Fin n → EReal) (a b : Fin n) : Prop := f b < f a ∨ (f b = f a ∧ a < b)

theorem Ahead.trans {n : ℕ} {f : Fin n → EReal} {a b c : Fin n} (h : Ahead f a b) (h' : Ahead f b c) : Ahead f a c := by
  rcases h with h | ⟨h, l⟩ <;> rcases h' with h' | ⟨h', l'⟩
  · exact .inl (h'.trans h)
  · exact .inl (h' ▸ h)
  · exact .inl (h ▸ h')
  · exact .inr ⟨h'.trans h, l.trans l'⟩

theorem ahead_insert {n : ℕ} (f : Fin n → EReal) (R : Fin n → Fin n → Bool) (hR : ∀ a b, R a b = true ↔ f b < f a) (a : Fin n) (l : List (Fin n))
    (hl : l.Pairwise (Ahead f)) (ha : ∀ b ∈ l, a < b) : (insertBefore R a l).Pairwise (Ahead f) := by
  induction l with
  | nil => exact List.pairwise_singleton _ _
  | cons b l ih =>
    have hl' := List.pairwise_cons.mp hl
    unfold insertBefore
    split
    · rename_i h
      refine List.pairwise_cons.mpr ⟨fun c hc => ?_, ih hl'.2 fun c hc => ha c (List.mem_cons_of_mem b hc)⟩
      rcases List.mem_cons.mp ((perm_insertBefore R a l).mem_iff.mp hc) with rfl | hc'
      · exact .inl ((hR b c).mp h)
      · exact hl'.1 c hc'
    · rename_i h
      have hab : Ahead f a b := by
        have hle : f b ≤ f a := not_lt.mp fun hlt => h ((hR b a).mpr hlt)
        rcases hle.lt_or_eq with h' | h'
        · exact .inl h'
        · exact .inr ⟨h', ha b List.mem_cons_self⟩
      refine List.pairwise_cons.mpr ⟨fun c hc => ?_, hl⟩
      rcases List.mem_cons.mp hc with rfl | hc'
      · exact hab
      · exact hab.trans (hl'.1 c hc')

theorem ahead_sort {n : ℕ} (f : Fin n → EReal) (R : Fin n → Fin n → Bool) (hR : ∀ a b, R a b = true ↔ f b < f a) (l : List (Fin n))
    (hl : l.Pairwise (· < ·)) : (stableSort R l).Pairwise (Ahead f) := by
  induction l with
  | nil => exact List.Pairwise.nil
  | cons a l ih =>
    have hl' := List.pairwise_cons.mp hl
    unfold stableSort
    exact ahead_insert f R hR a _ (ih hl'.2) fun b hb => hl'.1 b ((perm_stableSort R l).mem_iff.mp hb)

theorem ahead_sortedFrom {n : ℕ} (f : Fin n → EReal) (R : Fin n → Fin n → Bool) (hR : ∀ a b, R a b = true ↔ f b < f a) (i j : Fin n) (hij : i < j) :
    Ahead f (sortedFrom R i) (sortedFrom R j) := by
  have hp := List.pairwise_iff_get.mp (ahead_sort f R hR (List.finRange n) (List.pairwise_lt_finRange n))
  exact hp _ _ hij

/-- What the sort puts first is the first largest. -/
theorem sortedFrom_zero {n : ℕ} (f : Fin n → EReal) (R : Fin n → Fin n → Bool) (hR : ∀ a b, R a b = true ↔ f b < f a) (hn : 0 < n) :
    First f (sortedFrom R ⟨0, hn⟩) := by
  have key : ∀ x, x ≠ sortedFrom R ⟨0, hn⟩ → Ahead f (sortedFrom R ⟨0, hn⟩) x := by
    intro x hx
    obtain ⟨k, rfl⟩ := sortedFrom_surjective R x
    refine ahead_sortedFrom f R hR _ k (lt_of_le_of_ne (Nat.zero_le _) ?_)
    rintro rfl
    exact hx rfl
  refine ⟨fun x => ?_, fun x hx => ?_⟩
  · by_cases e : x = sortedFrom R ⟨0, hn⟩
    · rw [e]
    · rcases key x e with h | ⟨h, _⟩
      · exact h.le
      · exact h.le
  · rcases key x hx.ne with h | ⟨_, h⟩
    · exact h
    · exact absurd hx (not_lt.mpr h.le)

/-- What it puts second is the first largest of the rest. -/
theorem sortedFrom_one {n : ℕ} (f : Fin n → EReal) (R : Fin n → Fin n → Bool) (hR : ∀ a b, R a b = true ↔ f b < f a) (hn : 1 < n)
    (hf : ∀ x, f x ≠ ⊥) : First (without f (sortedFrom R ⟨0, by omega⟩)) (sortedFrom R ⟨1, hn⟩) := by
  have hne : sortedFrom R ⟨1, hn⟩ ≠ sortedFrom R ⟨0, by omega⟩ := fun e => absurd (congrArg Fin.val (sortedFrom_injective R e)) Nat.one_ne_zero
  have key : ∀ x, x ≠ sortedFrom R ⟨0, by omega⟩ → x ≠ sortedFrom R ⟨1, hn⟩ → Ahead f (sortedFrom R ⟨1, hn⟩) x := by
    intro x h0 h1
    obtain ⟨k, rfl⟩ := sortedFrom_surjective R x
    refine ahead_sortedFrom f R hR _ k ?_
    have k0 : k.val ≠ 0 := fun e => h0 (congrArg (sortedFrom R) (Fin.ext e))
    have k1 : k.val ≠ 1 := fun e => h1 (congrArg (sortedFrom R) (Fin.ext e))
    show 1 < k.val
    omega
  refine ⟨fun x => ?_, fun x hx => ?_⟩
  · by_cases h0 : x = sortedFrom R ⟨0, by omega⟩
    · rw [h0, without_self]; exact bot_le
    · rw [without_ne f h0, without_ne f hne]
      by_cases h1 : x = sortedFrom R ⟨1, hn⟩
      · rw [h1]
      · rcases key x h0 h1 with h | ⟨h, _⟩
        · exact h.le
        · exact h.le
  · by_cases h0 : x = sortedFrom R ⟨0, by omega⟩
    · rw [h0, without_self, without_ne f hne]; exact bot_lt_iff_ne_bot.mpr (hf _)
    · rw [without_ne f h0, without_ne f hne]
      rcases key x h0 hx.ne with h | ⟨_, h⟩
      · exact h
      · exact absurd hx (not_lt.mpr h.le)

/-! ## Sums and probabilities of real rows -/

/-- A sum whose terms vanish outside a block. -/
theorem sum_block {n N : ℕ} (g : Fin N → EReal) (f : Fin n → EReal) (b : ℕ) (hb : b + n ≤ N)
    (hin : ∀ q : Fin n, g ⟨b + q.val, by omega⟩ = f q) (hout : ∀ x : Fin N, ¬(b ≤ x.val ∧ x.val < b + n) → g x = 0) : ∑ x, g x = ∑ q, f q := by
  symm
  refine Finset.sum_of_injOn (fun q : Fin n => (⟨b + q.val, by omega⟩ : Fin N)) (fun q _ q' _ h => ?_) (fun q _ => Finset.mem_coe.mpr (Finset.mem_univ _))
    (fun x _ hx => hout x fun h => hx ⟨⟨x.val - b, by omega⟩, Finset.mem_coe.mpr (Finset.mem_univ _), Fin.ext (by show b + (x.val - b) = x.val; omega)⟩) fun q _ => (hin q).symm
  have := congrArg Fin.val h
  exact Fin.ext (by dsimp only at this; omega)

theorem exp_coe (r : ℝ) : Ideal.exp (r : EReal) = ((Real.exp r : ℝ) : EReal) := rfl

theorem exp_bot : Ideal.exp ⊥ = 0 := rfl

theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem coe_sum {ι : Type} (s : Finset ι) (f : ι → ℝ) : (∑ i ∈ s, (f i : EReal)) = ((∑ i ∈ s, f i : ℝ) : EReal) := by
  classical
  induction s using Finset.induction_on with
  | empty => rfl
  | insert x s hx ih => rw [Finset.sum_insert hx, Finset.sum_insert hx, ih, EReal.coe_add]

/-- The sum of a row's exponentials about its greatest. -/
def total {n : ℕ} (a : Fin n → ℝ) (i : Fin n) : ℝ := ∑ k, Real.exp (a k - a i)

theorem total_pos {n : ℕ} (a : Fin n → ℝ) (i : Fin n) : 0 < total a i :=
  Finset.sum_pos (fun _ _ => Real.exp_pos _) ⟨i, Finset.mem_univ i⟩

/-- A row's softmax. -/
def prob {n : ℕ} (a : Fin n → ℝ) (i : Fin n) (k : Fin n) : ℝ := Real.exp (a k - a i) / total a i

theorem prob_self {n : ℕ} (a : Fin n → ℝ) (i : Fin n) : prob a i i = 1 / total a i := by
  unfold prob
  rw [sub_self, Real.exp_zero]

theorem prob_le {n : ℕ} (a : Fin n → ℝ) (i k l : Fin n) : prob a i k ≤ prob a i l ↔ a k ≤ a l := by
  unfold prob
  rw [div_le_div_iff_of_pos_right (total_pos a i), Real.exp_le_exp]
  constructor <;> intro h <;> linarith

theorem prob_pos {n : ℕ} (a : Fin n → ℝ) (i k : Fin n) : 0 < prob a i k := div_pos (Real.exp_pos _) (total_pos a i)

theorem First.prob {n : ℕ} {a : Fin n → ℝ} {j : Fin n} (i : Fin n) (h : First (fun k => (a k : EReal)) j) : First (fun k => (prob a i k : EReal)) j :=
  h.mono (fun k l hkl => EReal.coe_le_coe_iff.mpr ((prob_le a i k l).mpr (EReal.coe_le_coe_iff.mp hkl)))
    fun k l hkl => EReal.coe_lt_coe_iff.mpr (lt_of_not_ge fun hc => absurd (EReal.coe_lt_coe_iff.mp hkl) (not_lt.mpr ((prob_le a i l k).mp hc)))

theorem First.prob_without {n : ℕ} {a : Fin n → ℝ} {j e : Fin n} (i : Fin n) (h : First (without (fun k => (a k : EReal)) e) j) :
    First (without (fun k => (Post.prob a i k : EReal)) e) j := by
  refine h.mono (fun k l hkl => ?_) (fun k l hkl => ?_)
  · by_cases hk : k = e
    · rw [hk, without_self]; exact bot_le
    by_cases hl : l = e
    · rw [hl, without_self, without_ne _ hk] at hkl
      exact absurd (le_bot_iff.mp hkl) (EReal.coe_ne_bot _)
    rw [without_ne _ hk, without_ne _ hl] at hkl ⊢
    exact EReal.coe_le_coe_iff.mpr ((prob_le a i k l).mpr (EReal.coe_le_coe_iff.mp hkl))
  · by_cases hl : l = e
    · rw [hl, without_self] at hkl
      exact absurd hkl not_lt_bot
    by_cases hk : k = e
    · rw [hk, without_self, without_ne _ hl]
      exact EReal.bot_lt_coe _
    rw [without_ne _ hk, without_ne _ hl] at hkl ⊢
    exact EReal.coe_lt_coe_iff.mpr (lt_of_not_ge fun hc => absurd (EReal.coe_lt_coe_iff.mp hkl) (not_lt.mpr ((prob_le a i l k).mp hc)))

/-- The greater gate of two. -/
theorem gate_one {n : ℕ} (a : Fin n → ℝ) (i j : Fin n) : prob a i i / (prob a i i + prob a i j) = 1 / (1 + Real.exp (a j - a i)) := by
  have ht := total_pos a i
  have he := Real.exp_pos (a j - a i)
  unfold prob
  rw [sub_self, Real.exp_zero]
  field_simp

/-- The lesser gate of two. -/
theorem gate_two {n : ℕ} (a : Fin n → ℝ) (i j : Fin n) :
    prob a i j / (prob a i i + prob a i j) = 1 / (1 + Real.exp (a j - a i)) * Real.exp (a j - a i) := by
  have ht := total_pos a i
  have he := Real.exp_pos (a j - a i)
  unfold prob
  rw [sub_self, Real.exp_zero]
  field_simp

end Cert.Post

end
-- ==== Proof.PostRoute.lean ====
/-
  The kernel's choice of a group and of two of its experts, for one token.
-/
module

public import proofs.«01_k».proof.Proof.Gen.Kernel2Ideal.Skeleton
public import proofs.«01_k».proof.Proof.PostTop
public import Idealize.ShloMosaic.Lib.Pointwise

@[expose] public section

set_option maxRecDepth 16384

noncomputable section

namespace Cert.Post

open Idealize.ShloMosaic Idealize.ShloMosaic.TcCoe Cert.Moe
open Cert.Kernel2Ideal Cert.Kernel2Ideal.Gen

theorem mask_eq : (Named.named (F := Ideal) κ (φ := .f32) "mask" 0xF149F2CA#32 : EReal) = ⊥ := by
  show ((κ "mask").getD _ : EReal) = ⊥
  simp [κ]

theorem neg_inf : Ideal.ofBits .f32 4286578688#32 = ⊥ := by
  unfold Ideal.ofBits Ideal.ieee
  simp

theorem in_groups : ∀ r : Fin 40, IntOp.andi (IntOp.cmpi .sge (BitVec.ofNat 32 r.val) 32#32) (IntOp.cmpi .slt (BitVec.ofNat 32 r.val) 36#32) = 1#1
    ↔ 32 ≤ r.val ∧ r.val < 32 + 4 := by decide +kernel

theorem in_group : ∀ (r : Fin 40) (g : Fin 4), IntOp.andi (IntOp.cmpi .sge (BitVec.ofNat 32 r.val) (IntOp.muli (BitVec.ofNat 32 g.val) 8#32))
    (IntOp.cmpi .slt (BitVec.ofNat 32 r.val) (IntOp.muli (IntOp.addi (BitVec.ofNat 32 g.val) 1#32) 8#32)) = 1#1
    ↔ 8 * g.val ≤ r.val ∧ r.val < 8 * g.val + 8 := by decide +kernel

theorem less_groups : ∀ g : Fin 4, IntOp.subi (BitVec.ofNat 32 (32 + g.val)) 32#32 = BitVec.ofNat 32 g.val := by decide +kernel

theorem more_groups : ∀ g : Fin 4, IntOp.addi (BitVec.ofNat 32 g.val) 32#32 = BitVec.ofNat 32 (32 + g.val) := by decide +kernel

section Column
variable (l : FVec Ideal S40x256 .f32) (v63 : IVec S40x256 32) (u : FVec Ideal S40x256 .f32) (w : FVec Ideal S256 .f32) (t : Fin 256)

theorem pay12_apply : (k0_pay12 u w (ix2 0 t) : EReal) = Ideal.div 1 (∑ x : Fin 40, Ideal.exp (u (ix2 x t) - w (ix1 t))) := by
  pointwise [k0_pay12, k0_pay11]

theorem pay13_apply : k0_pay13 v63 u w (ix2 0 t)
    = IntOp.subi (Finset.fold IntOp.minsi 2147483647#32 (fun x : Fin 40 => if (u (ix2 x t) : EReal) = w (ix1 t) then v63 (ix2 x t) else 128#32) Finset.univ) 32#32 := by
  pointwise [k0_pay13, k0_pay11]

theorem pay14_apply (r : Fin 40) : (k0_pay14 l v63 u w (ix2 r t) : EReal)
    = if IntOp.andi (IntOp.cmpi .sge (v63 (ix2 r t)) (IntOp.muli (k0_pay13 v63 u w (ix2 0 t)) 8#32))
        (IntOp.cmpi .slt (v63 (ix2 r t)) (IntOp.muli (IntOp.addi (k0_pay13 v63 u w (ix2 0 t)) 1#32) 8#32)) = 1#1 then (l (ix2 r t) : EReal) else ⊥ := by
  pointwise [k0_pay14]
  rw [select_eq, mask_eq]

theorem pay15_apply : (k0_pay15 l v63 u w (ix2 0 t) : EReal) = Finset.fold max ⊥ (fun x : Fin 40 => (k0_pay14 l v63 u w (ix2 x t) : EReal)) Finset.univ := by
  pointwise [k0_pay15]
  rw [neg_inf]

theorem pay16_apply : k0_pay16 l v63 u w (ix2 0 t) = Finset.fold IntOp.minsi 2147483647#32
    (fun x : Fin 40 => if (k0_pay14 l v63 u w (ix2 x t) : EReal) = k0_pay15 l v63 u w (ix2 0 t) then v63 (ix2 x t) else 128#32) Finset.univ := by
  pointwise [k0_pay16]

theorem pay17_apply (r : Fin 40) : (k0_pay17 l v63 u w (ix2 r t) : EReal)
    = if IntOp.cmpi .eq (v63 (ix2 r t)) (k0_pay16 l v63 u w (ix2 0 t)) = 1#1 then (⊥ : EReal) else k0_pay14 l v63 u w (ix2 r t) := by
  pointwise [k0_pay17]
  rw [select_eq, mask_eq]

theorem pay18_apply : (k0_pay18 l v63 u w (ix2 0 t) : EReal) = Finset.fold max ⊥ (fun x : Fin 40 => (k0_pay17 l v63 u w (ix2 x t) : EReal)) Finset.univ := by
  pointwise [k0_pay18]
  rw [neg_inf]

theorem pay19_apply (r : Fin 40) : k0_pay19 l v63 u w (ix2 r t) = 1#1 ↔ (k0_pay17 l v63 u w (ix2 r t) : EReal) = k0_pay18 l v63 u w (ix2 0 t) := by
  rw [← oeq_iff .f32]
  pointwise [k0_pay19]

theorem pay1_apply (v79 v102 v114 : FVec Ideal S1x256 .f32) (v87 v108 : IVec S1x256 32) (v116 : IVec S40x256 1) (r : Fin 40) :
    (k0_pay1 v63 v79 v87 v102 v108 v114 v116 128#32 (ix2 t ⟨r.val, by omega⟩) : EReal)
      = if IntOp.cmpi .eq (v63 (ix2 r t)) (v108 (ix2 0 t)) = 1#1 then Ideal.div (v79 (ix2 0 t)) (1 + Ideal.exp (v114 (ix2 0 t) - v102 (ix2 0 t)))
        else if IntOp.cmpi .eq (v63 (ix2 r t)) (Finset.fold IntOp.minsi 2147483647#32
            (fun x : Fin 40 => if v116 (ix2 x t) = 1#1 then v63 (ix2 x t) else 128#32) Finset.univ) = 1#1
          then Ideal.div (v79 (ix2 0 t)) (1 + Ideal.exp (v114 (ix2 0 t) - v102 (ix2 0 t))) * Ideal.exp (v114 (ix2 0 t) - v102 (ix2 0 t))
        else if IntOp.cmpi .eq (v63 (ix2 r t)) (IntOp.addi (v87 (ix2 0 t)) 32#32) = 1#1 then 1 else 0 := by
  pointwise [k0_pay1]
  rfl

theorem pay1_rest (v79 v102 v114 : FVec Ideal S1x256 .f32) (v87 v108 : IVec S1x256 32) (v116 : IVec S40x256 1) (r : Fin 128) (h : 40 ≤ r.val) :
    (k0_pay1 v63 v79 v87 v102 v108 v114 v116 128#32 (ix2 t r) : EReal) = 0 := by
  pointwise [k0_pay1]
  rw [dif_neg (by omega)]

end Column

/-- The lane that the group and the two experts fill in a token's row. -/
def lane (G : Fin 4 → ℝ) (A : Fin 8 → ℝ) (g : Fin 4) (i j : Fin 8) (r : ℕ) : EReal :=
  if r = 8 * g.val + i.val then ((prob G g g * (prob A i i / (prob A i i + prob A i j)) : ℝ) : EReal)
  else if r = 8 * g.val + j.val then ((prob G g g * (prob A i j / (prob A i i + prob A i j)) : ℝ) : EReal)
  else if r = 32 + g.val then 1 else 0

theorem minsi_first {f : Fin 40 → EReal} {i : Fin 40} (h : First f i) {v : Fin 40 → BitVec 32} (hv : ∀ x, v x = BitVec.ofNat 32 x.val) {y : EReal} (hy : y = f i) :
    Finset.fold IntOp.minsi 2147483647#32 (fun x => if f x = y then v x else 128#32) Finset.univ = BitVec.ofNat 32 i.val := by
  subst hy
  simp only [hv]
  exact h.fold_min (by omega)

theorem group_row (q : Fin 4) : 32 + q.val < 40 := by omega

theorem expert_row (q : Fin 4) (e : Fin 8) : 8 * q.val + e.val < 40 := by omega

section Route
variable (l : FVec Ideal S40x256 .f32) (v63 : IVec S40x256 32) (u : FVec Ideal S40x256 .f32) (w : FVec Ideal S256 .f32) (t : Fin 256)
  (hv : ∀ r : Fin 40, v63 (ix2 r t) = BitVec.ofNat 32 r.val) (G : Fin 4 → ℝ) (A : Fin 4 → Fin 8 → ℝ)
  (hu : ∀ r : Fin 40, (u (ix2 r t) : EReal) = if 32 ≤ r.val ∧ r.val < 32 + 4 then (l (ix2 r t) : EReal) else ⊥)
  (hw : (w (ix1 t) : EReal) = Finset.fold max ⊥ (fun x : Fin 40 => (u (ix2 x t) : EReal)) Finset.univ)
  (hG : ∀ q : Fin 4, (l (ix2 (⟨32 + q.val, group_row q⟩ : Fin 40) t) : EReal) = (G q : EReal))
  (hA : ∀ (q : Fin 4) (e : Fin 8), (l (ix2 (⟨8 * q.val + e.val, expert_row q e⟩ : Fin 40) t) : EReal) = (A q e : EReal))
  (g : Fin 4) (hg : First (fun q => (G q : EReal)) g)
  (i : Fin 8) (hi : First (fun e => (A g e : EReal)) i) (j : Fin 8) (hj : First (without (fun e => (A g e : EReal)) i) j)

include hu hG in
theorem u_in (q : Fin 4) : (u (ix2 (⟨32 + q.val, by omega⟩ : Fin 40) t) : EReal) = (G q : EReal) := by
  rw [hu, if_pos ⟨Nat.le_add_right _ _, Nat.add_lt_add_left q.isLt 32⟩, hG]

include hu hG hg in
theorem u_first : First (fun x : Fin 40 => (u (ix2 x t) : EReal)) ⟨32 + g.val, by omega⟩ :=
  hg.embed (EReal.coe_ne_bot _) 32 (by omega) (u_in l u t G hu hG) fun x hx => by rw [hu, if_neg hx]

include hu hw hG hg in
theorem w_eq : (w (ix1 t) : EReal) = (G g : EReal) := by
  rw [hw, (u_first l u t G hu hG g hg).fold_max, u_in l u t G hu hG]

include hu hw hG hg in
theorem pay12_eq : (k0_pay12 u w (ix2 0 t) : EReal) = ((prob G g g : ℝ) : EReal) := by
  rw [pay12_apply, w_eq l u w t G hu hw hG g hg,
    sum_block (fun x : Fin 40 => Ideal.exp ((u (ix2 x t) : EReal) - (G g : EReal))) (fun q : Fin 4 => ((Real.exp (G q - G g) : ℝ) : EReal)) 32 (by omega)
      (fun q => by rw [u_in l u t G hu hG, ← EReal.coe_sub, exp_coe])
      (fun x hx => by rw [hu, if_neg hx, EReal.bot_sub, exp_bot]), coe_sum, prob_self]
  exact div_coe 1 _ (total_pos G g).ne'

include hv hu hw hG hg in
theorem pay13_eq : k0_pay13 v63 u w (ix2 0 t) = BitVec.ofNat 32 g.val := by
  rw [pay13_apply, minsi_first (u_first l u t G hu hG g hg) hv ((w_eq l u w t G hu hw hG g hg).trans (u_in l u t G hu hG g).symm)]
  exact less_groups g

include hv hu hw hG hg in
theorem pay14_eq (r : Fin 40) : (k0_pay14 l v63 u w (ix2 r t) : EReal) = if 8 * g.val ≤ r.val ∧ r.val < 8 * g.val + 8 then (l (ix2 r t) : EReal) else ⊥ := by
  rw [pay14_apply, pay13_eq l v63 u w t hv G hu hw hG g hg, hv]
  exact if_congr (in_group r g) rfl rfl

include hv hu hw hG hg hA in
theorem pay14_in (e : Fin 8) : (k0_pay14 l v63 u w (ix2 (⟨8 * g.val + e.val, by omega⟩ : Fin 40) t) : EReal) = (A g e : EReal) := by
  rw [pay14_eq l v63 u w t hv G hu hw hG g hg, if_pos ⟨Nat.le_add_right _ _, Nat.add_lt_add_left e.isLt _⟩, hA]

include hv hu hw hG hg hA hi in
theorem pay14_first : First (fun x : Fin 40 => (k0_pay14 l v63 u w (ix2 x t) : EReal)) ⟨8 * g.val + i.val, by omega⟩ :=
  hi.embed (EReal.coe_ne_bot _) (8 * g.val) (by omega) (pay14_in l v63 u w t hv G A hu hw hG hA g hg)
    fun x hx => by rw [pay14_eq l v63 u w t hv G hu hw hG g hg, if_neg hx]

include hv hu hw hG hg hA hi in
theorem pay15_eq : (k0_pay15 l v63 u w (ix2 0 t) : EReal) = (A g i : EReal) := by
  rw [pay15_apply, (pay14_first l v63 u w t hv G A hu hw hG hA g hg i hi).fold_max, pay14_in l v63 u w t hv G A hu hw hG hA g hg]

include hv hu hw hG hg hA hi in
theorem pay16_eq : k0_pay16 l v63 u w (ix2 0 t) = BitVec.ofNat 32 (8 * g.val + i.val) := by
  rw [pay16_apply, minsi_first (pay14_first l v63 u w t hv G A hu hw hG hA g hg i hi) hv
    ((pay15_eq l v63 u w t hv G A hu hw hG hA g hg i hi).trans (pay14_in l v63 u w t hv G A hu hw hG hA g hg i).symm)]

include hv hu hw hG hg hA hi in
theorem pay17_eq (r : Fin 40) : (k0_pay17 l v63 u w (ix2 r t) : EReal)
    = if r.val = 8 * g.val + i.val then (⊥ : EReal) else k0_pay14 l v63 u w (ix2 r t) := by
  rw [pay17_apply, pay16_eq l v63 u w t hv G A hu hw hG hA g hg i hi, hv]
  exact if_congr (ofNat_eq_iff _ _ (by omega) (by omega)) rfl rfl

include hv hu hw hG hg hA hi in
theorem pay17_in (e : Fin 8) : (k0_pay17 l v63 u w (ix2 (⟨8 * g.val + e.val, by omega⟩ : Fin 40) t) : EReal) = without (fun e => (A g e : EReal)) i e := by
  rw [pay17_eq l v63 u w t hv G A hu hw hG hA g hg i hi, pay14_in l v63 u w t hv G A hu hw hG hA g hg]
  exact if_congr ⟨fun h => Fin.ext (Nat.add_left_cancel h), fun h => by rw [h]⟩ rfl rfl

include hj in
theorem second_ne : j ≠ i :=
  (exists_ne i).elim fun _ hk => hj.ne hk (EReal.coe_ne_bot _)

include hj in
theorem second_val : without (fun e => (A g e : EReal)) i j = (A g j : EReal) := without_ne _ (second_ne A g i j hj)

include hv hu hw hG hg hA hi hj in
theorem pay17_first : First (fun x : Fin 40 => (k0_pay17 l v63 u w (ix2 x t) : EReal)) ⟨8 * g.val + j.val, by omega⟩ :=
  hj.embed (by rw [second_val A g i j hj]; exact EReal.coe_ne_bot _) (8 * g.val) (by omega) (pay17_in l v63 u w t hv G A hu hw hG hA g hg i hi)
    fun x hx => by
      rw [pay17_eq l v63 u w t hv G A hu hw hG hA g hg i hi, pay14_eq l v63 u w t hv G hu hw hG g hg, if_neg hx, ite_self]

include hv hu hw hG hg hA hi hj in
theorem pay18_eq : (k0_pay18 l v63 u w (ix2 0 t) : EReal) = (A g j : EReal) := by
  rw [pay18_apply, (pay17_first l v63 u w t hv G A hu hw hG hA g hg i hi j hj).fold_max, pay17_in l v63 u w t hv G A hu hw hG hA g hg i hi,
    second_val A g i j hj]

include hv hu hw hG hg hA hi hj in
theorem route_low (r : Fin 40) : (k0_pay1 v63 (k0_pay12 u w) (k0_pay13 v63 u w) (k0_pay15 l v63 u w) (k0_pay16 l v63 u w) (k0_pay18 l v63 u w) (k0_pay19 l v63 u w)
      128#32 (ix2 t ⟨r.val, by omega⟩) : EReal) = lane G (A g) g i j r.val := by
  have h2 : Finset.fold IntOp.minsi 2147483647#32 (fun x : Fin 40 => if k0_pay19 l v63 u w (ix2 x t) = 1#1 then v63 (ix2 x t) else 128#32) Finset.univ
      = BitVec.ofNat 32 (8 * g.val + j.val) := by
    simp only [pay19_apply]
    exact minsi_first (pay17_first l v63 u w t hv G A hu hw hG hA g hg i hi j hj) hv
      (by rw [pay18_eq l v63 u w t hv G A hu hw hG hA g hg i hi j hj, pay17_in l v63 u w t hv G A hu hw hG hA g hg i hi, second_val A g i j hj])
  have he : Ideal.exp ((k0_pay18 l v63 u w (ix2 0 t) : EReal) - k0_pay15 l v63 u w (ix2 0 t)) = ((Real.exp (A g j - A g i) : ℝ) : EReal) := by
    rw [pay18_eq l v63 u w t hv G A hu hw hG hA g hg i hi j hj, pay15_eq l v63 u w t hv G A hu hw hG hA g hg i hi, ← EReal.coe_sub, exp_coe]
  have hd : Ideal.div (k0_pay12 u w (ix2 0 t)) (1 + Ideal.exp ((k0_pay18 l v63 u w (ix2 0 t) : EReal) - k0_pay15 l v63 u w (ix2 0 t)))
      = ((prob G g g * (1 / (1 + Real.exp (A g j - A g i))) : ℝ) : EReal) := by
    rw [he, pay12_eq l u w t G hu hw hG g hg, mul_one_div]
    exact div_coe _ _ (by positivity)
  rw [pay1_apply, h2, hd, he, pay16_eq l v63 u w t hv G A hu hw hG hA g hg i hi, pay13_eq l v63 u w t hv G hu hw hG g hg, more_groups, hv]
  refine (if_congr (ofNat_eq_iff _ _ (by omega) (by omega)) ?_ (if_congr (ofNat_eq_iff _ _ (by omega) (by omega)) ?_
    (if_congr (ofNat_eq_iff _ _ (by omega) (by omega)) rfl rfl)))
  · rw [gate_one]
  · rw [gate_two, ← EReal.coe_mul, mul_assoc]

include hv hu hw hG hg hA hi hj in
theorem route (r : Fin 128) : (k0_pay1 v63 (k0_pay12 u w) (k0_pay13 v63 u w) (k0_pay15 l v63 u w) (k0_pay16 l v63 u w) (k0_pay18 l v63 u w) (k0_pay19 l v63 u w)
      128#32 (ix2 t r) : EReal) = lane G (A g) g i j r.val := by
  by_cases h : r.val < 40
  · exact route_low l v63 u w t hv G A hu hw hG hA g hg i hi j hj ⟨r.val, h⟩
  · rw [pay1_rest _ _ _ _ _ _ _ _ _ (by omega)]
    unfold lane
    rw [if_neg (by omega), if_neg (by omega), if_neg (by omega)]

end Route

end Cert.Post

end
-- ==== Proof.PostBlocks.lean ====
/-
  The blocks the routing call's points read, at an index, and the first two results' tiles: each token's residual row, normed.
-/
module

public import proofs.«01_k».proof.Proof.PostHost
public import proofs.«01_k».proof.Proof.PostRoute
public import proofs.«01_k».proof.Proof.RefValue

@[expose] public section

set_option maxRecDepth 16384

noncomputable section

namespace Cert.Post

open Idealize.ShloMosaic Idealize.ShloMosaic.TcCoe Cert.Moe
open Cert.Kernel2Ideal Cert.Kernel2Ideal.Gen

variable (m : (ℓ : Loc nD τ sig) → Buf (Elt Ideal) ℓ) (c : Dev nD)

abbrev bY : Vec Ideal S2x8192x1024 .f32 := m ((c.tc : Thread nD τ).loc main_arg0)
abbrev bX : Vec Ideal S2x8192x1024 .f32 := m ((c.tc : Thread nD τ).loc main_arg1)
abbrev bW : Vec Ideal S1024x1024 .f32 := m ((c.tc : Thread nD τ).loc main_arg2)
abbrev bG : Vec Ideal S1024 .f32 := m ((c.tc : Thread nD τ).loc main_arg3)
abbrev bB : Vec Ideal S1024 .f32 := m ((c.tc : Thread nD τ).loc main_arg4)
abbrev bWg : Vec Ideal S1024x4 .f32 := m ((c.tc : Thread nD τ).loc main_arg5)
abbrev bBg : Vec Ideal S4 .f32 := m ((c.tc : Thread nD τ).loc main_arg6)
abbrev bWe : Vec Ideal S4x1024x8 .f32 := m ((c.tc : Thread nD τ).loc main_arg7)
abbrev bBe : Vec Ideal S4x8 .f32 := m ((c.tc : Thread nD τ).loc main_arg8)

/-- A point's batch entry, and the position of its tile's row `r`. -/
abbrev bat (t : Fin cfg0.N) : Fin 2 := ⟨t.val / 32, by have : t.val < 64 := lt_of_lt_of_eq t.isLt N_0; omega⟩
abbrev pos (t : Fin cfg0.N) (r : Fin 256) : Fin 8192 := ⟨256 * (t.val % 32) + r.val, by omega⟩

theorem index_seq : ∀ t : Fin cfg0.N, (win0_0.index t (0 : Fin 3) = t.val / 32 ∧ win0_0.index t (1 : Fin 3) = 0 ∧ win0_0.index t (2 : Fin 3) = t.val % 32)
    ∧ (win0_1.index t (0 : Fin 3) = t.val / 32 ∧ win0_1.index t (1 : Fin 3) = 0 ∧ win0_1.index t (2 : Fin 3) = t.val % 32)
    ∧ (win0_2.index t (0 : Fin 3) = t.val / 32 ∧ win0_2.index t (1 : Fin 3) = t.val % 32 ∧ win0_2.index t (2 : Fin 3) = 0) :=
  (by decide +kernel : ∀ t : Fin grid0.N, _)

theorem index_all : ∀ t : Fin cfg0.N, (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem index_out : ∀ t : Fin cfg0.N, (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem blkY (t : Fin cfg0.N) (k : Fin 512) (r : Fin 256) :
    (iblk m c 0 t (ix3 0 k r) : EReal) = bY m c (ix3 (bat t) (pos t r) (⟨k.val, by omega⟩ : Fin 1024)) := by
  obtain ⟨⟨h0, h1, h2⟩, -⟩ := index_seq t
  have e : iblk m c 0 t (ix3 0 k r) = V m c main_v2 (ix3 (bat t) k (pos t r)) := by
    refine congrArg (V m c main_v2) (funext fun a => Fin.ext ?_)
    match a with
    | ⟨0, _⟩ => show win0_0.index t (0 : Fin 3) * 1 + 1 * 0 = t.val / 32; omega
    | ⟨1, _⟩ => show win0_0.index t (1 : Fin 3) * 512 + 1 * k.val = k.val; omega
    | ⟨2, _⟩ => show win0_0.index t (2 : Fin 3) * 256 + 1 * r.val = 256 * (t.val % 32) + r.val; omega
  rw [e, (V_all m c).1]
  pointwise []

theorem blkY' (t : Fin cfg0.N) (k : Fin 512) (r : Fin 256) :
    (iblk m c 1 t (ix3 0 k r) : EReal) = bY m c (ix3 (bat t) (pos t r) (⟨512 + k.val, by omega⟩ : Fin 1024)) := by
  obtain ⟨-, ⟨h0, h1, h2⟩, -⟩ := index_seq t
  have e : iblk m c 1 t (ix3 0 k r) = V m c main_v5 (ix3 (bat t) k (pos t r)) := by
    refine congrArg (V m c main_v5) (funext fun a => Fin.ext ?_)
    match a with
    | ⟨0, _⟩ => show win0_1.index t (0 : Fin 3) * 1 + 1 * 0 = t.val / 32; omega
    | ⟨1, _⟩ => show win0_1.index t (1 : Fin 3) * 512 + 1 * k.val = k.val; omega
    | ⟨2, _⟩ => show win0_1.index t (2 : Fin 3) * 256 + 1 * r.val = 256 * (t.val % 32) + r.val; omega
  rw [e, (V_all m c).2.1]
  pointwise []

theorem blkX (t : Fin cfg0.N) (r : Fin 256) (d : Fin 1024) : (iblk m c 2 t (ix3 0 r d) : EReal) = bX m c (ix3 (bat t) (pos t r) d) := by
  obtain ⟨-, -, h0, h1, h2⟩ := index_seq t
  have e : iblk m c 2 t (ix3 0 r d) = V m c main_arg1 (ix3 (bat t) (pos t r) d) := by
    refine congrArg (V m c main_arg1) (funext fun a => Fin.ext ?_)
    match a with
    | ⟨0, _⟩ => show win0_2.index t (0 : Fin 3) * 1 + 1 * 0 = t.val / 32; omega
    | ⟨1, _⟩ => show win0_2.index t (1 : Fin 3) * 256 + 1 * r.val = 256 * (t.val % 32) + r.val; omega
    | ⟨2, _⟩ => show win0_2.index t (2 : Fin 3) * 1024 + 1 * d.val = d.val; omega
  rw [e, V_main_arg1]

theorem blkW (t : Fin cfg0.N) (k : Fin 512) (d : Fin 1024) : (iblk m c 3 t (ix2 k d) : EReal) = bW m c (ix2 (⟨k.val, by omega⟩ : Fin 1024) d) := by
  obtain ⟨⟨h0, h1⟩, -⟩ := index_all t
  have e : iblk m c 3 t (ix2 k d) = V m c main_v25 (ix2 k d) := by
    refine congrArg (V m c main_v25) (funext fun a => Fin.ext ?_)
    match a with
    | ⟨0, _⟩ => show win0_3.index t (0 : Fin 2) * 512 + 1 * k.val = k.val; omega
    | ⟨1, _⟩ => show win0_3.index t (1 : Fin 2) * 1024 + 1 * d.val = d.val; omega
  rw [e, (V_all m c).2.2.1]
  pointwise []

theorem blkW' (t : Fin cfg0.N) (k : Fin 512) (d : Fin 1024) : (iblk m c 4 t (ix2 k d) : EReal) = bW m c (ix2 (⟨512 + k.val, by omega⟩ : Fin 1024) d) := by
  obtain ⟨-, ⟨h0, h1⟩, -⟩ := index_all t
  have e : iblk m c 4 t (ix2 k d) = V m c main_v26 (ix2 k d) := by
    refine congrArg (V m c main_v26) (funext fun a => Fin.ext ?_)
    match a with
    | ⟨0, _⟩ => show win0_4.index t (0 : Fin 2) * 512 + 1 * k.val = k.val; omega
    | ⟨1, _⟩ => show win0_4.index t (1 : Fin 2) * 1024 + 1 * d.val = d.val; omega
  rw [e, (V_all m c).2.2.2.1]
  pointwise []

theorem blkG (t : Fin cfg0.N) (d : Fin 1024) : (iblk m c 5 t (ix2 0 d) : EReal) = bG m c (ix1 d) := by
  obtain ⟨-, -, ⟨h0, h1⟩, -⟩ := index_all t
  have e : iblk m c 5 t (ix2 0 d) = V m c main_v27 (ix2 0 d) := by
    refine congrArg (V m c main_v27) (funext fun a => Fin.ext ?_)
    match a with
    | ⟨0, _⟩ => show win0_5.index t (0 : Fin 2) * 1 + 1 * 0 = 0; omega
    | ⟨1, _⟩ => show win0_5.index t (1 : Fin 2) * 1024 + 1 * d.val = d.val; omega
  rw [e, (V_all m c).2.2.2.2.1]
  pointwise []

theorem blkB (t : Fin cfg0.N) (d : Fin 1024) : (iblk m c 6 t (ix2 0 d) : EReal) = bB m c (ix1 d) := by
  obtain ⟨-, -, -, ⟨h0, h1⟩, -⟩ := index_all t
  have e : iblk m c 6 t (ix2 0 d) = V m c main_v28 (ix2 0 d) := by
    refine congrArg (V m c main_v28) (funext fun a => Fin.ext ?_)
    match a with
    | ⟨0, _⟩ => show win0_6.index t (0 : Fin 2) * 1 + 1 * 0 = 0; omega
    | ⟨1, _⟩ => show win0_6.index t (1 : Fin 2) * 1024 + 1 * d.val = d.val; omega
  rw [e, (V_all m c).2.2.2.2.2.1]
  pointwise []

theorem blkR (t : Fin cfg0.N) (l : Fin 128) (d : Fin 1024) : (iblk m c 7 t (ix2 l d) : EReal) = routerW (bWg m c) (bWe m c) (ix2 l d) := by
  obtain ⟨-, -, -, -, ⟨h0, h1⟩, -⟩ := index_all t
  have e : iblk m c 7 t (ix2 l d) = V m c main_v29 (ix2 l d) := by
    refine congrArg (V m c main_v29) (funext fun a => Fin.ext ?_)
    match a with
    | ⟨0, _⟩ => show win0_7.index t (0 : Fin 2) * 128 + 1 * l.val = l.val; omega
    | ⟨1, _⟩ => show win0_7.index t (1 : Fin 2) * 1024 + 1 * d.val = d.val; omega
  rw [e, (V_all m c).2.2.2.2.2.2.1]
  pointwise []

theorem blkL (t : Fin cfg0.N) (l : Fin 128) (d : Fin 1024) :
    (iblk m c 8 t (ix2 l d) : EReal) = (routerW (bWg m c) (bWe m c) (ix2 l d) : EReal) - routerW (bWg m c) (bWe m c) (ix2 l d) := by
  obtain ⟨-, -, -, -, -, ⟨h0, h1⟩, -⟩ := index_all t
  have e : iblk m c 8 t (ix2 l d) = V m c main_v32 (ix2 l d) := by
    refine congrArg (V m c main_v32) (funext fun a => Fin.ext ?_)
    match a with
    | ⟨0, _⟩ => show win0_8.index t (0 : Fin 2) * 128 + 1 * l.val = l.val; omega
    | ⟨1, _⟩ => show win0_8.index t (1 : Fin 2) * 1024 + 1 * d.val = d.val; omega
  rw [e, (V_all m c).2.2.2.2.2.2.2.1]
  pointwise []

theorem blkO (t : Fin cfg0.N) (l : Fin 128) : (iblk m c 9 t (ix2 l 0) : EReal) = routerB (bBg m c) (bBe m c) (ix2 l 0) := by
  obtain ⟨-, -, -, -, -, -, h0, h1⟩ := index_all t
  have e : iblk m c 9 t (ix2 l 0) = V m c main_v24 (ix2 l 0) := by
    refine congrArg (V m c main_v24) (funext fun a => Fin.ext ?_)
    match a with
    | ⟨0, _⟩ => show win0_9.index t (0 : Fin 2) * 128 + 1 * l.val = l.val; omega
    | ⟨1, _⟩ => show win0_9.index t (1 : Fin 2) * 1 + 1 * 0 = 0; omega
  rw [e, (V_all m c).2.2.2.2.2.2.2.2]

/-- A token's residual row. -/
def resRow (y x : Vec Ideal S2x8192x1024 .f32) (w : Vec Ideal S1024x1024 .f32) (b : Fin 2) (s : Fin 8192) (d : Fin 1024) : EReal :=
  Ideal.ofBits .f32 0x3F9837F0#32 * x (ix3 b s d) + ∑ k : Fin 1024, (y (ix3 b s k) : EReal) * w (ix2 k d)

theorem sum_halves (f : Fin 1024 → EReal) : (∑ k : Fin 512, f ⟨k.val, by omega⟩) + (∑ k : Fin 512, f ⟨512 + k.val, by omega⟩) = ∑ k, f k :=
  (Fin.sum_univ_add (a := 512) (b := 512) f).symm

section Pay
variable (v0 : Vec Ideal S1x512x256 .bf16) (v2 : Vec Ideal S512x1024 .bf16) (v5 : Vec Ideal S1x512x256 .bf16) (v7 : Vec Ideal S512x1024 .bf16)
  (v11 : Vec Ideal S1x256x1024 .f32) (v16 v18 : Vec Ideal S1x1024 .f32) (r : Fin 256) (row : Fin 1024 → EReal)
  (hrow : ∀ d, Ideal.ofBits .f32 0x3F9837F0#32 * (v11 (ix3 0 r d) : EReal)
    + ((∑ k : Fin 512, (v0 (ix3 0 k r) : EReal) * v2 (ix2 k d)) + ∑ k : Fin 512, (v5 (ix3 0 k r) : EReal) * v7 (ix2 k d)) = row d)

include hrow in
theorem pay4_apply (d : Fin 1024) : (k0_pay4 v0 v2 v5 v7 v11 (ix2 r d) : EReal) = row d - rowMean row := by
  obtain rfl : _ = row := funext hrow
  pointwise [k0_pay4]
  rfl

include hrow in
theorem pay5_apply : (k0_pay5 v0 v2 v5 v7 v11 (ix2 r 0) : EReal)
    = rowMean (fun s => (row s - rowMean row) * (row s - rowMean row)) + Ideal.ofBits .f32 0x3727C5AC#32 := by
  pointwise [k0_pay5]
  simp only [pay4_apply v0 v2 v5 v7 v11 r row hrow]
  rfl

theorem pay2_apply (d : Fin 1024) : (k0_pay2 v16 (ix2 0 d) : EReal) = v16 (ix2 0 d) := by
  pointwise [k0_pay2]

theorem pay3_apply (d : Fin 1024) : (k0_pay3 v16 (ix2 0 d) : EReal) = v16 (ix2 0 d) := by
  pointwise [k0_pay3]

include hrow in
theorem pay6_apply (d : Fin 1024) : (k0_pay6 (k0_pay2 v16) (k0_pay3 v18) (k0_pay4 v0 v2 v5 v7 v11) (k0_pay5 v0 v2 v5 v7 v11) (ix2 r d) : EReal)
    = rowNorm row (fun d => v16 (ix2 0 d)) (fun d => v18 (ix2 0 d)) d := by
  pointwise [k0_pay6]
  rw [pay4_apply v0 v2 v5 v7 v11 r row hrow, pay5_apply v0 v2 v5 v7 v11 r row hrow, pay2_apply, pay3_apply]
  rfl

end Pay

/-- A token's normed residual row. -/
def hRow (b : Fin 2) (s : Fin 8192) (d : Fin 1024) : EReal :=
  rowNorm (resRow (bY m c) (bX m c) (bW m c) b s) (fun d => bG m c (ix1 d)) (fun d => bB m c (ix1 d)) d

/-- The normed rows of a point's tile. -/
def hTile (t : Fin cfg0.N) : FVec Ideal S256x1024 .f32 :=
  k0_pay6 (k0_pay2 (iblk m c 5 t)) (k0_pay3 (iblk m c 6 t)) (k0_pay4 (iblk m c 0 t) (iblk m c 3 t) (iblk m c 1 t) (iblk m c 4 t) (iblk m c 2 t))
    (k0_pay5 (iblk m c 0 t) (iblk m c 3 t) (iblk m c 1 t) (iblk m c 4 t) (iblk m c 2 t))

theorem hTile_apply (t : Fin cfg0.N) (r : Fin 256) (d : Fin 1024) : (hTile m c t (ix2 r d) : EReal) = hRow m c (bat t) (pos t r) d := by
  unfold hTile
  rw [pay6_apply (iblk m c 0 t) (iblk m c 3 t) (iblk m c 1 t) (iblk m c 4 t) (iblk m c 2 t) (iblk m c 5 t) (iblk m c 6 t) r
    (resRow (bY m c) (bX m c) (bW m c) (bat t) (pos t r)) (fun d => by
      rw [blkX, resRow, ← sum_halves]
      simp only [blkY, blkY', blkW, blkW']) d]
  unfold hRow
  congr 1
  · funext d; exact blkG m c t d
  · funext d; exact blkB m c t d

end Cert.Post

end
-- ==== Proof.PostRow.lean ====
/-
  The row norm with finite weights is finite; the router's lanes of a token from its normed row; the third result's tile.
-/
module

public import proofs.«01_k».proof.Proof.PostBlocks
public import proofs.«01_k».proof.Proof.Gen.Kernel2Ideal.Value
public import Idealize.ShloMosaic.Lib.Pipeline.ValueKit.Basic

@[expose] public section

set_option maxRecDepth 16384

noncomputable section

namespace Cert.Post

open Idealize.ShloMosaic Idealize.ShloMosaic.TcCoe Cert.Moe
open Cert.Kernel2Ideal Cert.Kernel2Ideal.Gen

theorem size_eq : ∃ r : ℝ, 0 < r ∧ Ideal.ofBits .f32 0x44800000#32 = (r : EReal) := by
  unfold Ideal.ofBits Ideal.ieee
  simp
  refine ⟨_, ?_, rfl⟩
  norm_num

theorem eps_eq : ∃ r : ℝ, 0 < r ∧ Ideal.ofBits .f32 0x3727C5AC#32 = (r : EReal) := by
  unfold Ideal.ofBits Ideal.ieee
  simp
  refine ⟨_, ?_, rfl⟩
  norm_num

theorem real_mul {x y : EReal} : (∃ r : ℝ, x = r) → (∃ r : ℝ, y = r) → ∃ r : ℝ, x * y = r := by
  rintro ⟨a, rfl⟩ ⟨b, rfl⟩; exact ⟨a * b, (EReal.coe_mul a b).symm⟩
theorem real_add {x y : EReal} : (∃ r : ℝ, x = r) → (∃ r : ℝ, y = r) → ∃ r : ℝ, x + y = r := by
  rintro ⟨a, rfl⟩ ⟨b, rfl⟩; exact ⟨a + b, (EReal.coe_add a b).symm⟩
theorem real_sum {ι : Type} (s : Finset ι) {f : ι → EReal} (h : ∀ i, ∃ r : ℝ, f i = r) : ∃ r : ℝ, ∑ i ∈ s, f i = r := by
  choose g hg using h
  exact ⟨∑ i ∈ s, g i, by simp only [hg]; exact coe_sum s g⟩

theorem rsqrt_pos {r : ℝ} (h : 0 < r) : Ideal.rsqrt (r : EReal) = ((Real.sqrt r)⁻¹ : ℝ) := by
  show (if r < 0 then (⊥ : EReal) else if r = 0 then ⊤ else (((Real.sqrt r)⁻¹ : ℝ) : EReal)) = _
  rw [if_neg h.not_gt, if_neg h.ne']

theorem mul_self_infinite {x : EReal} (h : ∀ r : ℝ, x ≠ r) : x * x = ⊤ := by
  induction x using EReal.rec with
  | bot => exact EReal.bot_mul_bot
  | coe r => exact absurd rfl (h r)
  | top => exact EReal.top_mul_top

theorem mul_self_nonneg' (x : EReal) : 0 ≤ x * x := by
  by_cases h : ∃ r : ℝ, x = r
  · obtain ⟨r, rfl⟩ := h
    rw [← EReal.coe_mul]
    exact EReal.coe_nonneg.mpr (mul_self_nonneg r)
  · rw [mul_self_infinite fun r e => h ⟨r, e⟩]
    exact le_top

/-- A row of deviations, one of them infinite, has an infinite variance; a row of finite ones has a finite variance. -/
theorem variance (c : Fin 1024 → EReal) : (∃ v : ℝ, rowMean (fun s => c s * c s) = v ∧ 0 ≤ v ∧ ∀ s, ∃ r : ℝ, c s = r) ∨ rowMean (fun s => c s * c s) = ⊤ := by
  obtain ⟨n, hn, en⟩ := size_eq
  have en' : Scalar.ofBits (F := Ideal) .f32 0x44800000#32 = ((n : ℝ) : EReal) := en
  unfold rowMean
  by_cases h : ∀ s, ∃ r : ℝ, c s = r
  · choose y hy using h
    refine Or.inl ⟨(∑ d, y d * y d) / n, ?_, div_nonneg (Finset.sum_nonneg fun d _ => mul_self_nonneg _) hn.le, fun s => ⟨y s, hy s⟩⟩
    simp only [hy, ← EReal.coe_mul]
    rw [en', coe_sum, div_coe _ _ hn.ne']
  · obtain ⟨s, hs⟩ := not_forall.mp h
    refine Or.inr ?_
    have htop : ∑ s, c s * c s = ⊤ := by
      have h1 := Finset.single_le_sum (f := fun s => c s * c s) (fun i _ => mul_self_nonneg' (c i)) (Finset.mem_univ s)
      rw [show c s * c s = ⊤ from mul_self_infinite fun r e => hs ⟨r, e⟩] at h1
      exact top_le_iff.mp h1
    have hdiv : Ideal.div ⊤ ((n : ℝ) : EReal) = ⊤ := by
      unfold Ideal.div
      rw [if_neg (by exact_mod_cast hn.ne'), ← EReal.coe_inv]
      exact EReal.top_mul_coe_of_pos (inv_pos.mpr hn)
    rw [en', htop, hdiv]

/-- The layer norm of any row is finite, where its weights are: a row with an infinite deviation has an infinite variance, whose
inverse root is zero. -/
theorem rowNorm_real (x g b : Fin 1024 → EReal) (hg : ∀ d, ∃ r : ℝ, g d = r) (hb : ∀ d, ∃ r : ℝ, b d = r)
    (d : Fin 1024) : ∃ r : ℝ, rowNorm x g b d = r := by
  obtain ⟨e, he, ee⟩ := eps_eq
  have hroot : ∀ z : EReal, Scalar.rsqrt (F := Ideal) (φ := .f32) z = Ideal.rsqrt z := fun _ => rfl
  unfold rowNorm
  rw [show Scalar.ofBits (F := Ideal) .f32 0x3727C5AC#32 = ((e : ℝ) : EReal) from ee, hroot]
  rcases variance (fun s => x s - rowMean x) with ⟨v, hv, hv0, hc⟩ | hv
  · rw [hv, ← EReal.coe_add, rsqrt_pos (add_pos_of_nonneg_of_pos hv0 he)]
    exact real_add (real_mul (real_mul (hc d) ⟨_, rfl⟩) (hg d)) (hb d)
  · rw [hv, EReal.top_add_coe, show Ideal.rsqrt ⊤ = 0 from rfl, mul_zero, zero_mul, zero_add]
    exact hb d

theorem sub_self_real {x : EReal} (h : ∃ r : ℝ, x = r) : x - x = 0 := by
  obtain ⟨r, rfl⟩ := h
  rw [← EReal.coe_sub, sub_self, EReal.coe_zero]

section Logits
variable (v17 v19 : FVec Ideal S1x1024 .f32) (v25 : FVec Ideal S256x1024 .f32) (v32 : FVec Ideal S256x1 .f32) (v47 v50 v54 : Vec Ideal S128x1024 .bf16)
  (v58 : Vec Ideal S128x1 .f32)

theorem pay8_apply (r : Fin 40) (t : Fin 256) (h w : Fin 1024 → EReal) (b : EReal) (hh : ∀ d, (k0_pay6 v17 v19 v25 v32 (ix2 t d) : EReal) = h d)
    (hr : ∀ d, ∃ x : ℝ, h d = x) (hw : ∀ d, (v47 (ix2 (⟨r.val, by omega⟩ : Fin 128) d) : EReal) = w d)
    (hl : ∀ d, (v54 (ix2 (⟨r.val, by omega⟩ : Fin 128) d) : EReal) = 0) (hb : (v58 (ix2 (⟨r.val, by omega⟩ : Fin 128) 0) : EReal) = b) :
    (k0_pay8 v17 v19 v25 v32 v47 v50 v54 v58 (ix2 r t) : EReal) = (∑ d : Fin 1024, h d * w d) + b := by
  have h0 : ∀ d, h d - h d = 0 := fun d => sub_self_real (hr d)
  pointwise [k0_pay8]
  simp only [hh, hw, h0, hl, hb, mul_zero, zero_mul, Finset.sum_const_zero, add_zero]
  exact congrArg (· + b) (Finset.sum_congr rfl fun d _ => mul_comm _ _)

theorem pay9_apply (r : Fin 40) (t : Fin 256) : (k0_pay9 v17 v19 v25 v32 v47 v50 v54 v58 (ix2 r t) : EReal)
    = if 32 ≤ r.val ∧ r.val < 32 + 4 then (k0_pay8 v17 v19 v25 v32 v47 v50 v54 v58 (ix2 r t) : EReal) else ⊥ := by
  pointwise [k0_pay9]
  rw [select_eq, mask_eq]
  exact if_congr (in_groups r) rfl rfl

theorem pay10_apply (t : Fin 256) : (k0_pay10 v17 v19 v25 v32 v47 v50 v54 v58 (ix1 t) : EReal)
    = Finset.fold max ⊥ (fun x : Fin 40 => (k0_pay9 v17 v19 v25 v32 v47 v50 v54 v58 (ix2 x t) : EReal)) Finset.univ := by
  pointwise [k0_pay10]
  rw [neg_inf]

end Logits

variable (m : (ℓ : Loc nD τ sig) → Buf (Elt Ideal) ℓ) (c : Dev nD)

/-- The layer norm's and the router's weights hold finite numbers. -/
structure Reals : Prop where
  g : ∀ d, ∃ r : ℝ, (bG m c (ix1 d) : EReal) = r
  b : ∀ d, ∃ r : ℝ, (bB m c (ix1 d) : EReal) = r
  wg : ∀ d q, ∃ r : ℝ, (bWg m c (ix2 d q) : EReal) = r
  bg : ∀ q, ∃ r : ℝ, (bBg m c (ix1 q) : EReal) = r
  we : ∀ q d e, ∃ r : ℝ, (bWe m c (ix3 q d e) : EReal) = r
  be : ∀ q e, ∃ r : ℝ, (bBe m c (ix2 q e) : EReal) = r

variable {m c}

theorem hRow_real (h : Reals m c) (b : Fin 2) (s : Fin 8192) (d : Fin 1024) : ∃ r : ℝ, hRow m c b s d = r :=
  rowNorm_real _ _ _ h.g h.b d

variable (m c)

/-- A token's logit for a group. -/
def gLogit (b : Fin 2) (s : Fin 8192) (q : Fin 4) : EReal := (∑ d : Fin 1024, hRow m c b s d * bWg m c (ix2 d q)) + bBg m c (ix1 q)

/-- A token's logit for an expert of a group. -/
def eLogit (b : Fin 2) (s : Fin 8192) (q : Fin 4) (e : Fin 8) : EReal := (∑ d : Fin 1024, hRow m c b s d * bWe m c (ix3 q d e)) + bBe m c (ix2 q e)

variable {m c}

theorem gLogit_real (h : Reals m c) (b : Fin 2) (s : Fin 8192) : ∃ G : Fin 4 → ℝ, ∀ q, gLogit m c b s q = G q :=
  ⟨_, fun q => (real_add (real_sum _ fun d => real_mul (hRow_real h b s d) (h.wg d q)) (h.bg q)).choose_spec⟩

theorem eLogit_real (h : Reals m c) (b : Fin 2) (s : Fin 8192) : ∃ A : Fin 4 → Fin 8 → ℝ, ∀ q e, eLogit m c b s q e = A q e :=
  ⟨_, fun q e => (real_add (real_sum _ fun d => real_mul (hRow_real h b s d) (h.we q d e)) (h.be q e)).choose_spec⟩

variable (m c)

/-- The logits of a point's tile. -/
def lTile (t : Fin cfg0.N) : FVec Ideal S40x256 .f32 :=
  k0_pay8 (k0_pay2 (iblk m c 5 t)) (k0_pay3 (iblk m c 6 t)) (k0_pay4 (iblk m c 0 t) (iblk m c 3 t) (iblk m c 1 t) (iblk m c 4 t) (iblk m c 2 t))
    (k0_pay5 (iblk m c 0 t) (iblk m c 3 t) (iblk m c 1 t) (iblk m c 4 t) (iblk m c 2 t)) (iblk m c 7 t) (iblk m c 7 t) (iblk m c 8 t) (iblk m c 9 t)

variable {m c}

theorem lTile_apply (h : Reals m c) (t : Fin cfg0.N) (l : Fin 40) (r : Fin 256) (w : Fin 1024 → EReal) (b : EReal)
    (hw : ∀ d, (routerW (bWg m c) (bWe m c) (ix2 (⟨l.val, by omega⟩ : Fin 128) d) : EReal) = w d) (hr : ∀ d, ∃ x : ℝ, w d = x)
    (hb : (routerB (bBg m c) (bBe m c) (ix2 (⟨l.val, by omega⟩ : Fin 128) 0) : EReal) = b) :
    (lTile m c t (ix2 l r) : EReal) = (∑ d : Fin 1024, hRow m c (bat t) (pos t r) d * w d) + b :=
  pay8_apply _ _ _ _ _ _ _ _ l r _ w b (hTile_apply m c t r) (hRow_real h _ _) (fun d => (blkR m c t _ d).trans (hw d))
    (fun d => (blkL m c t _ d).trans (by rw [hw]; exact sub_self_real (hr d))) ((blkO m c t _).trans hb)

theorem lTile_group (h : Reals m c) (t : Fin cfg0.N) (q : Fin 4) (r : Fin 256) :
    (lTile m c t (ix2 (⟨32 + q.val, by omega⟩ : Fin 40) r) : EReal) = gLogit m c (bat t) (pos t r) q :=
  lTile_apply h t _ r _ _ (routerW_group _ _ q) (fun d => h.wg d q) (routerB_group _ _ q)

theorem lTile_expert (h : Reals m c) (t : Fin cfg0.N) (q : Fin 4) (e : Fin 8) (r : Fin 256) :
    (lTile m c t (ix2 (⟨8 * q.val + e.val, by omega⟩ : Fin 40) r) : EReal) = eLogit m c (bat t) (pos t r) q e :=
  lTile_apply h t _ r _ _ (routerW_expert _ _ q e) (fun d => h.we q d e) (routerB_expert _ _ q e)

section Tiles
variable (m c)

theorem zero3 : ∀ a, (![0, 0, 0] : Fin 3 → ℕ) a = 0 := by decide
theorem zero2 : ∀ a, (![0, 0] : Fin 2 → ℕ) a = 0 := by decide

section Whole
variable (x0 x1 : Vec Ideal S1x512x256 .bf16) (x2 : Vec Ideal S1x256x1024 .f32) (x3 x4 : Vec Ideal S512x1024 .bf16) (x5 x6 : Vec Ideal S1x1024 .f32)
  (x7 x8 : Vec Ideal S128x1024 .bf16) (x9 : Vec Ideal S128x1 .f32)

theorem whole20 : k0_pay20 x0 x1 x2 x3 x4 x5 x6 x7 x8 x9 = k0_pay2 x5 := by
  unfold k0_pay20
  rw [View.ld_unit_lit (S := S1x1024) _ _ zero2]

theorem whole21 : k0_pay21 x0 x1 x2 x3 x4 x5 x6 x7 x8 x9 = k0_pay3 x6 := by
  unfold k0_pay21
  rw [View.ld_unit_lit (S := S1x1024) _ _ zero2]

theorem whole22 : k0_pay22 x0 x1 x2 x3 x4 x5 x6 x7 x8 x9 = k0_pay4 x0 x3 x1 x4 x2 := by
  unfold k0_pay22
  simp only [View.ld_unit_lit (S := S1x512x256) _ _ zero3, View.ld_unit_lit (S := S512x1024) _ _ zero2, View.ld_unit_lit (S := S1x256x1024) _ _ zero3]

theorem whole23 : k0_pay23 x0 x1 x2 x3 x4 x5 x6 x7 x8 x9 = k0_pay5 x0 x3 x1 x4 x2 := by
  unfold k0_pay23
  simp only [View.ld_unit_lit (S := S1x512x256) _ _ zero3, View.ld_unit_lit (S := S512x1024) _ _ zero2, View.ld_unit_lit (S := S1x256x1024) _ _ zero3]

theorem whole25 : k0_pay25 x0 x1 x2 x3 x4 x5 x6 x7 x8 x9 = k0_pay8 (k0_pay2 x5) (k0_pay3 x6) (k0_pay4 x0 x3 x1 x4 x2) (k0_pay5 x0 x3 x1 x4 x2) x7 x7 x8 x9 := by
  unfold k0_pay25
  rw [whole20, whole21, whole22, whole23]
  simp only [View.ld_unit_lit (S := S128x1024) _ _ zero2, View.ld_unit_lit (S := S128x1) _ _ zero2]

theorem whole26 : k0_pay26 x0 x1 x2 x3 x4 x5 x6 x7 x8 x9 = k0_pay9 (k0_pay2 x5) (k0_pay3 x6) (k0_pay4 x0 x3 x1 x4 x2) (k0_pay5 x0 x3 x1 x4 x2) x7 x7 x8 x9 := by
  unfold k0_pay26
  rw [whole20, whole21, whole22, whole23]
  simp only [View.ld_unit_lit (S := S128x1024) _ _ zero2, View.ld_unit_lit (S := S128x1) _ _ zero2]

theorem whole27 : k0_pay27 x0 x1 x2 x3 x4 x5 x6 x7 x8 x9 = k0_pay10 (k0_pay2 x5) (k0_pay3 x6) (k0_pay4 x0 x3 x1 x4 x2) (k0_pay5 x0 x3 x1 x4 x2) x7 x7 x8 x9 := by
  unfold k0_pay27
  rw [whole20, whole21, whole22, whole23]
  simp only [View.ld_unit_lit (S := S128x1024) _ _ zero2, View.ld_unit_lit (S := S128x1) _ _ zero2]

end Whole

theorem out10_eq (t : Fin cfg0.N) : out0_10 (iblk m c 0 t) (iblk m c 1 t) (iblk m c 2 t) (iblk m c 3 t) (iblk m c 4 t) (iblk m c 5 t) (iblk m c 6 t)
    (iblk m c 7 t) (iblk m c 8 t) (iblk m c 9 t) = hTile m c t := by
  unfold out0_10
  rw [View.canon_cons_unit_lit (S := S256x1024) _ _ _ zero2, whole20, whole21, whole22, whole23]
  rfl

theorem out11_apply (t : Fin cfg0.N) (r : Fin 256) (d : Fin 1024) : (out0_11 (iblk m c 0 t) (iblk m c 1 t) (iblk m c 2 t) (iblk m c 3 t) (iblk m c 4 t)
    (iblk m c 5 t) (iblk m c 6 t) (iblk m c 7 t) (iblk m c 8 t) (iblk m c 9 t) (ix2 r d) : EReal) = hTile m c t (ix2 r d) := by
  unfold out0_11
  rw [View.canon_cons_unit_lit (S := S256x1024) _ _ _ zero2, whole20, whole21, whole22, whole23]
  pointwise [k0_pay7]
  rfl

variable {m c}

theorem out12_apply (h : Reals m c) (t : Fin cfg0.N) (r : Fin 256) (G : Fin 4 → ℝ) (A : Fin 4 → Fin 8 → ℝ)
    (hG : ∀ q, gLogit m c (bat t) (pos t r) q = G q) (hA : ∀ q e, eLogit m c (bat t) (pos t r) q e = A q e) (g : Fin 4) (hg : First (fun q => (G q : EReal)) g)
    (i : Fin 8) (hi : First (fun e => (A g e : EReal)) i) (j : Fin 8) (hj : First (without (fun e => (A g e : EReal)) i) j) (l : Fin 128) :
    (out0_12 (iblk m c 0 t) (iblk m c 1 t) (iblk m c 2 t) (iblk m c 3 t) (iblk m c 4 t) (iblk m c 5 t) (iblk m c 6 t) (iblk m c 7 t) (iblk m c 8 t)
      (iblk m c 9 t) (ix2 r l) : EReal) = lane G (A g) g i j l.val := by
  unfold out0_12
  rw [View.canon_cons_unit_lit (S := S256x128) _ _ _ zero2, whole25, whole26, whole27]
  refine route _ _ _ _ r ?_ G A ?_ ?_ ?_ ?_ g hg i hi j hj l
  · intro k
    pointwise [k0_pay24]
  · exact fun k => pay9_apply _ _ _ _ _ _ _ _ k r
  · exact pay10_apply _ _ _ _ _ _ _ _ r
  · exact fun q => (lTile_group h t q r).trans (hG q)
  · exact fun q e => (lTile_expert h t q e r).trans (hA q e)

variable (m c)

theorem mem_blk10 (t : Fin cfg0.N) (i : S16384x1024.Idx) : i ∈ ((cfg0.win 10).blk t).view.set ↔ ∀ a : Fin 2,
    win0_10.index t a * S256x1024.size a ≤ (i a).val ∧ (i a).val < win0_10.index t a * S256x1024.size a + S256x1024.size a := by
  show i ∈ ((View.whole main_v33_0).slice (win0_10.rect t)).set ↔ _
  rw [View.set_slice_whole, Rect.mem_set_unit]
  exact Iff.rfl

theorem mem_blk11 (t : Fin cfg0.N) (i : S16384x1024.Idx) : i ∈ ((cfg0.win 11).blk t).view.set ↔ ∀ a : Fin 2,
    win0_11.index t a * S256x1024.size a ≤ (i a).val ∧ (i a).val < win0_11.index t a * S256x1024.size a + S256x1024.size a := by
  show i ∈ ((View.whole main_v33_1).slice (win0_11.rect t)).set ↔ _
  rw [View.set_slice_whole, Rect.mem_set_unit]
  exact Iff.rfl

theorem mem_blk12 (t : Fin cfg0.N) (i : S16384x128.Idx) : i ∈ ((cfg0.win 12).blk t).view.set ↔ ∀ a : Fin 2,
    win0_12.index t a * S256x128.size a ≤ (i a).val ∧ (i a).val < win0_12.index t a * S256x128.size a + S256x128.size a := by
  show i ∈ ((View.whole main_v33_2).slice (win0_12.rect t)).set ↔ _
  rw [View.set_slice_whole, Rect.mem_set_unit]
  exact Iff.rfl

/-- The row of a point's tile, in the results. -/
abbrev flat (t : Fin cfg0.N) (r : Fin 256) : Fin 16384 := ⟨256 * t.val + r.val, by have : t.val < 64 := lt_of_lt_of_eq t.isLt N_0; omega⟩

theorem flush_all : ∀ t : Fin cfg0.N, (cfg0.win 10).flush t = true ∧ (cfg0.win 11).flush t = true ∧ (cfg0.win 12).flush t = true :=
  (by decide +kernel : ∀ t : Fin grid0.N, _)

theorem final10 (T : Vec Ideal S16384x1024 .f32) (hT : ∀ t r d, (T (ix2 (flat t r) d) : EReal) = hTile m c t (ix2 r d)) : (dats m 0 c).arrAt 10 cfg0.N = T := by
  refine (dats m 0 c).arrAt_eq_of_cover 10 _ (fun t _ => ?_) fun i => ?_
  · rw [Value.flushed10, out10_eq]
    obtain ⟨⟨h0, h1⟩, -, -⟩ := index_out t
    funext y
    have hy0 : (y 0).val < 256 := (y 0).isLt
    have hy1 : (y 1).val < 1024 := (y 1).isLt
    have hb0 : (((cfg0.win 10).blk t).view.emb y 0).val = win0_10.index t (0 : Fin 2) * 256 + 1 * (y 0).val := rfl
    have hb1 : (((cfg0.win 10).blk t).view.emb y 1).val = win0_10.index t (1 : Fin 2) * 1024 + 1 * (y 1).val := rfl
    have e1 : (cfg0.win 10).xinj (grid0.coords t) y = ix2 ⟨(y 0).val, hy0⟩ ⟨(y 1).val, hy1⟩ := by
      funext a; apply Fin.ext
      match a with
      | ⟨0, _⟩ => rfl
      | ⟨1, _⟩ => rfl
    have e2 : ((cfg0.win 10).blk t).view.emb y = ix2 (flat t ⟨(y 0).val, hy0⟩) ⟨(y 1).val, hy1⟩ := by
      funext a; apply Fin.ext
      match a with
      | ⟨0, _⟩ => exact hb0.trans (by show _ = 256 * t.val + (y 0).val; omega)
      | ⟨1, _⟩ => exact hb1.trans (by show _ = (y 1).val; omega)
    show hTile m c t ((cfg0.win 10).xinj (grid0.coords t) y) = T (((cfg0.win 10).blk t).view.emb y)
    rw [e1, e2]
    exact (hT t _ _).symm
  · have hN : cfg0.N = 64 := N_0
    have hi0 : (i 0).val < 16384 := (i 0).isLt
    have hi1 : (i 1).val < 1024 := (i 1).isLt
    refine ⟨⟨(i 0).val / 256, by omega⟩, (flush_all _).1, ?_⟩
    obtain ⟨⟨h0, h1⟩, -, -⟩ := index_out ⟨(i 0).val / 256, by omega⟩
    rw [mem_blk10]
    intro a
    match a with
    | ⟨0, _⟩ =>
      show win0_10.index _ (0 : Fin 2) * 256 ≤ (i 0).val ∧ (i 0).val < win0_10.index _ (0 : Fin 2) * 256 + 256
      rw [h0]
      show (i 0).val / 256 * 256 ≤ (i 0).val ∧ (i 0).val < (i 0).val / 256 * 256 + 256
      omega
    | ⟨1, _⟩ =>
      show win0_10.index _ (1 : Fin 2) * 1024 ≤ (i 1).val ∧ (i 1).val < win0_10.index _ (1 : Fin 2) * 1024 + 1024
      rw [h1]
      omega
theorem final11 (T : Vec Ideal S16384x1024 .bf16) (hT : ∀ t r d, (T (ix2 (flat t r) d) : EReal) = hTile m c t (ix2 r d)) : (dats m 0 c).arrAt 11 cfg0.N = T := by
  refine (dats m 0 c).arrAt_eq_of_cover 11 _ (fun t _ => ?_) fun i => ?_
  · rw [Value.flushed11]
    obtain ⟨-, ⟨h0, h1⟩, -⟩ := index_out t
    funext y
    have hy0 : (y 0).val < 256 := (y 0).isLt
    have hy1 : (y 1).val < 1024 := (y 1).isLt
    have hb0 : (((cfg0.win 11).blk t).view.emb y 0).val = win0_11.index t (0 : Fin 2) * 256 + 1 * (y 0).val := rfl
    have hb1 : (((cfg0.win 11).blk t).view.emb y 1).val = win0_11.index t (1 : Fin 2) * 1024 + 1 * (y 1).val := rfl
    have e1 : (cfg0.win 11).xinj (grid0.coords t) y = ix2 ⟨(y 0).val, hy0⟩ ⟨(y 1).val, hy1⟩ := by
      funext a; apply Fin.ext
      match a with
      | ⟨0, _⟩ => rfl
      | ⟨1, _⟩ => rfl
    have e2 : ((cfg0.win 11).blk t).view.emb y = ix2 (flat t ⟨(y 0).val, hy0⟩) ⟨(y 1).val, hy1⟩ := by
      funext a; apply Fin.ext
      match a with
      | ⟨0, _⟩ => exact hb0.trans (by show _ = 256 * t.val + (y 0).val; omega)
      | ⟨1, _⟩ => exact hb1.trans (by show _ = (y 1).val; omega)
    show out0_11 (iblk m c 0 t) (iblk m c 1 t) (iblk m c 2 t) (iblk m c 3 t) (iblk m c 4 t) (iblk m c 5 t) (iblk m c 6 t)
      (iblk m c 7 t) (iblk m c 8 t) (iblk m c 9 t) ((cfg0.win 11).xinj (grid0.coords t) y) = T (((cfg0.win 11).blk t).view.emb y)
    rw [e1, e2]
    exact (out11_apply m c t _ _).trans (hT t _ _).symm
  · have hN : cfg0.N = 64 := N_0
    have hi0 : (i 0).val < 16384 := (i 0).isLt
    have hi1 : (i 1).val < 1024 := (i 1).isLt
    refine ⟨⟨(i 0).val / 256, by omega⟩, (flush_all _).2.1, ?_⟩
    obtain ⟨-, ⟨h0, h1⟩, -⟩ := index_out ⟨(i 0).val / 256, by omega⟩
    rw [mem_blk11]
    intro a
    match a with
    | ⟨0, _⟩ =>
      show win0_11.index _ (0 : Fin 2) * 256 ≤ (i 0).val ∧ (i 0).val < win0_11.index _ (0 : Fin 2) * 256 + 256
      rw [h0]
      show (i 0).val / 256 * 256 ≤ (i 0).val ∧ (i 0).val < (i 0).val / 256 * 256 + 256
      omega
    | ⟨1, _⟩ =>
      show win0_11.index _ (1 : Fin 2) * 1024 ≤ (i 1).val ∧ (i 1).val < win0_11.index _ (1 : Fin 2) * 1024 + 1024
      rw [h1]
      omega
theorem final12 (T : Vec Ideal S16384x128 .f32) (hT : ∀ t r d, (T (ix2 (flat t r) d) : EReal) = (out0_12 (iblk m c 0 t) (iblk m c 1 t) (iblk m c 2 t) (iblk m c 3 t) (iblk m c 4 t) (iblk m c 5 t) (iblk m c 6 t)
      (iblk m c 7 t) (iblk m c 8 t) (iblk m c 9 t) (ix2 r d) : EReal)) : (dats m 0 c).arrAt 12 cfg0.N = T := by
  refine (dats m 0 c).arrAt_eq_of_cover 12 _ (fun t _ => ?_) fun i => ?_
  · rw [Value.flushed12]
    obtain ⟨-, -, ⟨h0, h1⟩⟩ := index_out t
    funext y
    have hy0 : (y 0).val < 256 := (y 0).isLt
    have hy1 : (y 1).val < 128 := (y 1).isLt
    have hb0 : (((cfg0.win 12).blk t).view.emb y 0).val = win0_12.index t (0 : Fin 2) * 256 + 1 * (y 0).val := rfl
    have hb1 : (((cfg0.win 12).blk t).view.emb y 1).val = win0_12.index t (1 : Fin 2) * 128 + 1 * (y 1).val := rfl
    have e1 : (cfg0.win 12).xinj (grid0.coords t) y = ix2 ⟨(y 0).val, hy0⟩ ⟨(y 1).val, hy1⟩ := by
      funext a; apply Fin.ext
      match a with
      | ⟨0, _⟩ => rfl
      | ⟨1, _⟩ => rfl
    have e2 : ((cfg0.win 12).blk t).view.emb y = ix2 (flat t ⟨(y 0).val, hy0⟩) ⟨(y 1).val, hy1⟩ := by
      funext a; apply Fin.ext
      match a with
      | ⟨0, _⟩ => exact hb0.trans (by show _ = 256 * t.val + (y 0).val; omega)
      | ⟨1, _⟩ => exact hb1.trans (by show _ = (y 1).val; omega)
    show out0_12 (iblk m c 0 t) (iblk m c 1 t) (iblk m c 2 t) (iblk m c 3 t) (iblk m c 4 t) (iblk m c 5 t) (iblk m c 6 t)
      (iblk m c 7 t) (iblk m c 8 t) (iblk m c 9 t) ((cfg0.win 12).xinj (grid0.coords t) y) = T (((cfg0.win 12).blk t).view.emb y)
    rw [e1, e2]
    exact (hT t _ _).symm
  · have hN : cfg0.N = 64 := N_0
    have hi0 : (i 0).val < 16384 := (i 0).isLt
    have hi1 : (i 1).val < 128 := (i 1).isLt
    refine ⟨⟨(i 0).val / 256, by omega⟩, (flush_all _).2.2, ?_⟩
    obtain ⟨-, -, ⟨h0, h1⟩⟩ := index_out ⟨(i 0).val / 256, by omega⟩
    rw [mem_blk12]
    intro a
    match a with
    | ⟨0, _⟩ =>
      show win0_12.index _ (0 : Fin 2) * 256 ≤ (i 0).val ∧ (i 0).val < win0_12.index _ (0 : Fin 2) * 256 + 256
      rw [h0]
      show (i 0).val / 256 * 256 ≤ (i 0).val ∧ (i 0).val < (i 0).val / 256 * 256 + 256
      omega
    | ⟨1, _⟩ =>
      show win0_12.index _ (1 : Fin 2) * 128 ≤ (i 1).val ∧ (i 1).val < win0_12.index _ (1 : Fin 2) * 128 + 128
      rw [h1]
      omega
end Tiles

end Cert.Post

end
-- ==== Proof.PostFinite.lean ====
/-
  The precondition of the routing call, read: the layer norm's and the router's weights are finite.
-/
module

public import proofs.«01_k».proof.Proof.PostRow
public import proofs.«01_k».proof.Proof.Value
public import proofs.«01_k».proof.Proof.Gen.Pre_router_finite
public import Idealize.ShloMosaic.Lib.ReduceAll

@[expose] public section

set_option maxRecDepth 16384

noncomputable section

namespace Cert.Post

open Idealize.ShloMosaic Idealize.ShloMosaic.TcCoe Cert.Moe
open Cert.Kernel2Ideal Cert.Kernel2Ideal.Gen

section Whole
variable {S : Shape} (x : FVec Ideal S .f32)

/-- The test that every entry of an array is finite. -/
abbrev tested (hb : Cert.Pre_router_finite.S_.BroadcastsInDim S ![]) {ds : List (Fin S.rank)} (hr : S.ReducesTo ds Cert.Pre_router_finite.S_) : IVec Cert.Pre_router_finite.S_ 1 :=
  Host.reduce IntOp.andi (cmpf (F := Ideal) .olt (Host.absf x) (broadcastInDim S ![] hb (constant (F := Ideal) Cert.Pre_router_finite.S_ .f32 0x7F800000#32)))
    (constantI Cert.Pre_router_finite.S_ 1 1#1) hr Cert.Pre_router_finite.Gen.h_S_

theorem reals_of (hb : Cert.Pre_router_finite.S_.BroadcastsInDim S ![]) {ds : List (Fin S.rank)} (hr : S.ReducesTo ds Cert.Pre_router_finite.S_)
    (h : tested x hb hr = fun _ => 1#1) (i : S.Idx) : ∃ r : ℝ, (x i : EReal) = r := by
  have e1 := Host.reduce_andi_all _ _ _ _ (fun a => a.elim0) (congrFun h (fun a => a.elim0)) i
  have e2 := (olt_iff .f32 _ _).mp e1
  obtain ⟨h1, h2⟩ := finite_of_abs (x i) (lt_of_lt_of_eq e2 inf_eq)
  exact ⟨(x i : EReal).toReal, (EReal.coe_toReal h1 h2).symm⟩

theorem both_bits : ∀ a b : BitVec 1, IntOp.andi a b = 1#1 → a = 1#1 ∧ b = 1#1 := by decide

theorem both (a b : IVec Cert.Pre_router_finite.S_ 1) (h : andi a b = fun _ => 1#1) : a = (fun _ => 1#1) ∧ b = fun _ => 1#1 :=
  ⟨funext fun i => (both_bits _ _ (congrFun h i)).1, funext fun i => (both_bits _ _ (congrFun h i)).2⟩

end Whole

variable (m : (ℓ : Loc nD τ sig) → Buf (Elt Ideal) ℓ) (c : Dev nD)

theorem router_reals (h : Cert.Pre_router_finite.fn (F := Ideal) (bY m c) (bX m c) (bW m c) (bG m c) (bB m c) (bWg m c) (bBg m c) (bWe m c) (bBe m c)
    = fun _ => 1#1) : Reals m c := by
  obtain ⟨h, h8⟩ := both _ (tested (bBe m c) Cert.Pre_router_finite.Gen.bcast_S_S4x8 Cert.Pre_router_finite.Gen.reducesTo_S4x8_S_d0_1) h
  obtain ⟨h, h7⟩ := both _ (tested (bWe m c) Cert.Pre_router_finite.Gen.bcast_S_S4x1024x8 Cert.Pre_router_finite.Gen.reducesTo_S4x1024x8_S_d0_1_2) h
  obtain ⟨h, h6⟩ := both _ (tested (bBg m c) Cert.Pre_router_finite.Gen.bcast_S_S4 Cert.Pre_router_finite.Gen.reducesTo_S4_S_d0) h
  obtain ⟨h, h5⟩ := both _ (tested (bWg m c) Cert.Pre_router_finite.Gen.bcast_S_S1024x4 Cert.Pre_router_finite.Gen.reducesTo_S1024x4_S_d0_1) h
  obtain ⟨h3, h4⟩ := both (tested (bG m c) Cert.Pre_router_finite.Gen.bcast_S_S1024 Cert.Pre_router_finite.Gen.reducesTo_S1024_S_d0)
    (tested (bB m c) Cert.Pre_router_finite.Gen.bcast_S_S1024 Cert.Pre_router_finite.Gen.reducesTo_S1024_S_d0) h
  exact ⟨fun d => reals_of (bG m c) _ _ h3 _, fun d => reals_of (bB m c) _ _ h4 _, fun d q => reals_of (bWg m c) _ _ h5 _, fun q => reals_of (bBg m c) _ _ h6 _,
    fun q d e => reals_of (bWe m c) _ _ h7 _, fun q e => reals_of (bBe m c) _ _ h8 _⟩

end Cert.Post

end
-- ==== Proof.PostRef.lean ====
/-
  The routing reference at an index: the normed rows, the group's logits and their softmax.
-/
module

public import proofs.«01_k».proof.Proof.Gen.Reference2Ideal.Run
public import proofs.«01_k».proof.Proof.PostTop
public import proofs.«01_k».proof.Proof.PostRow
public import Idealize.ShloMosaic.Lib.Pointwise

@[expose] public section

set_option maxRecDepth 16384

noncomputable section

namespace Cert.Post.Ref

open Idealize.ShloMosaic Idealize.ShloMosaic.TcCoe Cert.Moe
open Cert.Reference2Ideal Cert.Reference2Ideal.Gen Cert.Reference2Ideal.Value

section Norm
variable (V0 : Valuation τ sig (Elt Ideal))

abbrev rY : FVec Ideal S2x8192x1024 .f32 := V0 (Proc.devRef .tc main_arg0)
abbrev rX : FVec Ideal S2x8192x1024 .f32 := V0 (Proc.devRef .tc main_arg1)
abbrev rW : FVec Ideal S1024x1024 .f32 := V0 (Proc.devRef .tc main_arg2)
abbrev rG : FVec Ideal S1024 .f32 := V0 (Proc.devRef .tc main_arg3)
abbrev rB : FVec Ideal S1024 .f32 := V0 (Proc.devRef .tc main_arg4)
abbrev rWg : FVec Ideal S1024x4 .f32 := V0 (Proc.devRef .tc main_arg5)
abbrev rBg : FVec Ideal S4 .f32 := V0 (Proc.devRef .tc main_arg6)
abbrev rWe : FVec Ideal S4x1024x8 .f32 := V0 (Proc.devRef .tc main_arg7)
abbrev rBe : FVec Ideal S4x8 .f32 := V0 (Proc.devRef .tc main_arg8)

abbrev r3 : FVec Ideal S2x8192x1024 .f32 := res_main_v3 V0
abbrev r7 : FVec Ideal S2x8192x1 .f32 := res_main_v7 V0
abbrev r9 : FVec Ideal S2x8192x1024 .f32 := res_main_v9 V0
abbrev r27 : FVec Ideal S2x8192x1024 .f32 := res_main_v27 V0
abbrev r31 : FVec Ideal S2x8192x4 .f32 := res_main_v31 V0
abbrev r42 : FVec Ideal S2x8192x4 .f32 := res_main_v42 V0
abbrev r49 : FVec Ideal S2x8192x8 .f32 := res_main_v49 V0
abbrev r60 : FVec Ideal S2x8192x8 .f32 := res_main_v60 V0

theorem v3_apply (b : Fin 2) (s : Fin 8192) (d : Fin 1024) :
    (r3 V0 (ix3 b s d) : EReal) = resRow (rY V0) (rX V0) (rW V0) b s d := by
  pointwise [res_main_v3]
  rfl

theorem v7_apply (b : Fin 2) (s : Fin 8192) :
    (r7 V0 (ix3 b s 0) : EReal) = rowMean fun d => r3 V0 (ix3 b s d) := by
  pointwise [res_main_v7]
  rfl

theorem v9_apply (b : Fin 2) (s : Fin 8192) (d : Fin 1024) :
    (r9 V0 (ix3 b s d) : EReal) = r3 V0 (ix3 b s d) - rowMean fun d => r3 V0 (ix3 b s d) := by
  rw [← v7_apply]
  pointwise [res_main_v9]

theorem v27_apply (b : Fin 2) (s : Fin 8192) (d : Fin 1024) :
    (r27 V0 (ix3 b s d) : EReal) = rowNorm (resRow (rY V0) (rX V0) (rW V0) b s) (fun d => rG V0 (ix1 d)) (fun d => rB V0 (ix1 d)) d := by
  rw [show resRow (rY V0) (rX V0) (rW V0) b s = fun d => (r3 V0 (ix3 b s d) : EReal) from funext fun d => (v3_apply V0 b s d).symm]
  pointwise [res_main_v27]
  have h7 := v7_apply V0 b s
  have h9 := fun d => v9_apply V0 b s d
  dsimp only [r3, r7, r9] at h7 h9 ⊢
  rw [h7]
  simp only [h9]
  rfl

theorem v31_apply (b : Fin 2) (s : Fin 8192) (q : Fin 4) :
    (r31 V0 (ix3 b s q) : EReal) = (∑ d : Fin 1024, (r27 V0 (ix3 b s d) : EReal) * rWg V0 (ix2 d q)) + rBg V0 (ix1 q) := by
  pointwise [res_main_v31]

end Norm

section Softmax

/-- The exponentials of four logits over their greatest. -/
def exp4 (x : FVec Ideal S2x8192x4 .f32) : FVec Ideal S2x8192x4 .f32 :=
  Host.exp (subf x (broadcastInDim S2x8192x4 ![0, 1, 2] bcast_S2x8192x1_S2x8192x4_0_1_2 (broadcastInDim S2x8192x1 ![0, 1] bcast_S2x8192_S2x8192x1_0_1
    (maximumf (broadcastInDim S2x8192 ![] bcast_S_S2x8192 (constant S_ .f32 0xFF800000#32))
      (Host.reduce FloatOps.maximumf x (constant S_ .f32 0xFF800000#32) reducesTo_S2x8192x4_S2x8192_d2 h_S_)))))

/-- The same of eight logits. -/
def exp8 (x : FVec Ideal S2x8192x8 .f32) : FVec Ideal S2x8192x8 .f32 :=
  Host.exp (subf x (broadcastInDim S2x8192x8 ![0, 1, 2] bcast_S2x8192x1_S2x8192x8_0_1_2 (broadcastInDim S2x8192x1 ![0, 1] bcast_S2x8192_S2x8192x1_0_1
    (maximumf (broadcastInDim S2x8192 ![] bcast_S_S2x8192 (constant S_ .f32 0xFF800000#32))
      (Host.reduce FloatOps.maximumf x (constant S_ .f32 0xFF800000#32) reducesTo_S2x8192x8_S2x8192_d2 h_S_)))))

/-- Each number over its row's sum. -/
def share4 (x : FVec Ideal S2x8192x4 .f32) : FVec Ideal S2x8192x4 .f32 :=
  Host.divf x (broadcastInDim S2x8192x4 ![0, 1, 2] bcast_S2x8192x1_S2x8192x4_0_1_2 (broadcastInDim S2x8192x1 ![0, 1] bcast_S2x8192_S2x8192x1_0_1
    (Host.reduceAdd x (constant S_ .f32 0x00000000#32) reducesTo_S2x8192x4_S2x8192_d2 h_S_)))

def share8 (x : FVec Ideal S2x8192x8 .f32) : FVec Ideal S2x8192x8 .f32 :=
  Host.divf x (broadcastInDim S2x8192x8 ![0, 1, 2] bcast_S2x8192x1_S2x8192x8_0_1_2 (broadcastInDim S2x8192x1 ![0, 1] bcast_S2x8192_S2x8192x1_0_1
    (Host.reduceAdd x (constant S_ .f32 0x00000000#32) reducesTo_S2x8192x8_S2x8192_d2 h_S_)))

theorem exp4_apply (x : FVec Ideal S2x8192x4 .f32) (b : Fin 2) (s : Fin 8192) (G : Fin 4 → ℝ) (hG : ∀ q, (x (ix3 b s q) : EReal) = G q)
    (g : Fin 4) (hg : First (fun q => (G q : EReal)) g) (q : Fin 4) : (exp4 x (ix3 b s q) : EReal) = ((Real.exp (G q - G g) : ℝ) : EReal) := by
  pointwise [exp4]
  rw [neg_inf, max_eq_right bot_le, hG,
    show Finset.fold max ⊥ (fun k : Fin 4 => (x (ix3 b s k) : EReal)) Finset.univ = G g from by simp only [hG]; exact hg.fold_max,
    ← EReal.coe_sub, exp_coe]

theorem exp8_apply (x : FVec Ideal S2x8192x8 .f32) (b : Fin 2) (s : Fin 8192) (G : Fin 8 → ℝ) (hG : ∀ q, (x (ix3 b s q) : EReal) = G q)
    (g : Fin 8) (hg : First (fun q => (G q : EReal)) g) (q : Fin 8) : (exp8 x (ix3 b s q) : EReal) = ((Real.exp (G q - G g) : ℝ) : EReal) := by
  pointwise [exp8]
  rw [neg_inf, max_eq_right bot_le, hG,
    show Finset.fold max ⊥ (fun k : Fin 8 => (x (ix3 b s k) : EReal)) Finset.univ = G g from by simp only [hG]; exact hg.fold_max,
    ← EReal.coe_sub, exp_coe]

theorem share4_apply (x : FVec Ideal S2x8192x4 .f32) (b : Fin 2) (s : Fin 8192) (q : Fin 4) :
    (share4 x (ix3 b s q) : EReal) = Ideal.div (x (ix3 b s q)) (∑ k : Fin 4, x (ix3 b s k)) := by
  pointwise [share4]

theorem share8_apply (x : FVec Ideal S2x8192x8 .f32) (b : Fin 2) (s : Fin 8192) (q : Fin 8) :
    (share8 x (ix3 b s q) : EReal) = Ideal.div (x (ix3 b s q)) (∑ k : Fin 8, x (ix3 b s k)) := by
  pointwise [share8]

theorem soft4_apply (x : FVec Ideal S2x8192x4 .f32) (b : Fin 2) (s : Fin 8192) (G : Fin 4 → ℝ) (hG : ∀ q, (x (ix3 b s q) : EReal) = G q)
    (g : Fin 4) (hg : First (fun q => (G q : EReal)) g) (q : Fin 4) : (share4 (exp4 x) (ix3 b s q) : EReal) = (prob G g q : EReal) := by
  rw [share4_apply]
  simp only [exp4_apply x b s G hG g hg]
  rw [coe_sum, div_coe _ _ (show (∑ k, Real.exp (G k - G g)) ≠ 0 from (total_pos G g).ne')]
  rfl

theorem soft8_apply (x : FVec Ideal S2x8192x8 .f32) (b : Fin 2) (s : Fin 8192) (G : Fin 8 → ℝ) (hG : ∀ q, (x (ix3 b s q) : EReal) = G q)
    (g : Fin 8) (hg : First (fun q => (G q : EReal)) g) (q : Fin 8) : (share8 (exp8 x) (ix3 b s q) : EReal) = (prob G g q : EReal) := by
  rw [share8_apply]
  simp only [exp8_apply x b s G hG g hg]
  rw [coe_sum, div_coe _ _ (show (∑ k, Real.exp (G k - G g)) ≠ 0 from (total_pos G g).ne')]
  rfl

theorem v42_eq (V0 : Valuation τ sig (Elt Ideal)) : r42 V0 = share4 (exp4 (r31 V0)) := rfl

theorem v60_eq (V0 : Valuation τ sig (Elt Ideal)) : r60 V0 = share8 (exp8 (r49 V0)) := rfl

end Softmax

end Cert.Post.Ref

end
-- ==== Proof.PostPick.lean ====
/-
  The routing reference's choices at an index: the greatest of four, the two greatest of eight, and a group's row out of four.
-/
module

public import proofs.«01_k».proof.Proof.Gen.Reference2Ideal.Run
public import proofs.«01_k».proof.Proof.PostTop
public import Idealize.ShloMosaic.Lib.Pointwise

@[expose] public section

set_option maxRecDepth 16384

noncomputable section

namespace Cert.Post.Ref

open Idealize.ShloMosaic Idealize.ShloMosaic.TcCoe Cert.Moe
open Cert.Reference2Ideal Cert.Reference2Ideal.Gen Cert.Reference2Ideal.Value

theorem greater_iff (a b : EReal) : (FloatOps.cmpfTotal (F := Ideal) (φ := .f32) .gt a b == 1#1) = true ↔ b < a := by
  show (Ideal.cmpTotal .gt a b == 1#1) = true ↔ b < a
  rw [beq_iff_eq]
  show Ideal.cmp .ogt a b = 1#1 ↔ _
  exact (WordArith.ofBool_eq_one_iff _).trans decide_eq_true_iff

/-- The order in which a row of numbers sorts. -/
abbrev order {n : ℕ} (f : Fin n → EReal) : Fin n → Fin n :=
  sortedFrom fun k k' => FloatOps.cmpfTotal (F := Ideal) (φ := .f32) .gt (f k) (f k') == 1#1

section Sorted
variable {n0 n1 n : ℕ}

theorem along_last (b : Fin n0) (s : Fin n1) (k k' : Fin n) (h : 2 < 3) :
    Shape.Idx.along (s := ⟨3, ![n0, n1, n]⟩) (ix3 b s k) (⟨2, h⟩ : Fin 3) k' = ix3 b s k' := by
  unfold Shape.Idx.along
  funext a
  match a with
  | ⟨0, _⟩ => rfl
  | ⟨1, _⟩ => rfl
  | ⟨2, _⟩ => rfl

/-- What stands at a place of a row once sorted, greatest first. -/
theorem sorted_val (x : (⟨3, ![n0, n1, n]⟩ : Shape).Idx → EReal) (y : (⟨3, ![n0, n1, n]⟩ : Shape).Idx → BitVec 32) (b : Fin n0) (s : Fin n1) (k : Fin n) :
    (Host.sort2 ⟨3, ![n0, n1, n]⟩ 2 (fun l r => FloatOps.cmpfTotal (F := Ideal) (φ := .f32) .gt l.1 r.1) x y).1 (ix3 b s k)
      = x (ix3 b s (order (fun k => x (ix3 b s k)) k)) := by
  unfold Host.sort2
  rw [dif_pos (by decide : 2 < 3)]
  refine (congrArg x (along_last b s k _ _)).trans ?_
  refine congrArg (fun f : Fin n → Fin n → Bool => x (ix3 b s (sortedFrom f k))) ?_
  funext a c
  exact congrArg₂ (fun u v => FloatOps.cmpfTotal (F := Ideal) (φ := .f32) .gt (x u) (x v) == 1#1) (along_last b s k a _) (along_last b s k c _)

theorem sorted_pos (x : (⟨3, ![n0, n1, n]⟩ : Shape).Idx → EReal) (y : (⟨3, ![n0, n1, n]⟩ : Shape).Idx → BitVec 32) (b : Fin n0) (s : Fin n1) (k : Fin n) :
    (Host.sort2 ⟨3, ![n0, n1, n]⟩ 2 (fun l r => FloatOps.cmpfTotal (F := Ideal) (φ := .f32) .gt l.1 r.1) x y).2 (ix3 b s k)
      = y (ix3 b s (order (fun k => x (ix3 b s k)) k)) := by
  unfold Host.sort2
  rw [dif_pos (by decide : 2 < 3)]
  refine (congrArg y (along_last b s k _ _)).trans ?_
  refine congrArg (fun f : Fin n → Fin n → Bool => y (ix3 b s (sortedFrom f k))) ?_
  funext a c
  exact congrArg₂ (fun u v => FloatOps.cmpfTotal (F := Ideal) (φ := .f32) .gt (x u) (x v) == 1#1) (along_last b s k a _) (along_last b s k c _)

/-- The values and the places of a row's `l` greatest. -/
theorem top_apply {l : ℕ} (x : (⟨3, ![n0, n1, n]⟩ : Shape).Idx → EReal) (h : (⟨3, ![n0, n1, n]⟩ : Shape).Slices (fun _ => 0) ⟨3, ![n0, n1, l]⟩)
    (b : Fin n0) (s : Fin n1) (k : Fin l) (hk : k.val < n) :
    (Host.topK ⟨3, ![n0, n1, l]⟩ 2 (FloatOps.cmpfTotal (F := Ideal) (φ := .f32) .gt) x h).1 (ix3 b s k)
        = x (ix3 b s (order (fun k => x (ix3 b s k)) ⟨k.val, hk⟩))
    ∧ (Host.topK ⟨3, ![n0, n1, l]⟩ 2 (FloatOps.cmpfTotal (F := Ideal) (φ := .f32) .gt) x h).2 (ix3 b s k)
        = BitVec.ofNat 32 (order (fun k => x (ix3 b s k)) ⟨k.val, hk⟩).val := by
  have e : ∀ {α : Type} (z : (⟨3, ![n0, n1, n]⟩ : Shape).Idx → α),
      extractStridedSlice ⟨3, ![n0, n1, l]⟩ (fun _ => 0) z h (ix3 b s k) = z (ix3 b s ⟨k.val, hk⟩) := fun z => by
    show z _ = z _
    congr 1
    funext a
    apply Fin.ext
    match a with
    | ⟨0, _⟩ => exact Nat.zero_add _
    | ⟨1, _⟩ => exact Nat.zero_add _
    | ⟨2, _⟩ => exact Nat.zero_add _
  unfold Host.topK
  constructor
  · exact (e _).trans (sorted_val x (fun i => if hd : 2 < 3 then iotaInDim ⟨3, ![n0, n1, n]⟩ 32 ⟨2, hd⟩ i else 0#32) b s ⟨k.val, hk⟩)
  · refine (e (Host.sort2 ⟨3, ![n0, n1, n]⟩ 2 (fun l r => FloatOps.cmpfTotal (F := Ideal) (φ := .f32) .gt l.1 r.1) x
      fun i => if hd : 2 < 3 then iotaInDim ⟨3, ![n0, n1, n]⟩ 32 ⟨2, hd⟩ i else 0#32).2).trans ?_
    exact (sorted_pos x _ b s ⟨k.val, hk⟩).trans (dif_pos (by decide : 2 < 3))

end Sorted

section Choice
variable (x : FVec Ideal S2x8192x4 .f32) (b : Fin 2) (s : Fin 8192) (g : Fin 4) (hg : First (fun q => (x (ix3 b s q) : EReal)) g)

include hg in
theorem order4 : order (fun q => (x (ix3 b s q) : EReal)) 0 = g :=
  (sortedFrom_zero (fun q => (x (ix3 b s q) : EReal)) _ (fun a c => greater_iff _ _) (by decide)).unique hg

include hg in
theorem top1_val : ((Host.topK S2x8192x1 2 (FloatOps.cmpfTotal (F := Ideal) (φ := .f32) .gt) x sliceFits_S2x8192x4_S2x8192x1).1 (ix3 b s 0) : EReal)
    = x (ix3 b s g) := by
  rw [(top_apply x sliceFits_S2x8192x4_S2x8192x1 b s 0 (by decide)).1]
  exact congrArg (fun k => x (ix3 b s k)) (order4 x b s g hg)

include hg in
theorem top1_pos : (Host.topK S2x8192x1 2 (FloatOps.cmpfTotal (F := Ideal) (φ := .f32) .gt) x sliceFits_S2x8192x4_S2x8192x1).2 (ix3 b s 0)
    = BitVec.ofNat 32 g.val := by
  rw [(top_apply x sliceFits_S2x8192x4_S2x8192x1 b s 0 (by decide)).2]
  exact congrArg (fun k : Fin 4 => BitVec.ofNat 32 k.val) (order4 x b s g hg)

end Choice

section Choices
variable (x : FVec Ideal S2x8192x8 .f32) (b : Fin 2) (s : Fin 8192) (i j : Fin 8) (hx : ∀ e, (x (ix3 b s e) : EReal) ≠ ⊥)
  (hi : First (fun e => (x (ix3 b s e) : EReal)) i) (hj : First (without (fun e => (x (ix3 b s e) : EReal)) i) j)

include hi in
theorem order8_zero : order (fun q => (x (ix3 b s q) : EReal)) 0 = i :=
  (sortedFrom_zero (fun q => (x (ix3 b s q) : EReal)) _ (fun a c => greater_iff _ _) (by decide)).unique hi

include hx hi hj in
theorem order8_one : order (fun q => (x (ix3 b s q) : EReal)) 1 = j := by
  have h := sortedFrom_one (fun q => (x (ix3 b s q) : EReal)) _ (fun a c => greater_iff _ _) (by decide) hx
  rw [show sortedFrom _ (⟨0, _⟩ : Fin 8) = i from order8_zero x b s i hi] at h
  exact h.unique hj

include hx hi hj in
theorem top2_val : ((Host.topK S2x8192x2 2 (FloatOps.cmpfTotal (F := Ideal) (φ := .f32) .gt) x sliceFits_S2x8192x8_S2x8192x2).1 (ix3 b s 0) : EReal)
      = x (ix3 b s i)
    ∧ ((Host.topK S2x8192x2 2 (FloatOps.cmpfTotal (F := Ideal) (φ := .f32) .gt) x sliceFits_S2x8192x8_S2x8192x2).1 (ix3 b s 1) : EReal)
      = x (ix3 b s j) := by
  rw [(top_apply x sliceFits_S2x8192x8_S2x8192x2 b s 0 (by decide)).1, (top_apply x sliceFits_S2x8192x8_S2x8192x2 b s 1 (by decide)).1]
  exact ⟨congrArg (fun k => x (ix3 b s k)) (order8_zero x b s i hi), congrArg (fun k => x (ix3 b s k)) (order8_one x b s i j hx hi hj)⟩

include hx hi hj in
theorem top2_pos : (Host.topK S2x8192x2 2 (FloatOps.cmpfTotal (F := Ideal) (φ := .f32) .gt) x sliceFits_S2x8192x8_S2x8192x2).2 (ix3 b s 0)
      = BitVec.ofNat 32 i.val
    ∧ (Host.topK S2x8192x2 2 (FloatOps.cmpfTotal (F := Ideal) (φ := .f32) .gt) x sliceFits_S2x8192x8_S2x8192x2).2 (ix3 b s 1)
      = BitVec.ofNat 32 j.val := by
  rw [(top_apply x sliceFits_S2x8192x8_S2x8192x2 b s 0 (by decide)).2, (top_apply x sliceFits_S2x8192x8_S2x8192x2 b s 1 (by decide)).2]
  exact ⟨congrArg (fun k : Fin 8 => BitVec.ofNat 32 k.val) (order8_zero x b s i hi),
    congrArg (fun k : Fin 8 => BitVec.ofNat 32 k.val) (order8_one x b s i j hx hi hj)⟩

end Choices

section Take

/-- The gather takes, of each token's four rows, the one the index names. -/
theorem gather_apply (x : FVec Ideal S2x8192x4x8 .f32) (idx : IVec S2x8192x1x1 32) (b : Fin 2) (s : Fin 8192) (e : Fin 8) (g : Fin 4)
    (h : idx (ix4 b s 0 0) = BitVec.ofNat 32 g.val) :
    (Host.gather gather_S2x8192x4x8_S2x8192x1x1_S2x8192x1x8_3_2_01_01_2_3_1118 x idx (ix4 b s 0 e) : EReal) = x (ix4 b s g e) := by
  unfold Host.gather
  congr 1
  funext a
  apply Fin.ext
  generalize hd : gather_S2x8192x4x8_S2x8192x1x1_S2x8192x1x8_3_2_01_01_2_3_1118 = D
  show D.start (ix4 b s 0 e) idx a + D.batchCoord (ix4 b s 0 e) a + D.offCoord (ix4 b s 0 e) a = _
  subst hd
  match a with
  | ⟨0, h0⟩ =>
    rw [GatherDims.start_batching _ _ _ _ (by decide +revert), GatherDims.offCoord_eq_zero _ _ _ (fun h => ((GatherDims.mem_sKept _ _).mp h).2 (by decide +revert))]
    simp only [Nat.zero_add, Nat.add_zero]
    unfold GatherDims.batchCoord
    rw [dif_pos (by decide +revert)]
    rfl
  | ⟨1, h1⟩ =>
    rw [GatherDims.start_batching _ _ _ _ (by decide +revert), GatherDims.offCoord_eq_zero _ _ _ (fun h => ((GatherDims.mem_sKept _ _).mp h).2 (by decide +revert))]
    simp only [Nat.zero_add, Nat.add_zero]
    unfold GatherDims.batchCoord
    rw [dif_pos (by decide +revert)]
    rfl
  | ⟨2, h2⟩ =>
    rw [GatherDims.batchCoord_eq_zero _ _ _ (by decide +revert), GatherDims.offCoord_eq_zero _ _ _ (fun h => ((GatherDims.mem_sKept _ _).mp h).1 (by decide +revert))]
    simp only [Nat.zero_add, Nat.add_zero]
    unfold GatherDims.start
    rw [dif_pos (by decide +revert)]
    rw [show idx _ = BitVec.ofNat 32 g.val from (congrArg idx (by
      funext c
      apply Fin.ext
      match c with
      | ⟨0, _⟩ => rfl
      | ⟨1, _⟩ => rfl
      | ⟨2, _⟩ => rfl
      | ⟨3, _⟩ => rfl)).trans h]
    rw [WordArith.toInt_ofNat_small g.val (by omega), Int.toNat_natCast]
    show min g.val 3 = g.val
    omega
  | ⟨3, h3⟩ =>
    rw [GatherDims.batchCoord_eq_zero _ _ _ (by decide +revert)]
    unfold GatherDims.start
    rw [dif_neg (by show ¬(3 : Fin 4) ∈ [(2 : Fin 4)]; decide)]
    simp only [Nat.zero_add]
    unfold GatherDims.offCoord
    rw [dif_pos (by decide +revert)]
    rfl

end Take

end Cert.Post.Ref

end
-- ==== Proof.PostGate.lean ====
/-
  The routing reference's gates at an index: the chosen group's row, its two greatest probabilities, and the lanes they fill.
-/
module

public import proofs.«01_k».proof.Proof.PostRef
public import proofs.«01_k».proof.Proof.PostPick

@[expose] public section

set_option maxRecDepth 16384

noncomputable section

namespace Cert.Post.Ref

open Idealize.ShloMosaic Idealize.ShloMosaic.TcCoe Cert.Moe
open Cert.Reference2Ideal Cert.Reference2Ideal.Gen Cert.Reference2Ideal.Value

section Pieces

/-- Every group's experts' logits. -/
def experts (h : FVec Ideal S2x8192x1024 .f32) (w : FVec Ideal S4x1024x8 .f32) (b : FVec Ideal S4x8 .f32) : FVec Ideal S2x8192x4x8 .f32 :=
  addf (Host.dotGeneral dot_S2x8192x1024_S4x1024x8_S2x8192x4x8_2_1_01_02_n_n none h w)
    (broadcastInDim S2x8192x4x8 ![0, 1, 2, 3] bcast_S1x1x4x8_S2x8192x4x8_0_1_2_3 (broadcastInDim S1x1x4x8 ![2, 3] bcast_S4x8_S1x1x4x8_2_3 b))

theorem experts_apply (h : FVec Ideal S2x8192x1024 .f32) (w : FVec Ideal S4x1024x8 .f32) (c : FVec Ideal S4x8 .f32) (b : Fin 2) (s : Fin 8192)
    (q : Fin 4) (e : Fin 8) : (experts h w c (ix4 b s q e) : EReal) = (∑ d : Fin 1024, (h (ix3 b s d) : EReal) * w (ix3 q d e)) + c (ix2 q e) := by
  pointwise [experts]

/-- An index counted from the end when negative. -/
def wrapped (k : IVec S2x8192x1x1 32) : IVec S2x8192x1x1 32 :=
  select (cmpi .slt k (broadcastInDim S2x8192x1x1 ![] bcast_S_S2x8192x1x1 (constantI S_ 32 0#32)))
    (addi k (broadcastInDim S2x8192x1x1 ![] bcast_S_S2x8192x1x1 (constantI S_ 32 4#32))) k

theorem wrapped_apply (k : IVec S2x8192x1x1 32) (b : Fin 2) (s : Fin 8192) (g : Fin 4) (h : k (ix4 b s 0 0) = BitVec.ofNat 32 g.val) :
    wrapped k (ix4 b s 0 0) = BitVec.ofNat 32 g.val := by
  pointwise [wrapped]
  rw [h]
  have : ∀ g : Fin 4, Scalar.select (IntOp.cmpi .slt (BitVec.ofNat 32 g.val) 0#32) (IntOp.addi (BitVec.ofNat 32 g.val) 4#32) (BitVec.ofNat 32 g.val)
      = BitVec.ofNat 32 g.val := by decide
  exact this g

/-- Whether each index names a group. -/
def inside (k : IVec S2x8192x1x1 32) : IVec S2x8192x1 1 :=
  Host.reduce IntOp.andi (andi (cmpi .sge k (broadcastInDim S2x8192x1x1 ![] bcast_S_S2x8192x1x1 (constantI S_ 32 0#32)))
    (cmpi .sle k (broadcastInDim S2x8192x1x1 ![0, 1, 2, 3] bcast_S1x1x1x1_S2x8192x1x1_0_1_2_3 (broadcastInDim S1x1x1x1 ![3] bcast_S1_S1x1x1x1_3 (constantI S1 32 3#32)))))
    (constantI S_ 1 1#1) reducesTo_S2x8192x1x1_S2x8192x1_d3 h_S_

theorem inside_apply (k : IVec S2x8192x1x1 32) (b : Fin 2) (s : Fin 8192) (g : Fin 4) (h : k (ix4 b s 0 0) = BitVec.ofNat 32 g.val) :
    inside k (ix3 b s 0) = 1#1 := by
  pointwise [inside]
  rw [show (Finset.univ : Finset (Fin 1)) = {0} from rfl, Finset.fold_singleton, h]
  have : ∀ g : Fin 4, IntOp.andi (IntOp.andi (IntOp.cmpi .sge (BitVec.ofNat 32 g.val) 0#32) (IntOp.cmpi .sle (BitVec.ofNat 32 g.val) 3#32)) 1#1 = 1#1 := by decide
  exact this g

/-- The chosen group's logits. -/
def taken (x : FVec Ideal S2x8192x4x8 .f32) (k : IVec S2x8192x1x1 32) : FVec Ideal S2x8192x8 .f32 :=
  shapeCast _ (select (broadcastInDim S2x8192x1x8 ![0, 1, 2] bcast_S2x8192x1_S2x8192x1x8_0_1_2 (inside k))
    (Host.gather gather_S2x8192x4x8_S2x8192x1x1_S2x8192x1x8_3_2_01_01_2_3_1118 x k)
    (broadcastInDim S2x8192x1x8 ![] bcast_S_S2x8192x1x8 (constant S_ .f32 0x7FC00000#32))) shapeCasts_S2x8192x1x8_S2x8192x8

theorem taken_apply (x : FVec Ideal S2x8192x4x8 .f32) (k : IVec S2x8192x1x1 32) (b : Fin 2) (s : Fin 8192) (g : Fin 4)
    (h : k (ix4 b s 0 0) = BitVec.ofNat 32 g.val) (e : Fin 8) : (taken x k (ix3 b s e) : EReal) = x (ix4 b s g e) := by
  pointwise [taken]
  rw [inside_apply k b s g h]
  exact gather_apply x k b s e g h

/-- The two gates on their experts. -/
def pairs (v : FVec Ideal S2x8192x2 .f32) (k : IVec S2x8192x2 32) : FVec Ideal S2x8192x8 .f32 :=
  Host.reduceAdd (mulf (uitofp .f32 (cmpi .eq (broadcastInDim S2x8192x2x8 ![0, 1, 2, 3] bcast_S2x8192x2x1_S2x8192x2x8_0_1_2_3
    (broadcastInDim S2x8192x2x1 ![0, 1, 2] bcast_S2x8192x2_S2x8192x2x1_0_1_2 k))
    (broadcastInDim S2x8192x2x8 ![0, 1, 2, 3] bcast_S1x1x1x8_S2x8192x2x8_0_1_2_3 (iotaInDim S1x1x1x8 32 3))))
    (broadcastInDim S2x8192x2x8 ![0, 1, 2, 3] bcast_S2x8192x2x1_S2x8192x2x8_0_1_2_3 (broadcastInDim S2x8192x2x1 ![0, 1, 2] bcast_S2x8192x2_S2x8192x2x1_0_1_2
      (Host.divf v (broadcastInDim S2x8192x2 ![0, 1, 2] bcast_S2x8192x1_S2x8192x2_0_1_2 (broadcastInDim S2x8192x1 ![0, 1] bcast_S2x8192_S2x8192x1_0_1
        (Host.reduceAdd v (constant S_ .f32 0x00000000#32) reducesTo_S2x8192x2_S2x8192_d2 h_S_)))))))
    (constant S_ .f32 0x00000000#32) reducesTo_S2x8192x2x8_S2x8192x8_d2 h_S_

theorem hot (a c : ℕ) (ha : a < 2 ^ 31) (hc : c < 2 ^ 31) :
    (FloatOps.uitofp (F := Ideal) .f32 (IntOp.cmpi .eq (BitVec.ofNat 32 a) (BitVec.ofNat 32 c)) : EReal) = if c = a then 1 else 0 := by
  show (((IntOp.cmpi .eq (BitVec.ofNat 32 a) (BitVec.ofNat 32 c)).toNat : ℝ) : EReal) = _
  by_cases e : c = a
  · rw [(ofNat_eq_iff a c ha hc).mpr e.symm, if_pos e]
    simp
  · have hz : IntOp.cmpi .eq (BitVec.ofNat 32 a) (BitVec.ofNat 32 c) = 0#1 := by
      rcases BitVec.eq_zero_or_eq_one (IntOp.cmpi .eq (BitVec.ofNat 32 a) (BitVec.ofNat 32 c)) with h | h
      · exact h
      · exact absurd ((ofNat_eq_iff a c ha hc).mp h).symm e
    rw [hz, if_neg e]
    simp

theorem pairs_apply (v : FVec Ideal S2x8192x2 .f32) (k : IVec S2x8192x2 32) (b : Fin 2) (s : Fin 8192) (p r : ℝ) (hp : 0 < p) (hr : 0 < r)
    (hv0 : (v (ix3 b s 0) : EReal) = p) (hv1 : (v (ix3 b s 1) : EReal) = r) (i j : Fin 8) (hk0 : k (ix3 b s 0) = BitVec.ofNat 32 i.val)
    (hk1 : k (ix3 b s 1) = BitVec.ofNat 32 j.val) (hij : j ≠ i) (e : Fin 8) :
    (pairs v k (ix3 b s e) : EReal) = ((if e = i then p / (p + r) else if e = j then r / (p + r) else 0 : ℝ) : EReal) := by
  pointwise [pairs]
  rw [Fin.sum_univ_two, Fin.sum_univ_two, hk0, hk1, hv0, hv1, ← EReal.coe_add, div_coe _ _ (by positivity), div_coe _ _ (by positivity)]
  rw [hot _ _ (by omega) (by omega), hot _ _ (by omega) (by omega)]
  by_cases h1 : e = i
  · have h2 : ¬e.val = j.val := fun h => hij (h1 ▸ (Fin.ext h).symm)
    rw [if_pos (congrArg Fin.val h1), if_neg h2, if_pos h1, one_mul, zero_mul, add_zero]
  · rw [if_neg (fun h => h1 (Fin.ext h)), if_neg h1, zero_mul, zero_add]
    by_cases h3 : e = j
    · rw [if_pos (congrArg Fin.val h3), if_pos h3, one_mul]
    · rw [if_neg (fun h => h3 (Fin.ext h)), if_neg h3, zero_mul]
      rfl

/-- Each token's group as a row of zeros and a one. -/
def groups (k : IVec S2x8192x1 32) : FVec Ideal S2x8192x4 .f32 :=
  uitofp .f32 (cmpi .eq (broadcastInDim S2x8192x4 ![0, 1, 2] bcast_S2x8192x1_S2x8192x4_0_1_2 (broadcastInDim S2x8192x1 ![0, 1] bcast_S2x8192_S2x8192x1_0_1
    (shapeCast _ k shapeCasts_S2x8192x1_S2x8192))) (broadcastInDim S2x8192x4 ![0, 1, 2] bcast_S1x1x4_S2x8192x4_0_1_2 (iotaInDim S1x1x4 32 2)))

theorem groups_apply (k : IVec S2x8192x1 32) (b : Fin 2) (s : Fin 8192) (g : Fin 4) (h : k (ix3 b s 0) = BitVec.ofNat 32 g.val) (q : Fin 4) :
    (groups k (ix3 b s q) : EReal) = if q.val = g.val then 1 else 0 := by
  rw [← hot _ _ (by omega) (by omega), ← h]
  pointwise [groups]

/-- The rows: each group's gates side by side, then the group, then zeros. -/
def rows (w : FVec Ideal S2x8192x8 .f32) (p : FVec Ideal S2x8192x1 .f32) (o : FVec Ideal S2x8192x4 .f32) : FVec Ideal S16384x128 .f32 :=
  concatenate S16384x128 1 [⟨S16384x32, shapeCast _ (mulf (broadcastInDim S2x8192x4x8 ![0, 1, 2, 3] bcast_S2x8192x1x8_S2x8192x4x8_0_1_2_3
    (broadcastInDim S2x8192x1x8 ![0, 1, 3] bcast_S2x8192x8_S2x8192x1x8_0_1_3
      (mulf w (broadcastInDim S2x8192x8 ![0, 1, 2] bcast_S2x8192x1_S2x8192x8_0_1_2 p))))
    (broadcastInDim S2x8192x4x8 ![0, 1, 2, 3] bcast_S2x8192x4x1_S2x8192x4x8_0_1_2_3 (broadcastInDim S2x8192x4x1 ![0, 1, 2] bcast_S2x8192x4_S2x8192x4x1_0_1_2 o)))
    shapeCasts_S2x8192x4x8_S16384x32⟩, ⟨S16384x4, shapeCast _ o shapeCasts_S2x8192x4_S16384x4⟩,
    ⟨S16384x92, broadcastInDim S16384x92 ![] bcast_S_S16384x92 (constant S_ .f32 0x00000000#32)⟩] concatenates_S16384x32_S16384x4_S16384x92_S16384x128_d1

section Rows
variable (w : FVec Ideal S2x8192x8 .f32) (p : FVec Ideal S2x8192x1 .f32) (o : FVec Ideal S2x8192x4 .f32) (b : Fin 2) (s : Fin 8192)

theorem token_lt (b : Fin 2) (s : Fin 8192) : 8192 * b.val + s.val < 16384 := by omega

theorem group_lt (q : Fin 4) : 32 + q.val < 128 := by omega

theorem gate_lt (q : Fin 4) (e : Fin 8) : 8 * q.val + e.val < 128 := by omega

theorem rows_gate (q : Fin 4) (e : Fin 8) : (rows w p o (ix2 ⟨8192 * b.val + s.val, token_lt b s⟩ ⟨8 * q.val + e.val, gate_lt q e⟩) : EReal)
    = w (ix3 b s e) * p (ix3 b s 0) * o (ix3 b s q) := by
  pointwise [rows]
  rw [dif_pos (by omega)]

theorem rows_group (q : Fin 4) : (rows w p o (ix2 ⟨8192 * b.val + s.val, token_lt b s⟩ ⟨32 + q.val, group_lt q⟩) : EReal)
    = o (ix3 b s q) := by
  pointwise [rows]

theorem rows_rest (t : Fin 16384) (l : Fin 128) (h : 36 ≤ l.val) : (rows w p o (ix2 t l) : EReal) = 0 := by
  pointwise [rows]
  rw [dif_neg (by omega), dif_neg (by omega)]

end Rows

end Pieces

section Token
variable (V0 : Valuation τ sig (Elt Ideal)) (b : Fin 2) (s : Fin 8192) (G : Fin 4 → ℝ) (A : Fin 4 → Fin 8 → ℝ)
  (hG : ∀ q, (r31 V0 (ix3 b s q) : EReal) = G q)
  (hA : ∀ q e, (experts (r27 V0) (rWe V0) (rBe V0) (ix4 b s q e) : EReal) = A q e)
  (g : Fin 4) (hg : First (fun q => (G q : EReal)) g)
  (i : Fin 8) (hi : First (fun e => (A g e : EReal)) i) (j : Fin 8) (hj : First (without (fun e => (A g e : EReal)) i) j)

abbrev chosen : IVec S2x8192x1 32 := res_main_indices V0
abbrev start : IVec S2x8192x1x1 32 := res_main_v47 V0
abbrev gate2 : FVec Ideal S2x8192x2 .f32 := res_main_values_11 V0
abbrev place2 : IVec S2x8192x2 32 := (Host.topK S2x8192x2 2 (FloatOps.cmpfTotal (F := Ideal) (φ := .f32) .gt) (r60 V0) sliceFits_S2x8192x8_S2x8192x2).2
abbrev gate1 : FVec Ideal S2x8192x1 .f32 := (Host.topK S2x8192x1 2 (FloatOps.cmpfTotal (F := Ideal) (φ := .f32) .gt) (r42 V0) sliceFits_S2x8192x4_S2x8192x1).1
abbrev onehot : FVec Ideal S2x8192x4 .f32 := res_main_v73 V0

/-- The rows of gates and groups. -/
def table : FVec Ideal S16384x128 .f32 := rows (pairs (gate2 V0) (place2 V0)) (gate1 V0) (onehot V0)

include hG hg in
theorem r42_at (q : Fin 4) : (r42 V0 (ix3 b s q) : EReal) = (prob G g q : EReal) :=
  (congrFun (v42_eq V0) _).trans (soft4_apply (r31 V0) b s G hG g hg q)

include hG hg in
theorem first4 : First (fun q => (r42 V0 (ix3 b s q) : EReal)) g := by
  rw [show (fun q => (r42 V0 (ix3 b s q) : EReal)) = fun q => (prob G g q : EReal) from funext (r42_at V0 b s G hG g hg)]
  exact hg.prob g

include hG hg in
theorem chosen_at : chosen V0 (ix3 b s 0) = BitVec.ofNat 32 g.val :=
  top1_pos (r42 V0) b s g (first4 V0 b s G hG g hg)

include hG hg in
theorem gate1_at : (gate1 V0 (ix3 b s 0) : EReal) = (prob G g g : EReal) :=
  (top1_val (r42 V0) b s g (first4 V0 b s G hG g hg)).trans (r42_at V0 b s G hG g hg g)

include hG hg in
theorem start_at : start V0 (ix4 b s 0 0) = BitVec.ofNat 32 g.val := by
  rw [← chosen_at V0 b s G hG g hg]
  show res_main_v47 V0 (ix4 b s 0 0) = _
  unfold res_main_v47
  pointwise []

include hG hg in
theorem onehot_at (q : Fin 4) : (onehot V0 (ix3 b s q) : EReal) = if q.val = g.val then 1 else 0 :=
  groups_apply (chosen V0) b s g (chosen_at V0 b s G hG g hg) q

include hG hg hA in
theorem r49_at (e : Fin 8) : (r49 V0 (ix3 b s e) : EReal) = A g e :=
  (taken_apply (experts (r27 V0) (rWe V0) (rBe V0)) (wrapped (start V0)) b s g
    (wrapped_apply (start V0) b s g (start_at V0 b s G hG g hg)) e).trans (hA g e)

include hG hg hA hi in
theorem r60_at (e : Fin 8) : (r60 V0 (ix3 b s e) : EReal) = (prob (A g) i e : EReal) :=
  (congrFun (v60_eq V0) _).trans (soft8_apply (r49 V0) b s (A g) (r49_at V0 b s G A hG hA g hg) i hi e)

include hG hg hA hi in
theorem r60_row : (fun e => (r60 V0 (ix3 b s e) : EReal)) = fun e => (prob (A g) i e : EReal) :=
  funext (r60_at V0 b s G A hG hA g hg i hi)

include hG hg hA hi in
theorem r60_real (e : Fin 8) : (r60 V0 (ix3 b s e) : EReal) ≠ ⊥ := by
  rw [r60_at V0 b s G A hG hA g hg i hi]
  exact EReal.coe_ne_bot _

include hG hg hA hi in
theorem first8 : First (fun e => (r60 V0 (ix3 b s e) : EReal)) i := by
  rw [r60_row V0 b s G A hG hA g hg i hi]
  exact hi.prob i

include hG hg hA hi hj in
theorem second8 : First (without (fun e => (r60 V0 (ix3 b s e) : EReal)) i) j := by
  rw [r60_row V0 b s G A hG hA g hg i hi]
  exact hj.prob_without i

include hG hg hA hi hj in
theorem gate2_at : (gate2 V0 (ix3 b s 0) : EReal) = (prob (A g) i i : EReal) ∧ (gate2 V0 (ix3 b s 1) : EReal) = (prob (A g) i j : EReal) := by
  have h := top2_val (r60 V0) b s i j (r60_real V0 b s G A hG hA g hg i hi) (first8 V0 b s G A hG hA g hg i hi) (second8 V0 b s G A hG hA g hg i hi j hj)
  exact ⟨h.1.trans (r60_at V0 b s G A hG hA g hg i hi i), h.2.trans (r60_at V0 b s G A hG hA g hg i hi j)⟩

include hG hg hA hi hj in
theorem place2_at : place2 V0 (ix3 b s 0) = BitVec.ofNat 32 i.val ∧ place2 V0 (ix3 b s 1) = BitVec.ofNat 32 j.val :=
  top2_pos (r60 V0) b s i j (r60_real V0 b s G A hG hA g hg i hi) (first8 V0 b s G A hG hA g hg i hi) (second8 V0 b s G A hG hA g hg i hi j hj)

include hG hg hA hi hj in
theorem pairs_at (e : Fin 8) : (pairs (gate2 V0) (place2 V0) (ix3 b s e) : EReal)
    = ((if e = i then prob (A g) i i / (prob (A g) i i + prob (A g) i j) else if e = j then prob (A g) i j / (prob (A g) i i + prob (A g) i j) else 0 : ℝ) : EReal) := by
  obtain ⟨v0, v1⟩ := gate2_at V0 b s G A hG hA g hg i hi j hj
  obtain ⟨k0, k1⟩ := place2_at V0 b s G A hG hA g hg i hi j hj
  exact pairs_apply (gate2 V0) (place2 V0) b s _ _ (prob_pos _ _ _) (prob_pos _ _ _) v0 v1 i j k0 k1 (second_ne A g i j hj) e

include hG hg hA hi hj in
/-- A token's row of the reference is the row the kernel fills. -/
theorem table_apply (l : Fin 128) : (table V0 (ix2 ⟨8192 * b.val + s.val, token_lt b s⟩ l) : EReal) = lane G (A g) g i j l.val := by
  unfold table lane
  by_cases h : l.val < 32
  · obtain ⟨q, e, rfl⟩ : ∃ (q : Fin 4) (e : Fin 8), l = ⟨8 * q.val + e.val, gate_lt q e⟩ :=
      ⟨⟨l.val / 8, by omega⟩, ⟨l.val % 8, by omega⟩, Fin.ext (by show l.val = 8 * (l.val / 8) + l.val % 8; omega)⟩
    rw [rows_gate, gate1_at V0 b s G hG g hg, onehot_at V0 b s G hG g hg, pairs_at V0 b s G A hG hA g hg i hi j hj, ← EReal.coe_mul]
    show _ = if 8 * q.val + e.val = 8 * g.val + i.val then _ else if 8 * q.val + e.val = 8 * g.val + j.val then _
      else if 8 * q.val + e.val = 32 + g.val then (1 : EReal) else 0
    rw [if_neg (show ¬8 * q.val + e.val = 32 + g.val by omega)]
    by_cases hq : q.val = g.val
    · rw [if_pos hq, mul_one]
      by_cases h1 : e = i
      · rw [if_pos h1, if_pos (by rw [hq, h1]), mul_comm]
      · have n1 : ¬e.val = i.val := fun h => h1 (Fin.ext h)
        rw [if_neg h1, if_neg (show ¬8 * q.val + e.val = 8 * g.val + i.val by omega)]
        by_cases h2 : e = j
        · rw [if_pos h2, if_pos (by rw [hq, h2]), mul_comm]
        · have n2 : ¬e.val = j.val := fun h => h2 (Fin.ext h)
          rw [if_neg h2, if_neg (show ¬8 * q.val + e.val = 8 * g.val + j.val by omega), zero_mul]
          rfl
    · rw [if_neg hq, mul_zero, if_neg (show ¬8 * q.val + e.val = 8 * g.val + i.val by omega), if_neg (show ¬8 * q.val + e.val = 8 * g.val + j.val by omega)]
  · rw [if_neg (show ¬l.val = 8 * g.val + i.val by omega), if_neg (show ¬l.val = 8 * g.val + j.val by omega)]
    by_cases h' : l.val < 36
    · obtain ⟨q, rfl⟩ : ∃ q : Fin 4, l = ⟨32 + q.val, group_lt q⟩ :=
        ⟨⟨l.val - 32, by omega⟩, Fin.ext (by show l.val = 32 + (l.val - 32); omega)⟩
      rw [rows_group, onehot_at V0 b s G hG g hg]
      exact if_congr (by show q.val = g.val ↔ 32 + q.val = 32 + g.val; omega) rfl rfl
    · rw [rows_rest _ _ _ _ _ (by omega), if_neg (by omega)]

end Token

end Cert.Post.Ref

end
-- ==== Proof.PostValue.lean ====
/-
  The routing call's value: from equal arguments, the three arrays the kernel leaves are the reference's three results.
-/
module

public import proofs.«01_k».proof.Proof.PostFinite
public import proofs.«01_k».proof.Proof.PostGate

@[expose] public section

set_option maxRecDepth 16384

noncomputable section

namespace Cert.Post

open Idealize.ShloMosaic Idealize.ShloMosaic.TcCoe Cert.Moe
open Cert.Kernel2Ideal Cert.Kernel2Ideal.Gen

variable (m : (ℓ : Loc nD τ sig) → Buf (Elt Ideal) ℓ) (c : Dev nD)
  (V0 : Valuation Cert.Reference2Ideal.τ Cert.Reference2Ideal.sig (Elt Ideal))

/-- The reference starts from the arguments the kernel starts from. -/
structure Same : Prop where
  y : Ref.rY V0 = bY m c
  x : Ref.rX V0 = bX m c
  w : Ref.rW V0 = bW m c
  g : Ref.rG V0 = bG m c
  b : Ref.rB V0 = bB m c
  wg : Ref.rWg V0 = bWg m c
  bg : Ref.rBg V0 = bBg m c
  we : Ref.rWe V0 = bWe m c
  be : Ref.rBe V0 = bBe m c

variable {m c V0}

theorem row_same (e : Same m c V0) (b : Fin 2) (s : Fin 8192) (d : Fin 1024) : (Ref.r27 V0 (ix3 b s d) : EReal) = hRow m c b s d := by
  rw [Ref.v27_apply, e.y, e.x, e.w, e.g, e.b]
  rfl

theorem group_same (e : Same m c V0) (b : Fin 2) (s : Fin 8192) (q : Fin 4) : (Ref.r31 V0 (ix3 b s q) : EReal) = gLogit m c b s q := by
  rw [Ref.v31_apply, e.wg, e.bg]
  simp only [row_same e]
  rfl

theorem expert_same (e : Same m c V0) (b : Fin 2) (s : Fin 8192) (q : Fin 4) (k : Fin 8) :
    (Ref.experts (Ref.r27 V0) (Ref.rWe V0) (Ref.rBe V0) (ix4 b s q k) : EReal) = eLogit m c b s q k := by
  rw [Ref.experts_apply, e.we, e.be]
  simp only [row_same e]
  rfl

/-- The reference's normed rows, laid flat. -/
abbrev hFlat (V0 : Valuation Cert.Reference2Ideal.τ Cert.Reference2Ideal.sig (Elt Ideal)) : FVec Ideal Cert.Reference2Ideal.S16384x1024 .f32 :=
  shapeCast _ (Ref.r27 V0) Cert.Reference2Ideal.Gen.shapeCasts_S2x8192x1024_S16384x1024

/-- The same in the narrow format. -/
abbrev hNarrow (V0 : Valuation Cert.Reference2Ideal.τ Cert.Reference2Ideal.sig (Elt Ideal)) : FVec Ideal Cert.Reference2Ideal.S16384x1024 .bf16 :=
  truncf .bf16 (hFlat V0) Cert.Reference2Ideal.Gen.bitsLt_bf16_f32

theorem flat_eq (t : Fin cfg0.N) (r : Fin 256) : flat t r = ⟨8192 * (bat t).val + (pos t r).val, Ref.token_lt _ _⟩ := by
  have : t.val < 64 := lt_of_lt_of_eq t.isLt N_0
  refine Fin.ext ?_
  show 256 * t.val + r.val = 8192 * (t.val / 32) + (256 * (t.val % 32) + r.val)
  omega

theorem hFlat_apply (b : Fin 2) (s : Fin 8192) (d : Fin 1024) :
    (hFlat V0 (ix2 ⟨8192 * b.val + s.val, Ref.token_lt b s⟩ d) : EReal) = Ref.r27 V0 (ix3 b s d) := by
  pointwise []

theorem first_result (e : Same m c V0) : (dats m 0 c).arrAt 10 cfg0.N = hFlat V0 :=
  final10 m c (hFlat V0) fun t r d => by
    rw [flat_eq, hTile_apply]
    exact (hFlat_apply (bat t) (pos t r) d).trans (row_same e _ _ d)

theorem second_result (e : Same m c V0) : (dats m 0 c).arrAt 11 cfg0.N = hNarrow V0 :=
  final11 m c (hNarrow V0) fun t r d => by
    rw [flat_eq, hTile_apply]
    exact (hFlat_apply (bat t) (pos t r) d).trans (row_same e _ _ d)

theorem third_result (e : Same m c V0) (h : Reals m c) : (dats m 0 c).arrAt 12 cfg0.N = Ref.table V0 :=
  final12 m c (Ref.table V0) fun t r l => by
    obtain ⟨G, hG⟩ := gLogit_real h (bat t) (pos t r)
    obtain ⟨A, hA⟩ := eLogit_real h (bat t) (pos t r)
    obtain ⟨g, hg⟩ := exists_first (by omega) (fun q => (G q : EReal))
    obtain ⟨i, hi⟩ := exists_first (by omega) (fun k => (A g k : EReal))
    obtain ⟨j, hj⟩ := exists_first (by omega) (without (fun k => (A g k : EReal)) i)
    rw [out12_apply h t r G A hG hA g hg i hi j hj l, flat_eq]
    exact Ref.table_apply V0 (bat t) (pos t r) G A (fun q => (group_same e _ _ q).trans (hG q)) (fun q k => (expert_same e _ _ q k).trans (hA q k))
      g hg i hi j hj l

end Cert.Post

end
-- ==== Proof.ProjTile.lean ====
/-
  The projections' two scales, and what a point of the call computes from its blocks, at an index.
-/
module

public import proofs.«01_k».proof.Proof.Gen.Kernel3Ideal.Frame
public import proofs.«01_k».proof.Proof.Scalars
public import Idealize.ShloMosaic.Lib.Pointwise

@[expose] public section

set_option maxRecDepth 16384

noncomputable section

namespace Cert.Proj

open Idealize.ShloMosaic Idealize.ShloMosaic.TcCoe
open Cert.Kernel3Ideal Cert.Kernel3Ideal.Gen

/-- The two scales of the queries. -/
abbrev scaleA : EReal := Ideal.ofBits .f32 0x3E38AA3B#32
abbrev scaleC : EReal := Ideal.ofBits .f32 0x3E000000#32

theorem scaleA_eq : ∃ r : ℝ, 0 < r ∧ scaleA = (r : EReal) := by
  unfold scaleA Ideal.ofBits Ideal.ieee
  simp
  refine ⟨_, ?_, rfl⟩
  norm_num

theorem scaleC_eq : ∃ r : ℝ, 0 < r ∧ scaleC = (r : EReal) := by
  unfold scaleC Ideal.ofBits Ideal.ieee
  simp
  refine ⟨_, ?_, rfl⟩
  norm_num

/-- A positive scale may be moved out of a product's sum, whatever the terms. -/
theorem scaled_sum {ι : Type} (s : Finset ι) (x w : ι → EReal) (c : EReal) (hc : ∃ r : ℝ, 0 < r ∧ c = (r : EReal)) :
    ∑ i ∈ s, (w i * c) * x i = (∑ i ∈ s, x i * w i) * c := by
  classical
  obtain ⟨r, hr, rfl⟩ := hc
  induction s using Finset.induction_on with
  | empty => rw [Finset.sum_empty, Finset.sum_empty, zero_mul]
  | insert a s ha ih =>
    rw [Finset.sum_insert ha, Finset.sum_insert ha, ih, EReal.right_distrib_of_nonneg_of_ne_top (by exact_mod_cast hr.le) (EReal.coe_ne_top r)]
    rw [mul_right_comm, mul_comm (w a) (x a)]

theorem pay5_apply (x : Vec Ideal S1x256x1024 .f32) (w : Vec Ideal S1536x1024 .bf16) (k : Fin 1536) (r : Fin 256) :
    (k0_pay5 x w (ix2 k r) : EReal) = ∑ d : Fin 1024, (w (ix2 k d) : EReal) * x (ix3 0 r d) := by
  pointwise [k0_pay5, k0_pay3]

theorem pay4_apply (x : Vec Ideal S1x256x1024 .f32) (p : Vec Ideal S256x256 .bf16) (r : Fin 256) (d : Fin 1024) :
    (k0_pay4 x p (ix2 r d) : EReal) = ∑ k : Fin 256, (p (ix2 r k) : EReal) * x (ix3 0 k d) := by
  pointwise [k0_pay4, k0_pay3]

theorem pay9_apply (x : Vec Ideal S1x256x1024 .f32) (p : Vec Ideal S256x256 .bf16) (w : Vec Ideal S512x1024 .bf16) (k : Fin 512) (r : Fin 256) :
    (k0_pay9 x p w (ix2 k r) : EReal) = ∑ d : Fin 1024, (w (ix2 k d) : EReal) * k0_pay4 x p (ix2 r d) := by
  pointwise [k0_pay9]

theorem pay10_apply (x : Vec Ideal S1x256x1024 .f32) (p : Vec Ideal S256x256 .bf16) (w : Vec Ideal S1024x512 .bf16) (r : Fin 256) (k : Fin 512) :
    (k0_pay10 x p w (ix2 r k) : EReal) = ∑ d : Fin 1024, (k0_pay4 x p (ix2 r d) : EReal) * w (ix2 d k) := by
  pointwise [k0_pay10]

theorem pay11_apply (x : Vec Ideal S1x256x1024 .f32) (w : Vec Ideal S1024x512 .bf16) (r : Fin 256) (k : Fin 512) :
    (k0_pay11 x w (ix2 r k) : EReal) = ∑ d : Fin 1024, (x (ix3 0 r d) : EReal) * w (ix2 d k) := by
  pointwise [k0_pay11, k0_pay3]

end Cert.Proj

end
-- ==== Proof.ProjHost.lean ====
/-
  The arrays the projections' call reads, at an index, from the program's arguments.
-/
module

public import proofs.«01_k».proof.Proof.ProjTile

@[expose] public section

set_option maxRecDepth 16384

noncomputable section

namespace Cert.Proj

open Idealize.ShloMosaic Idealize.ShloMosaic.TcCoe Idealize.ShloMosaic.StableHlo
open Cert.Kernel3Ideal Cert.Kernel3Ideal.Gen

section Whole
variable {F : FTy → Type} [FloatOps F] [Named F] (m : (ℓ : Loc nD τ sig) → Buf (Elt F) ℓ) (c : Dev nD)

/-- The columns in their natural order: the two queries', scaled, and the content values'. -/
def natural (w : Vec F S1024x3072 .f32) : Vec F S1024x1536 .f32 :=
  concatenate S1024x1536 1 [
    ⟨S1024x512, mulf (extractStridedSlice S1024x512 ![0, 0] w slices_S1024x3072_S1024x512_0_0) (broadcastInDim S1024x512 ![] bcast_S_S1024x512 (constant S_ .f32 0x3E38AA3B#32))⟩,
    ⟨S1024x512, mulf (extractStridedSlice S1024x512 ![0, 1536] w slices_S1024x3072_S1024x512_0_1536) (broadcastInDim S1024x512 ![] bcast_S_S1024x512 (constant S_ .f32 0x3E000000#32))⟩,
    ⟨S1024x512, extractStridedSlice S1024x512 ![0, 2560] w slices_S1024x3072_S1024x512_0_2560⟩] concatenates_S1024x512_S1024x512_S1024x512_S1024x1536_d1

theorem V_all :
    V m c main_cst = (fun i => FloatOps.ofBits .bf16 (lit0 (S256x256.rowMajor i)))
    ∧ V m c main_v12 = truncf .bf16 (transpose S1536x1024 [1, 0] (natural (m ((c.tc : Thread nD τ).loc main_arg1))) transposes_S1024x1536_S1536x1024_1_0) bitsLt_bf16_f32
    ∧ V m c main_v14 = truncf .bf16 (transpose S512x1024 [1, 0] (extractStridedSlice S1024x512 ![0, 1024] (m ((c.tc : Thread nD τ).loc main_arg1))
        slices_S1024x3072_S1024x512_0_1024) transposes_S1024x512_S512x1024_1_0) bitsLt_bf16_f32
    ∧ V m c main_v15 = truncf .bf16 (extractStridedSlice S1024x512 ![0, 512] (m ((c.tc : Thread nD τ).loc main_arg1)) slices_S1024x3072_S1024x512_0_512) bitsLt_bf16_f32
    ∧ V m c main_v16 = truncf .bf16 (extractStridedSlice S1024x512 ![0, 2048] (m ((c.tc : Thread nD τ).loc main_arg1)) slices_S1024x3072_S1024x512_0_2048) bitsLt_bf16_f32 := by
  simp only [V, hostOps0, TRef.binary, TRef.nullary, TRef.unary, TRef.toBuf, TRef.ofBuf, cast_eq]
  refine ⟨?_, ?_, ?_, ?_, ?_⟩ <;> after_results_simp <;> rfl

end Whole

theorem natural_q (w : Vec Ideal S1024x3072 .f32) (d : Fin 1024) (k : Fin 512) :
    (natural w (ix2 d (⟨k.val, by omega⟩ : Fin 1536)) : EReal) = w (ix2 d (⟨k.val, by omega⟩ : Fin 3072)) * scaleA := by
  pointwise [natural]

theorem natural_c (w : Vec Ideal S1024x3072 .f32) (d : Fin 1024) (k : Fin 512) :
    (natural w (ix2 d (⟨512 + k.val, by omega⟩ : Fin 1536)) : EReal) = w (ix2 d (⟨1536 + k.val, by omega⟩ : Fin 3072)) * scaleC := by
  pointwise [natural]

theorem natural_v (w : Vec Ideal S1024x3072 .f32) (d : Fin 1024) (k : Fin 512) :
    (natural w (ix2 d (⟨1024 + k.val, by omega⟩ : Fin 1536)) : EReal) = w (ix2 d (⟨2560 + k.val, by omega⟩ : Fin 3072)) := by
  pointwise [natural]
  refine (dif_neg (by omega)).trans ((dif_neg (by omega)).trans (congrArg w (congrArg (ix2 d) (Fin.ext ?_))))
  show 2560 + (1024 + k.val - 512 - 512) = 2560 + k.val
  omega

end Cert.Proj

end
-- ==== Proof.ProjTable.lean ====
/-
  The projections' table of positions, a row at a time.
-/
module

public import proofs.«01_k».proof.Kernel3Ideal

@[expose] public section

namespace Cert.Proj

open Cert.Kernel3Ideal

/-- The position a row of a tile takes its entry from: the positions in eight runs of thirty-two, each run backwards, dealt a run at a time. -/
def source (r : ℕ) : ℕ := 32 * (r % 8) + (31 - r / 8)

/-- A row of the table holds a one at its source, and zeros. -/
noncomputable def rowHolds (r : ℕ) : Bool :=
  Nat.rec true (fun k p => p && (lit0t (256 * r + k)).toNat.beq (bif k.beq (source r) then 16256 else 0)) 256

/-- A run of rows. -/
noncomputable def rowsHold (a n : ℕ) : Bool := Nat.rec true (fun r p => p && rowHolds (a + r)) n

theorem of_all (f : ℕ → Bool) : ∀ n : ℕ, (Nat.rec true (fun k p => p && f k) n : Bool) = true → ∀ k < n, f k = true
  | 0, _, k, hk => absurd hk (Nat.not_lt_zero k)
  | n + 1, h, k, hk => by
    have h' : ((Nat.rec true (fun k p => p && f k) n : Bool) && f n) = true := h
    rw [Bool.and_eq_true] at h'
    rcases Nat.lt_succ_iff_lt_or_eq.mp hk with hlt | rfl
    · exact of_all f n h'.1 k hlt
    · exact h'.2

/-- An entry of a row that holds. -/
theorem entry_of_row (r : ℕ) (h : rowHolds r = true) (k : ℕ) (hk : k < 256) :
    lit0t (256 * r + k) = if k = source r then 0x3F80#16 else 0#16 := by
  have e : (lit0t (256 * r + k)).toNat = (bif k.beq (source r) then 16256 else 0) :=
    Nat.eq_of_beq_eq_true (of_all (fun k => (lit0t (256 * r + k)).toNat.beq (bif k.beq (source r) then 16256 else 0)) 256 h k hk)
  apply BitVec.eq_of_toNat_eq
  rw [e]
  by_cases hs : k = source r
  · rw [if_pos hs, hs, Nat.beq_refl]
    rfl
  · rw [if_neg hs, show k.beq (source r) = false from Bool.eq_false_iff.mpr fun hb => hs (Nat.eq_of_beq_eq_true hb)]
    rfl

theorem row_of_rows (a n : ℕ) (h : rowsHold a n = true) (r : ℕ) (ha : a ≤ r) (hr : r < a + n) : rowHolds r = true := by
  have := of_all (fun r => rowHolds (a + r)) n h (r - a) (by omega)
  rwa [show a + (r - a) = r by omega] at this

end Cert.Proj

end
-- ==== Proof.ProjTable0.lean ====
/-
  The table of positions, rows 0 to 31.
-/
module

public import proofs.«01_k».proof.Proof.ProjTable

@[expose] public section

namespace Cert.Proj

theorem rows00 : rowsHold 0 4 = true := by decide +kernel
theorem rows01 : rowsHold 4 4 = true := by decide +kernel
theorem rows02 : rowsHold 8 4 = true := by decide +kernel
theorem rows03 : rowsHold 12 4 = true := by decide +kernel
theorem rows04 : rowsHold 16 4 = true := by decide +kernel
theorem rows05 : rowsHold 20 4 = true := by decide +kernel
theorem rows06 : rowsHold 24 4 = true := by decide +kernel
theorem rows07 : rowsHold 28 4 = true := by decide +kernel

theorem rows0 (r : ℕ) (h : 0 ≤ r) (hr : r < 32) : rowHolds r = true :=
  (Nat.lt_or_ge r 4).elim (fun k => row_of_rows _ _ rows00 r h k) fun h =>
  (Nat.lt_or_ge r 8).elim (fun k => row_of_rows _ _ rows01 r h k) fun h =>
  (Nat.lt_or_ge r 12).elim (fun k => row_of_rows _ _ rows02 r h k) fun h =>
  (Nat.lt_or_ge r 16).elim (fun k => row_of_rows _ _ rows03 r h k) fun h =>
  (Nat.lt_or_ge r 20).elim (fun k => row_of_rows _ _ rows04 r h k) fun h =>
  (Nat.lt_or_ge r 24).elim (fun k => row_of_rows _ _ rows05 r h k) fun h =>
  (Nat.lt_or_ge r 28).elim (fun k => row_of_rows _ _ rows06 r h k) fun h =>
  row_of_rows _ _ rows07 r h hr

end Cert.Proj

end
-- ==== Proof.ProjTable1.lean ====
/-
  The table of positions, rows 32 to 63.
-/
module

public import proofs.«01_k».proof.Proof.ProjTable

@[expose] public section

namespace Cert.Proj

theorem rows10 : rowsHold 32 4 = true := by decide +kernel
theorem rows11 : rowsHold 36 4 = true := by decide +kernel
theorem rows12 : rowsHold 40 4 = true := by decide +kernel
theorem rows13 : rowsHold 44 4 = true := by decide +kernel
theorem rows14 : rowsHold 48 4 = true := by decide +kernel
theorem rows15 : rowsHold 52 4 = true := by decide +kernel
theorem rows16 : rowsHold 56 4 = true := by decide +kernel
theorem rows17 : rowsHold 60 4 = true := by decide +kernel

theorem rows1 (r : ℕ) (h : 32 ≤ r) (hr : r < 64) : rowHolds r = true :=
  (Nat.lt_or_ge r 36).elim (fun k => row_of_rows _ _ rows10 r h k) fun h =>
  (Nat.lt_or_ge r 40).elim (fun k => row_of_rows _ _ rows11 r h k) fun h =>
  (Nat.lt_or_ge r 44).elim (fun k => row_of_rows _ _ rows12 r h k) fun h =>
  (Nat.lt_or_ge r 48).elim (fun k => row_of_rows _ _ rows13 r h k) fun h =>
  (Nat.lt_or_ge r 52).elim (fun k => row_of_rows _ _ rows14 r h k) fun h =>
  (Nat.lt_or_ge r 56).elim (fun k => row_of_rows _ _ rows15 r h k) fun h =>
  (Nat.lt_or_ge r 60).elim (fun k => row_of_rows _ _ rows16 r h k) fun h =>
  row_of_rows _ _ rows17 r h hr

end Cert.Proj

end
-- ==== Proof.ProjTable2.lean ====
/-
  The table of positions, rows 64 to 95.
-/
module

public import proofs.«01_k».proof.Proof.ProjTable

@[expose] public section

namespace Cert.Proj

theorem rows20 : rowsHold 64 4 = true := by decide +kernel
theorem rows21 : rowsHold 68 4 = true := by decide +kernel
theorem rows22 : rowsHold 72 4 = true := by decide +kernel
theorem rows23 : rowsHold 76 4 = true := by decide +kernel
theorem rows24 : rowsHold 80 4 = true := by decide +kernel
theorem rows25 : rowsHold 84 4 = true := by decide +kernel
theorem rows26 : rowsHold 88 4 = true := by decide +kernel
theorem rows27 : rowsHold 92 4 = true := by decide +kernel

theorem rows2 (r : ℕ) (h : 64 ≤ r) (hr : r < 96) : rowHolds r = true :=
  (Nat.lt_or_ge r 68).elim (fun k => row_of_rows _ _ rows20 r h k) fun h =>
  (Nat.lt_or_ge r 72).elim (fun k => row_of_rows _ _ rows21 r h k) fun h =>
  (Nat.lt_or_ge r 76).elim (fun k => row_of_rows _ _ rows22 r h k) fun h =>
  (Nat.lt_or_ge r 80).elim (fun k => row_of_rows _ _ rows23 r h k) fun h =>
  (Nat.lt_or_ge r 84).elim (fun k => row_of_rows _ _ rows24 r h k) fun h =>
  (Nat.lt_or_ge r 88).elim (fun k => row_of_rows _ _ rows25 r h k) fun h =>
  (Nat.lt_or_ge r 92).elim (fun k => row_of_rows _ _ rows26 r h k) fun h =>
  row_of_rows _ _ rows27 r h hr

end Cert.Proj

end
-- ==== Proof.ProjTable3.lean ====
/-
  The table of positions, rows 96 to 127.
-/
module

public import proofs.«01_k».proof.Proof.ProjTable

@[expose] public section

namespace Cert.Proj

theorem rows30 : rowsHold 96 4 = true := by decide +kernel
theorem rows31 : rowsHold 100 4 = true := by decide +kernel
theorem rows32 : rowsHold 104 4 = true := by decide +kernel
theorem rows33 : rowsHold 108 4 = true := by decide +kernel
theorem rows34 : rowsHold 112 4 = true := by decide +kernel
theorem rows35 : rowsHold 116 4 = true := by decide +kernel
theorem rows36 : rowsHold 120 4 = true := by decide +kernel
theorem rows37 : rowsHold 124 4 = true := by decide +kernel

theorem rows3 (r : ℕ) (h : 96 ≤ r) (hr : r < 128) : rowHolds r = true :=
  (Nat.lt_or_ge r 100).elim (fun k => row_of_rows _ _ rows30 r h k) fun h =>
  (Nat.lt_or_ge r 104).elim (fun k => row_of_rows _ _ rows31 r h k) fun h =>
  (Nat.lt_or_ge r 108).elim (fun k => row_of_rows _ _ rows32 r h k) fun h =>
  (Nat.lt_or_ge r 112).elim (fun k => row_of_rows _ _ rows33 r h k) fun h =>
  (Nat.lt_or_ge r 116).elim (fun k => row_of_rows _ _ rows34 r h k) fun h =>
  (Nat.lt_or_ge r 120).elim (fun k => row_of_rows _ _ rows35 r h k) fun h =>
  (Nat.lt_or_ge r 124).elim (fun k => row_of_rows _ _ rows36 r h k) fun h =>
  row_of_rows _ _ rows37 r h hr

end Cert.Proj

end
-- ==== Proof.ProjTable4.lean ====
/-
  The table of positions, rows 128 to 159.
-/
module

public import proofs.«01_k».proof.Proof.ProjTable

@[expose] public section

namespace Cert.Proj

theorem rows40 : rowsHold 128 4 = true := by decide +kernel
theorem rows41 : rowsHold 132 4 = true := by decide +kernel
theorem rows42 : rowsHold 136 4 = true := by decide +kernel
theorem rows43 : rowsHold 140 4 = true := by decide +kernel
theorem rows44 : rowsHold 144 4 = true := by decide +kernel
theorem rows45 : rowsHold 148 4 = true := by decide +kernel
theorem rows46 : rowsHold 152 4 = true := by decide +kernel
theorem rows47 : rowsHold 156 4 = true := by decide +kernel

theorem rows4 (r : ℕ) (h : 128 ≤ r) (hr : r < 160) : rowHolds r = true :=
  (Nat.lt_or_ge r 132).elim (fun k => row_of_rows _ _ rows40 r h k) fun h =>
  (Nat.lt_or_ge r 136).elim (fun k => row_of_rows _ _ rows41 r h k) fun h =>
  (Nat.lt_or_ge r 140).elim (fun k => row_of_rows _ _ rows42 r h k) fun h =>
  (Nat.lt_or_ge r 144).elim (fun k => row_of_rows _ _ rows43 r h k) fun h =>
  (Nat.lt_or_ge r 148).elim (fun k => row_of_rows _ _ rows44 r h k) fun h =>
  (Nat.lt_or_ge r 152).elim (fun k => row_of_rows _ _ rows45 r h k) fun h =>
  (Nat.lt_or_ge r 156).elim (fun k => row_of_rows _ _ rows46 r h k) fun h =>
  row_of_rows _ _ rows47 r h hr

end Cert.Proj

end
-- ==== Proof.ProjTable5.lean ====
/-
  The table of positions, rows 160 to 191.
-/
module

public import proofs.«01_k».proof.Proof.ProjTable

@[expose] public section

namespace Cert.Proj

theorem rows50 : rowsHold 160 4 = true := by decide +kernel
theorem rows51 : rowsHold 164 4 = true := by decide +kernel
theorem rows52 : rowsHold 168 4 = true := by decide +kernel
theorem rows53 : rowsHold 172 4 = true := by decide +kernel
theorem rows54 : rowsHold 176 4 = true := by decide +kernel
theorem rows55 : rowsHold 180 4 = true := by decide +kernel
theorem rows56 : rowsHold 184 4 = true := by decide +kernel
theorem rows57 : rowsHold 188 4 = true := by decide +kernel

theorem rows5 (r : ℕ) (h : 160 ≤ r) (hr : r < 192) : rowHolds r = true :=
  (Nat.lt_or_ge r 164).elim (fun k => row_of_rows _ _ rows50 r h k) fun h =>
  (Nat.lt_or_ge r 168).elim (fun k => row_of_rows _ _ rows51 r h k) fun h =>
  (Nat.lt_or_ge r 172).elim (fun k => row_of_rows _ _ rows52 r h k) fun h =>
  (Nat.lt_or_ge r 176).elim (fun k => row_of_rows _ _ rows53 r h k) fun h =>
  (Nat.lt_or_ge r 180).elim (fun k => row_of_rows _ _ rows54 r h k) fun h =>
  (Nat.lt_or_ge r 184).elim (fun k => row_of_rows _ _ rows55 r h k) fun h =>
  (Nat.lt_or_ge r 188).elim (fun k => row_of_rows _ _ rows56 r h k) fun h =>
  row_of_rows _ _ rows57 r h hr

end Cert.Proj

end
-- ==== Proof.ProjTable6.lean ====
/-
  The table of positions, rows 192 to 223.
-/
module

public import proofs.«01_k».proof.Proof.ProjTable

@[expose] public section

namespace Cert.Proj

theorem rows60 : rowsHold 192 4 = true := by decide +kernel
theorem rows61 : rowsHold 196 4 = true := by decide +kernel
theorem rows62 : rowsHold 200 4 = true := by decide +kernel
theorem rows63 : rowsHold 204 4 = true := by decide +kernel
theorem rows64 : rowsHold 208 4 = true := by decide +kernel
theorem rows65 : rowsHold 212 4 = true := by decide +kernel
theorem rows66 : rowsHold 216 4 = true := by decide +kernel
theorem rows67 : rowsHold 220 4 = true := by decide +kernel

theorem rows6 (r : ℕ) (h : 192 ≤ r) (hr : r < 224) : rowHolds r = true :=
  (Nat.lt_or_ge r 196).elim (fun k => row_of_rows _ _ rows60 r h k) fun h =>
  (Nat.lt_or_ge r 200).elim (fun k => row_of_rows _ _ rows61 r h k) fun h =>
  (Nat.lt_or_ge r 204).elim (fun k => row_of_rows _ _ rows62 r h k) fun h =>
  (Nat.lt_or_ge r 208).elim (fun k => row_of_rows _ _ rows63 r h k) fun h =>
  (Nat.lt_or_ge r 212).elim (fun k => row_of_rows _ _ rows64 r h k) fun h =>
  (Nat.lt_or_ge r 216).elim (fun k => row_of_rows _ _ rows65 r h k) fun h =>
  (Nat.lt_or_ge r 220).elim (fun k => row_of_rows _ _ rows66 r h k) fun h =>
  row_of_rows _ _ rows67 r h hr

end Cert.Proj

end
-- ==== Proof.ProjTable7.lean ====
/-
  The table of positions, rows 224 to 255.
-/
module

public import proofs.«01_k».proof.Proof.ProjTable

@[expose] public section

namespace Cert.Proj

theorem rows70 : rowsHold 224 4 = true := by decide +kernel
theorem rows71 : rowsHold 228 4 = true := by decide +kernel
theorem rows72 : rowsHold 232 4 = true := by decide +kernel
theorem rows73 : rowsHold 236 4 = true := by decide +kernel
theorem rows74 : rowsHold 240 4 = true := by decide +kernel
theorem rows75 : rowsHold 244 4 = true := by decide +kernel
theorem rows76 : rowsHold 248 4 = true := by decide +kernel
theorem rows77 : rowsHold 252 4 = true := by decide +kernel

theorem rows7 (r : ℕ) (h : 224 ≤ r) (hr : r < 256) : rowHolds r = true :=
  (Nat.lt_or_ge r 228).elim (fun k => row_of_rows _ _ rows70 r h k) fun h =>
  (Nat.lt_or_ge r 232).elim (fun k => row_of_rows _ _ rows71 r h k) fun h =>
  (Nat.lt_or_ge r 236).elim (fun k => row_of_rows _ _ rows72 r h k) fun h =>
  (Nat.lt_or_ge r 240).elim (fun k => row_of_rows _ _ rows73 r h k) fun h =>
  (Nat.lt_or_ge r 244).elim (fun k => row_of_rows _ _ rows74 r h k) fun h =>
  (Nat.lt_or_ge r 248).elim (fun k => row_of_rows _ _ rows75 r h k) fun h =>
  (Nat.lt_or_ge r 252).elim (fun k => row_of_rows _ _ rows76 r h k) fun h =>
  row_of_rows _ _ rows77 r h hr

end Cert.Proj

end
-- ==== Proof.ProjBlocks.lean ====
/-
  The blocks the projections' points read, at an index, and what each point computes of them.
-/
module

public import proofs.«01_k».proof.Proof.ProjHost
public import proofs.«01_k».proof.Proof.ProjTable0
public import proofs.«01_k».proof.Proof.ProjTable1
public import proofs.«01_k».proof.Proof.ProjTable2
public import proofs.«01_k».proof.Proof.ProjTable3
public import proofs.«01_k».proof.Proof.ProjTable4
public import proofs.«01_k».proof.Proof.ProjTable5
public import proofs.«01_k».proof.Proof.ProjTable6
public import proofs.«01_k».proof.Proof.ProjTable7

@[expose] public section

set_option maxRecDepth 16384

noncomputable section

namespace Cert.Proj

open Idealize.ShloMosaic Idealize.ShloMosaic.TcCoe
open Cert.Kernel3Ideal Cert.Kernel3Ideal.Gen

theorem row_holds (r : ℕ) (hr : r < 256) : rowHolds r = true :=
  (Nat.lt_or_ge r 32).elim (fun h => rows0 r (Nat.zero_le r) h) fun h0 =>
  (Nat.lt_or_ge r 64).elim (fun h => rows1 r h0 h) fun h0 =>
  (Nat.lt_or_ge r 96).elim (fun h => rows2 r h0 h) fun h0 =>
  (Nat.lt_or_ge r 128).elim (fun h => rows3 r h0 h) fun h0 =>
  (Nat.lt_or_ge r 160).elim (fun h => rows4 r h0 h) fun h0 =>
  (Nat.lt_or_ge r 192).elim (fun h => rows5 r h0 h) fun h0 =>
  (Nat.lt_or_ge r 224).elim (fun h => rows6 r h0 h) fun h0 => rows7 r h0 hr

theorem source_lt (r : Fin 256) : source r.val < 256 := by unfold source; omega

/-- The position a row of a tile takes its entry from. -/
abbrev src (r : Fin 256) : Fin 256 := ⟨source r.val, source_lt r⟩

theorem narrow_one : (FloatOps.ofBits (F := Ideal) .bf16 0x3F80#16 : EReal) = 1 := by
  show Ideal.ofBits .bf16 0x3F80#16 = 1
  unfold Ideal.ofBits Ideal.ieee
  simp
  rw [← EReal.coe_mul]
  norm_num

theorem narrow_zero : (FloatOps.ofBits (F := Ideal) .bf16 0#16 : EReal) = 0 := by
  show Ideal.ofBits .bf16 0#16 = 0
  unfold Ideal.ofBits Ideal.ieee
  simp

theorem place_rowMajor (r k : Fin 256) : S256x256.rowMajor (ix2 r k) = (⟨256 * r.val + k.val, by omega⟩ : Fin 65536) := by
  refine Fin.ext ((Shape.rowMajor_val_two (ix2 r k)).trans ?_)
  show r.val * 256 + k.val = 256 * r.val + k.val
  omega

theorem table_apply (r k : Fin 256) : (FloatOps.ofBits (F := Ideal) .bf16 (lit0 (S256x256.rowMajor (ix2 r k))) : EReal) = if k = src r then 1 else 0 := by
  rw [place_rowMajor]
  show (FloatOps.ofBits (F := Ideal) .bf16 (lit0t (256 * r.val + k.val)) : EReal) = _
  rw [entry_of_row r.val (row_holds r.val r.isLt) k.val k.isLt]
  by_cases h : k.val = source r.val
  · rw [if_pos h, if_pos (Fin.ext h)]
    exact narrow_one
  · rw [if_neg h, if_neg fun e => h (congrArg Fin.val e)]
    exact narrow_zero

variable (m : (ℓ : Loc nD τ sig) → Buf (Elt Ideal) ℓ) (c : Dev nD)

abbrev bX : Vec Ideal S2x8192x1024 .f32 := m ((c.tc : Thread nD τ).loc main_arg0)
abbrev bW : Vec Ideal S1024x3072 .f32 := m ((c.tc : Thread nD τ).loc main_arg1)

/-- A point's batch entry, and the position of its tile's row `r`. -/
abbrev bat (t : Fin cfg0.N) : Fin 2 := ⟨t.val / 32, by have : t.val < 64 := lt_of_lt_of_eq t.isLt N_0; omega⟩
abbrev tile (t : Fin cfg0.N) : Fin 32 := ⟨t.val % 32, by omega⟩

theorem pos_lt (s : Fin 32) (r : Fin 256) : 256 * s.val + r.val < 8192 := by omega

/-- The position of a tile's row. -/
abbrev pos (s : Fin 32) (r : Fin 256) : Fin 8192 := ⟨256 * s.val + r.val, pos_lt s r⟩

theorem index_in : ∀ t : Fin cfg0.N, (win0_0.index t (0 : Fin 3) = t.val / 32 ∧ win0_0.index t (1 : Fin 3) = t.val % 32 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem blkX (t : Fin cfg0.N) (r : Fin 256) (d : Fin 1024) : (iblk m c 0 t (ix3 0 r d) : EReal) = bX m c (ix3 (bat t) (pos (tile t) r) d) := by
  obtain ⟨⟨h0, h1, h2⟩, -⟩ := index_in t
  have e : iblk m c 0 t (ix3 0 r d) = V m c main_arg0 (ix3 (bat t) (pos (tile t) r) d) := by
    refine congrArg (V m c main_arg0) (funext fun a => Fin.ext ?_)
    match a with
    | ⟨0, _⟩ => show win0_0.index t (0 : Fin 3) * 1 + 1 * 0 = t.val / 32; omega
    | ⟨1, _⟩ => show win0_0.index t (1 : Fin 3) * 256 + 1 * r.val = 256 * (t.val % 32) + r.val; omega
    | ⟨2, _⟩ => show win0_0.index t (2 : Fin 3) * 1024 + 1 * d.val = d.val; omega
  rw [e, V_main_arg0]

theorem blkP (t : Fin cfg0.N) (r k : Fin 256) : (iblk m c 1 t (ix2 r k) : EReal) = (if k = src r then 1 else 0 : EReal) := by
  obtain ⟨-, ⟨h0, h1⟩, -⟩ := index_in t
  have e : iblk m c 1 t (ix2 r k) = V m c main_cst (ix2 r k) := by
    refine congrArg (V m c main_cst) (funext fun a => Fin.ext ?_)
    match a with
    | ⟨0, _⟩ => show win0_1.index t (0 : Fin 2) * 256 + 1 * r.val = r.val; omega
    | ⟨1, _⟩ => show win0_1.index t (1 : Fin 2) * 256 + 1 * k.val = k.val; omega
  rw [e, (V_all m c).1]
  exact table_apply r k

theorem blkN (t : Fin cfg0.N) (k : Fin 1536) (d : Fin 1024) : (iblk m c 2 t (ix2 k d) : EReal) = natural (bW m c) (ix2 d k) := by
  obtain ⟨-, -, ⟨h0, h1⟩, -⟩ := index_in t
  have e : iblk m c 2 t (ix2 k d) = V m c main_v12 (ix2 k d) := by
    refine congrArg (V m c main_v12) (funext fun a => Fin.ext ?_)
    match a with
    | ⟨0, _⟩ => show win0_2.index t (0 : Fin 2) * 1536 + 1 * k.val = k.val; omega
    | ⟨1, _⟩ => show win0_2.index t (1 : Fin 2) * 1024 + 1 * d.val = d.val; omega
  rw [e, (V_all m c).2.1]
  pointwise []

theorem blkV (t : Fin cfg0.N) (k : Fin 512) (d : Fin 1024) : (iblk m c 3 t (ix2 k d) : EReal) = bW m c (ix2 d (⟨1024 + k.val, by omega⟩ : Fin 3072)) := by
  obtain ⟨-, -, -, ⟨h0, h1⟩, -⟩ := index_in t
  have e : iblk m c 3 t (ix2 k d) = V m c main_v14 (ix2 k d) := by
    refine congrArg (V m c main_v14) (funext fun a => Fin.ext ?_)
    match a with
    | ⟨0, _⟩ => show win0_3.index t (0 : Fin 2) * 512 + 1 * k.val = k.val; omega
    | ⟨1, _⟩ => show win0_3.index t (1 : Fin 2) * 1024 + 1 * d.val = d.val; omega
  rw [e, (V_all m c).2.2.1]
  pointwise []

theorem blkK (t : Fin cfg0.N) (d : Fin 1024) (k : Fin 512) : (iblk m c 4 t (ix2 d k) : EReal) = bW m c (ix2 d (⟨512 + k.val, by omega⟩ : Fin 3072)) := by
  obtain ⟨-, -, -, -, ⟨h0, h1⟩, -⟩ := index_in t
  have e : iblk m c 4 t (ix2 d k) = V m c main_v15 (ix2 d k) := by
    refine congrArg (V m c main_v15) (funext fun a => Fin.ext ?_)
    match a with
    | ⟨0, _⟩ => show win0_4.index t (0 : Fin 2) * 1024 + 1 * d.val = d.val; omega
    | ⟨1, _⟩ => show win0_4.index t (1 : Fin 2) * 512 + 1 * k.val = k.val; omega
  rw [e, (V_all m c).2.2.2.1]
  pointwise []

theorem blkC (t : Fin cfg0.N) (d : Fin 1024) (k : Fin 512) : (iblk m c 5 t (ix2 d k) : EReal) = bW m c (ix2 d (⟨2048 + k.val, by omega⟩ : Fin 3072)) := by
  obtain ⟨-, -, -, -, -, h0, h1⟩ := index_in t
  have e : iblk m c 5 t (ix2 d k) = V m c main_v16 (ix2 d k) := by
    refine congrArg (V m c main_v16) (funext fun a => Fin.ext ?_)
    match a with
    | ⟨0, _⟩ => show win0_5.index t (0 : Fin 2) * 1024 + 1 * d.val = d.val; omega
    | ⟨1, _⟩ => show win0_5.index t (1 : Fin 2) * 512 + 1 * k.val = k.val; omega
  rw [e, (V_all m c).2.2.2.2]
  pointwise []

/-- A projection at a token and a column. -/
def entry (x : Vec Ideal S2x8192x1024 .f32) (w : Vec Ideal S1024x3072 .f32) (b : Fin 2) (s : Fin 8192) (j : Fin 3072) : EReal :=
  ∑ d : Fin 1024, (x (ix3 b s d) : EReal) * w (ix2 d j)

/-- The tile with its rows turned. -/
theorem turned_tile (t : Fin cfg0.N) (r : Fin 256) (d : Fin 1024) :
    (k0_pay4 (iblk m c 0 t) (iblk m c 1 t) (ix2 r d) : EReal) = bX m c (ix3 (bat t) (pos (tile t) (src r)) d) := by
  rw [pay4_apply, ← blkX m c t (src r) d, ← Moe.sum_pick (src r) (fun k => (iblk m c 0 t (ix3 0 k d) : EReal))]
  exact Finset.sum_congr rfl fun k _ => congrArg (· * (iblk m c 0 t (ix3 0 k d) : EReal)) (blkP m c t r k)

theorem tile_q (t : Fin cfg0.N) (k : Fin 512) (r : Fin 256) :
    (k0_pay5 (iblk m c 0 t) (iblk m c 2 t) (ix2 (⟨k.val, by omega⟩ : Fin 1536) r) : EReal)
      = entry (bX m c) (bW m c) (bat t) (pos (tile t) r) ⟨k.val, by omega⟩ * scaleA := by
  unfold entry
  rw [pay5_apply, ← scaled_sum _ _ _ _ scaleA_eq]
  exact Finset.sum_congr rfl fun d _ => congrArg₂ (fun a b : EReal => a * b) ((blkN m c t _ d).trans (natural_q _ d k)) (blkX m c t r d)

theorem tile_c (t : Fin cfg0.N) (k : Fin 512) (r : Fin 256) :
    (k0_pay5 (iblk m c 0 t) (iblk m c 2 t) (ix2 (⟨512 + k.val, by omega⟩ : Fin 1536) r) : EReal)
      = entry (bX m c) (bW m c) (bat t) (pos (tile t) r) ⟨1536 + k.val, by omega⟩ * scaleC := by
  unfold entry
  rw [pay5_apply, ← scaled_sum _ _ _ _ scaleC_eq]
  exact Finset.sum_congr rfl fun d _ => congrArg₂ (fun a b : EReal => a * b) ((blkN m c t _ d).trans (natural_c _ d k)) (blkX m c t r d)

theorem tile_v (t : Fin cfg0.N) (k : Fin 512) (r : Fin 256) :
    (k0_pay5 (iblk m c 0 t) (iblk m c 2 t) (ix2 (⟨1024 + k.val, by omega⟩ : Fin 1536) r) : EReal)
      = entry (bX m c) (bW m c) (bat t) (pos (tile t) r) ⟨2560 + k.val, by omega⟩ := by
  unfold entry
  rw [pay5_apply]
  exact Finset.sum_congr rfl fun d _ => (congrArg₂ (fun a b : EReal => a * b) ((blkN m c t _ d).trans (natural_v _ d k)) (blkX m c t r d)).trans (mul_comm _ _)

theorem tile_va (t : Fin cfg0.N) (k : Fin 512) (r : Fin 256) :
    (k0_pay9 (iblk m c 0 t) (iblk m c 1 t) (iblk m c 3 t) (ix2 k r) : EReal)
      = entry (bX m c) (bW m c) (bat t) (pos (tile t) (src r)) ⟨1024 + k.val, by omega⟩ := by
  unfold entry
  rw [pay9_apply]
  exact Finset.sum_congr rfl fun d _ => (congrArg₂ (fun a b : EReal => a * b) (blkV m c t k d) (turned_tile m c t r d)).trans (mul_comm _ _)

theorem tile_ka (t : Fin cfg0.N) (r : Fin 256) (k : Fin 512) :
    (k0_pay10 (iblk m c 0 t) (iblk m c 1 t) (iblk m c 4 t) (ix2 r k) : EReal)
      = entry (bX m c) (bW m c) (bat t) (pos (tile t) (src r)) ⟨512 + k.val, by omega⟩ := by
  unfold entry
  rw [pay10_apply]
  exact Finset.sum_congr rfl fun d _ => congrArg₂ (fun a b : EReal => a * b) (turned_tile m c t r d) (blkK m c t d k)

theorem tile_kc (t : Fin cfg0.N) (r : Fin 256) (k : Fin 512) :
    (k0_pay11 (iblk m c 0 t) (iblk m c 5 t) (ix2 r k) : EReal)
      = entry (bX m c) (bW m c) (bat t) (pos (tile t) r) ⟨2048 + k.val, by omega⟩ := by
  unfold entry
  rw [pay11_apply]
  exact Finset.sum_congr rfl fun d _ => congrArg₂ (fun a b : EReal => a * b) (blkX m c t r d) (blkC m c t d k)

end Cert.Proj

end
-- ==== Proof.ProjFinal.lean ====
/-
  The six arrays the projections' call leaves, from what its points write.
-/
module

public import proofs.«01_k».proof.Proof.Gen.Kernel3Ideal.Value
public import proofs.«01_k».proof.Proof.ProjBlocks
public import Idealize.ShloMosaic.Lib.Pipeline.ValueKit.Basic

@[expose] public section

set_option maxRecDepth 16384

noncomputable section

namespace Cert.Proj

open Idealize.ShloMosaic Idealize.ShloMosaic.TcCoe
open Cert.Kernel3Ideal Cert.Kernel3Ideal.Gen

theorem zero3 : ∀ a, (![0, 0, 0] : Fin 3 → ℕ) a = 0 := by decide
theorem zero2 : ∀ a, (![0, 0] : Fin 2 → ℕ) a = 0 := by decide

theorem col_lt (h : Fin 8) (e : Fin 64) : 64 * h.val + e.val < 512 := by omega

/-- A head's column. -/
abbrev col (h : Fin 8) (e : Fin 64) : Fin 512 := ⟨64 * h.val + e.val, col_lt h e⟩

theorem shift_lt (n : ℕ) (hn : n ≤ 2560) (k : Fin 512) : n + k.val < 3072 := by omega

/-- A group's column among all of them. -/
abbrev shift (n : ℕ) (hn : n ≤ 2560) (k : Fin 512) : Fin 3072 := ⟨n + k.val, shift_lt n hn k⟩

variable (m : (ℓ : Loc nD τ sig) → Buf (Elt Ideal) ℓ) (c : Dev nD)

theorem index_out : ∀ t : Fin cfg0.N, (win0_6.index t (0 : Fin 3) = t.val / 32 ∧ win0_6.index t (1 : Fin 3) = 0 ∧ win0_6.index t (2 : Fin 3) = t.val % 32)
    ∧ (win0_7.index t (0 : Fin 3) = t.val / 32 ∧ win0_7.index t (1 : Fin 3) = 0 ∧ win0_7.index t (2 : Fin 3) = t.val % 32) :=
  (by decide +kernel : ∀ t : Fin grid0.N, _)

theorem index_out8 : ∀ t : Fin cfg0.N, win0_8.index t (0 : Fin 5) = t.val / 32 ∧ win0_8.index t (1 : Fin 5) = 0 ∧ win0_8.index t (2 : Fin 5) = t.val % 32
    ∧ win0_8.index t (3 : Fin 5) = 0 ∧ win0_8.index t (4 : Fin 5) = 0 :=
  (by decide +kernel : ∀ t : Fin grid0.N, _)

theorem index_out9 : ∀ t : Fin cfg0.N, win0_9.index t (0 : Fin 5) = t.val / 32 ∧ win0_9.index t (1 : Fin 5) = 0 ∧ win0_9.index t (2 : Fin 5) = t.val % 32
    ∧ win0_9.index t (3 : Fin 5) = 0 ∧ win0_9.index t (4 : Fin 5) = 0 :=
  (by decide +kernel : ∀ t : Fin grid0.N, _)

theorem index_out10 : ∀ t : Fin cfg0.N, win0_10.index t (0 : Fin 5) = t.val / 32 ∧ win0_10.index t (1 : Fin 5) = 0 ∧ win0_10.index t (2 : Fin 5) = t.val % 32
    ∧ win0_10.index t (3 : Fin 5) = 0 ∧ win0_10.index t (4 : Fin 5) = 0 :=
  (by decide +kernel : ∀ t : Fin grid0.N, _)

theorem index_out11 : ∀ t : Fin cfg0.N, win0_11.index t (0 : Fin 5) = t.val / 32 ∧ win0_11.index t (1 : Fin 5) = 0 ∧ win0_11.index t (2 : Fin 5) = t.val % 32
    ∧ win0_11.index t (3 : Fin 5) = 0 ∧ win0_11.index t (4 : Fin 5) = 0 :=
  (by decide +kernel : ∀ t : Fin grid0.N, _)

theorem flush_all : ∀ t : Fin cfg0.N, (cfg0.win 6).flush t = true ∧ (cfg0.win 7).flush t = true ∧ (cfg0.win 8).flush t = true
    ∧ (cfg0.win 9).flush t = true ∧ (cfg0.win 10).flush t = true ∧ (cfg0.win 11).flush t = true :=
  (by decide +kernel : ∀ t : Fin grid0.N, _)

theorem out6_apply (t : Fin cfg0.N) (k : Fin 512) (r : Fin 256) :
    (out0_6 (iblk m c 0 t) (iblk m c 1 t) (iblk m c 2 t) (iblk m c 3 t) (iblk m c 4 t) (iblk m c 5 t) (ix3 0 k r) : EReal)
      = entry (bX m c) (bW m c) (bat t) (pos (tile t) r) (shift 0 (by decide) k) * scaleA := by
  unfold out0_6
  simp only [View.ld_unit_lit (S := S1x256x1024) _ _ zero3, View.ld_unit_lit (S := S1536x1024) _ _ zero2]
  refine (Value.canon6_eq _ _ _).trans ?_
  have e0 : Value.ix6_0 (ix3 0 k r) = ix2 (⟨k.val, by omega⟩ : Fin 1536) r := by
    funext a; apply Fin.ext
    match a with
    | ⟨0, _⟩ => show k.val = k.val; rfl
    | ⟨1, _⟩ => rfl
  show (k0_pay5 (iblk m c 0 t) (iblk m c 2 t) (Value.ix6_0 (ix3 0 k r)) : EReal) = _
  rw [e0]
  exact (tile_q m c t k r).trans (by simp only [shift, Nat.zero_add])

theorem out7_apply (t : Fin cfg0.N) (k : Fin 512) (r : Fin 256) :
    (out0_7 (iblk m c 0 t) (iblk m c 1 t) (iblk m c 2 t) (iblk m c 3 t) (iblk m c 4 t) (iblk m c 5 t) (ix3 0 k r) : EReal)
      = entry (bX m c) (bW m c) (bat t) (pos (tile t) r) (shift 1536 (by decide) k) * scaleC := by
  unfold out0_7
  simp only [View.ld_unit_lit (S := S1x256x1024) _ _ zero3, View.ld_unit_lit (S := S1536x1024) _ _ zero2]
  refine (Value.canon7_eq _ _ _).trans ?_
  have e0 : Value.ix7_0 (ix3 0 k r) = ix2 (⟨512 + k.val, by omega⟩ : Fin 1536) r := by
    funext a; apply Fin.ext
    match a with
    | ⟨0, _⟩ => show k.val + 512 = 512 + k.val; omega
    | ⟨1, _⟩ => rfl
  show (k0_pay5 (iblk m c 0 t) (iblk m c 2 t) (Value.ix7_0 (ix3 0 k r)) : EReal) = _
  rw [e0]
  exact (tile_c m c t k r)

theorem out8_apply (t : Fin cfg0.N) (h : Fin 8) (e : Fin 64) (r : Fin 256) :
    (out0_8 (iblk m c 0 t) (iblk m c 1 t) (iblk m c 2 t) (iblk m c 3 t) (iblk m c 4 t) (iblk m c 5 t) (ix5 0 h 0 e r) : EReal)
      = entry (bX m c) (bW m c) (bat t) (pos (tile t) r) (shift 2560 (by decide) (col h e)) := by
  unfold out0_8 k0_pay43
  simp only [View.ld_unit_lit (S := S1x256x1024) _ _ zero3, View.ld_unit_lit (S := S1536x1024) _ _ zero2]
  refine (Value.canon8_eq _ _ _).trans ?_
  have e0 : Value.ix8_0 (ix5 0 h 0 e r) = ix2 (⟨1024 + (col h e).val, by omega⟩ : Fin 1536) r := by
    funext a; apply Fin.ext
    match a with
    | ⟨0, _⟩ => show h.val * 64 + e.val + 1024 = 1024 + (64 * h.val + e.val); omega
    | ⟨1, _⟩ => rfl
  show (k0_pay5 (iblk m c 0 t) (iblk m c 2 t) (Value.ix8_0 (ix5 0 h 0 e r)) : EReal) = _
  rw [e0]
  exact (tile_v m c t (col h e) r)

theorem out9_apply (t : Fin cfg0.N) (h : Fin 8) (e : Fin 64) (r : Fin 256) :
    (out0_9 (iblk m c 0 t) (iblk m c 1 t) (iblk m c 2 t) (iblk m c 3 t) (iblk m c 4 t) (iblk m c 5 t) (ix5 0 h 0 e r) : EReal)
      = entry (bX m c) (bW m c) (bat t) (pos (tile t) (src r)) (shift 1024 (by decide) (col h e)) := by
  unfold out0_9 k0_pay44
  simp only [View.ld_unit_lit (S := S1x256x1024) _ _ zero3, View.ld_unit_lit (S := S256x256) _ _ zero2, View.ld_unit_lit (S := S512x1024) _ _ zero2]
  refine (Value.canon9_eq _ _ _ _).trans ?_
  have e0 : Value.ix9_0 (ix5 0 h 0 e r) = ix2 (col h e) r := by
    funext a; apply Fin.ext
    match a with
    | ⟨0, _⟩ => show h.val * 64 + e.val = 64 * h.val + e.val; omega
    | ⟨1, _⟩ => rfl
  show (k0_pay9 (iblk m c 0 t) (iblk m c 1 t) (iblk m c 3 t) (Value.ix9_0 (ix5 0 h 0 e r)) : EReal) = _
  rw [e0]
  exact (tile_va m c t (col h e) r)

theorem out10_apply (t : Fin cfg0.N) (h : Fin 8) (r : Fin 256) (e : Fin 64) :
    (out0_10 (iblk m c 0 t) (iblk m c 1 t) (iblk m c 2 t) (iblk m c 3 t) (iblk m c 4 t) (iblk m c 5 t) (ix5 0 h 0 r e) : EReal)
      = entry (bX m c) (bW m c) (bat t) (pos (tile t) (src r)) (shift 512 (by decide) (col h e)) := by
  unfold out0_10 k0_pay45
  simp only [View.ld_unit_lit (S := S1x256x1024) _ _ zero3, View.ld_unit_lit (S := S256x256) _ _ zero2, View.ld_unit_lit (S := S1024x512) _ _ zero2]
  refine (Value.canon10_eq _ _ _ _).trans ?_
  have e0 : Value.ix10_0 (ix5 0 h 0 r e) = ix2 r (col h e) := by
    funext a; apply Fin.ext
    match a with
    | ⟨0, _⟩ => rfl
    | ⟨1, _⟩ => show h.val * 64 + e.val = 64 * h.val + e.val; omega
  show (k0_pay10 (iblk m c 0 t) (iblk m c 1 t) (iblk m c 4 t) (Value.ix10_0 (ix5 0 h 0 r e)) : EReal) = _
  rw [e0]
  exact (tile_ka m c t r (col h e))

theorem out11_apply (t : Fin cfg0.N) (h : Fin 8) (r : Fin 256) (e : Fin 64) :
    (out0_11 (iblk m c 0 t) (iblk m c 1 t) (iblk m c 2 t) (iblk m c 3 t) (iblk m c 4 t) (iblk m c 5 t) (ix5 0 h 0 r e) : EReal)
      = entry (bX m c) (bW m c) (bat t) (pos (tile t) r) (shift 2048 (by decide) (col h e)) := by
  unfold out0_11 k0_pay47 k0_pay46
  simp only [View.ld_unit_lit (S := S1x256x1024) _ _ zero3, View.ld_unit_lit (S := S1024x512) _ _ zero2]
  refine (Value.canon11_eq _ _ _).trans ?_
  have e0 : Value.ix11_0 (ix5 0 h 0 r e) = ix2 r (col h e) := by
    funext a; apply Fin.ext
    match a with
    | ⟨0, _⟩ => rfl
    | ⟨1, _⟩ => show h.val * 64 + e.val = 64 * h.val + e.val; omega
  show (k0_pay11 (iblk m c 0 t) (iblk m c 5 t) (Value.ix11_0 (ix5 0 h 0 r e)) : EReal) = _
  rw [e0]
  exact (tile_kc m c t r (col h e))

theorem mem_blk6 (t : Fin cfg0.N) (i : S2x512x8192.Idx) : i ∈ ((cfg0.win 6).blk t).view.set ↔ ∀ a : Fin 3,
    win0_6.index t a * S1x512x256.size a ≤ (i a).val ∧ (i a).val < win0_6.index t a * S1x512x256.size a + S1x512x256.size a := by
  show i ∈ ((View.whole main_v17_0).slice (win0_6.rect t)).set ↔ _
  rw [View.set_slice_whole, Rect.mem_set_unit]
  exact Iff.rfl

theorem final6 (T : Vec Ideal S2x512x8192 .bf16)
    (hT : ∀ t k r, (T (ix3 (bat t) k (pos (tile t) r)) : EReal) = out0_6 (iblk m c 0 t) (iblk m c 1 t) (iblk m c 2 t) (iblk m c 3 t) (iblk m c 4 t) (iblk m c 5 t) (ix3 0 k r)) :
    (dats m 0 c).arrAt 6 cfg0.N = T := by
  refine (dats m 0 c).arrAt_eq_of_cover 6 _ (fun t _ => ?_) fun i => ?_
  · rw [Value.flushed6]
    obtain ⟨⟨h0, h1, h2⟩, -⟩ := index_out t
    funext y
    have hy0 : (y 0).val < 1 := (y 0).isLt
    have hy1 : (y 1).val < 512 := (y 1).isLt
    have hy2 : (y 2).val < 256 := (y 2).isLt
    have hb0 : (((cfg0.win 6).blk t).view.emb y 0).val = win0_6.index t (0 : Fin 3) * 1 + 1 * (y 0).val := rfl
    have hb1 : (((cfg0.win 6).blk t).view.emb y 1).val = win0_6.index t (1 : Fin 3) * 512 + 1 * (y 1).val := rfl
    have hb2 : (((cfg0.win 6).blk t).view.emb y 2).val = win0_6.index t (2 : Fin 3) * 256 + 1 * (y 2).val := rfl
    have e1 : (cfg0.win 6).xinj (grid0.coords t) y = ix3 0 ⟨(y 1).val, hy1⟩ ⟨(y 2).val, hy2⟩ := by
      funext a; apply Fin.ext
      match a with
      | ⟨0, _⟩ => show (y 0).val = 0; omega
      | ⟨1, _⟩ => rfl
      | ⟨2, _⟩ => rfl
    have e2 : ((cfg0.win 6).blk t).view.emb y = ix3 (bat t) ⟨(y 1).val, hy1⟩ (pos (tile t) ⟨(y 2).val, hy2⟩) := by
      funext a; apply Fin.ext
      match a with
      | ⟨0, _⟩ => exact hb0.trans (by show _ = t.val / 32; omega)
      | ⟨1, _⟩ => exact hb1.trans (by show _ = (y 1).val; omega)
      | ⟨2, _⟩ => exact hb2.trans (by show _ = 256 * (t.val % 32) + (y 2).val; omega)
    show out0_6 (iblk m c 0 t) (iblk m c 1 t) (iblk m c 2 t) (iblk m c 3 t) (iblk m c 4 t) (iblk m c 5 t) ((cfg0.win 6).xinj (grid0.coords t) y)
      = T (((cfg0.win 6).blk t).view.emb y)
    rw [e1, e2]
    exact (hT t _ _).symm
  · have hN : cfg0.N = 64 := N_0
    have hi0 : (i 0).val < 2 := (i 0).isLt
    have hi1 : (i 1).val < 512 := (i 1).isLt
    have hi2 : (i 2).val < 8192 := (i 2).isLt
    refine ⟨⟨32 * (i 0).val + (i 2).val / 256, by omega⟩, (flush_all _).1, ?_⟩
    obtain ⟨⟨h0, h1, h2⟩, -⟩ := index_out ⟨32 * (i 0).val + (i 2).val / 256, by omega⟩
    rw [mem_blk6]
    intro a
    match a with
    | ⟨0, _⟩ =>
      show win0_6.index _ (0 : Fin 3) * 1 ≤ (i 0).val ∧ (i 0).val < win0_6.index _ (0 : Fin 3) * 1 + 1
      rw [h0]
      show (32 * (i 0).val + (i 2).val / 256) / 32 * 1 ≤ (i 0).val ∧ (i 0).val < (32 * (i 0).val + (i 2).val / 256) / 32 * 1 + 1
      omega
    | ⟨1, _⟩ =>
      show win0_6.index _ (1 : Fin 3) * 512 ≤ (i 1).val ∧ (i 1).val < win0_6.index _ (1 : Fin 3) * 512 + 512
      rw [h1]
      omega
    | ⟨2, _⟩ =>
      show win0_6.index _ (2 : Fin 3) * 256 ≤ (i 2).val ∧ (i 2).val < win0_6.index _ (2 : Fin 3) * 256 + 256
      rw [h2]
      show (32 * (i 0).val + (i 2).val / 256) % 32 * 256 ≤ (i 2).val ∧ (i 2).val < (32 * (i 0).val + (i 2).val / 256) % 32 * 256 + 256
      omega

theorem mem_blk7 (t : Fin cfg0.N) (i : S2x512x8192.Idx) : i ∈ ((cfg0.win 7).blk t).view.set ↔ ∀ a : Fin 3,
    win0_7.index t a * S1x512x256.size a ≤ (i a).val ∧ (i a).val < win0_7.index t a * S1x512x256.size a + S1x512x256.size a := by
  show i ∈ ((View.whole main_v17_1).slice (win0_7.rect t)).set ↔ _
  rw [View.set_slice_whole, Rect.mem_set_unit]
  exact Iff.rfl

theorem final7 (T : Vec Ideal S2x512x8192 .bf16)
    (hT : ∀ t k r, (T (ix3 (bat t) k (pos (tile t) r)) : EReal) = out0_7 (iblk m c 0 t) (iblk m c 1 t) (iblk m c 2 t) (iblk m c 3 t) (iblk m c 4 t) (iblk m c 5 t) (ix3 0 k r)) :
    (dats m 0 c).arrAt 7 cfg0.N = T := by
  refine (dats m 0 c).arrAt_eq_of_cover 7 _ (fun t _ => ?_) fun i => ?_
  · rw [Value.flushed7]
    obtain ⟨-, ⟨h0, h1, h2⟩⟩ := index_out t
    funext y
    have hy0 : (y 0).val < 1 := (y 0).isLt
    have hy1 : (y 1).val < 512 := (y 1).isLt
    have hy2 : (y 2).val < 256 := (y 2).isLt
    have hb0 : (((cfg0.win 7).blk t).view.emb y 0).val = win0_7.index t (0 : Fin 3) * 1 + 1 * (y 0).val := rfl
    have hb1 : (((cfg0.win 7).blk t).view.emb y 1).val = win0_7.index t (1 : Fin 3) * 512 + 1 * (y 1).val := rfl
    have hb2 : (((cfg0.win 7).blk t).view.emb y 2).val = win0_7.index t (2 : Fin 3) * 256 + 1 * (y 2).val := rfl
    have e1 : (cfg0.win 7).xinj (grid0.coords t) y = ix3 0 ⟨(y 1).val, hy1⟩ ⟨(y 2).val, hy2⟩ := by
      funext a; apply Fin.ext
      match a with
      | ⟨0, _⟩ => show (y 0).val = 0; omega
      | ⟨1, _⟩ => rfl
      | ⟨2, _⟩ => rfl
    have e2 : ((cfg0.win 7).blk t).view.emb y = ix3 (bat t) ⟨(y 1).val, hy1⟩ (pos (tile t) ⟨(y 2).val, hy2⟩) := by
      funext a; apply Fin.ext
      match a with
      | ⟨0, _⟩ => exact hb0.trans (by show _ = t.val / 32; omega)
      | ⟨1, _⟩ => exact hb1.trans (by show _ = (y 1).val; omega)
      | ⟨2, _⟩ => exact hb2.trans (by show _ = 256 * (t.val % 32) + (y 2).val; omega)
    show out0_7 (iblk m c 0 t) (iblk m c 1 t) (iblk m c 2 t) (iblk m c 3 t) (iblk m c 4 t) (iblk m c 5 t) ((cfg0.win 7).xinj (grid0.coords t) y)
      = T (((cfg0.win 7).blk t).view.emb y)
    rw [e1, e2]
    exact (hT t _ _).symm
  · have hN : cfg0.N = 64 := N_0
    have hi0 : (i 0).val < 2 := (i 0).isLt
    have hi1 : (i 1).val < 512 := (i 1).isLt
    have hi2 : (i 2).val < 8192 := (i 2).isLt
    refine ⟨⟨32 * (i 0).val + (i 2).val / 256, by omega⟩, (flush_all _).2.1, ?_⟩
    obtain ⟨-, ⟨h0, h1, h2⟩⟩ := index_out ⟨32 * (i 0).val + (i 2).val / 256, by omega⟩
    rw [mem_blk7]
    intro a
    match a with
    | ⟨0, _⟩ =>
      show win0_7.index _ (0 : Fin 3) * 1 ≤ (i 0).val ∧ (i 0).val < win0_7.index _ (0 : Fin 3) * 1 + 1
      rw [h0]
      show (32 * (i 0).val + (i 2).val / 256) / 32 * 1 ≤ (i 0).val ∧ (i 0).val < (32 * (i 0).val + (i 2).val / 256) / 32 * 1 + 1
      omega
    | ⟨1, _⟩ =>
      show win0_7.index _ (1 : Fin 3) * 512 ≤ (i 1).val ∧ (i 1).val < win0_7.index _ (1 : Fin 3) * 512 + 512
      rw [h1]
      omega
    | ⟨2, _⟩ =>
      show win0_7.index _ (2 : Fin 3) * 256 ≤ (i 2).val ∧ (i 2).val < win0_7.index _ (2 : Fin 3) * 256 + 256
      rw [h2]
      show (32 * (i 0).val + (i 2).val / 256) % 32 * 256 ≤ (i 2).val ∧ (i 2).val < (32 * (i 0).val + (i 2).val / 256) % 32 * 256 + 256
      omega

theorem mem_blk8 (t : Fin cfg0.N) (i : S2x8x32x64x256.Idx) : i ∈ ((cfg0.win 8).blk t).view.set ↔ ∀ a : Fin 5,
    win0_8.index t a * S1x8x1x64x256.size a ≤ (i a).val ∧ (i a).val < win0_8.index t a * S1x8x1x64x256.size a + S1x8x1x64x256.size a := by
  show i ∈ ((View.whole main_v17_2).slice (win0_8.rect t)).set ↔ _
  rw [View.set_slice_whole, Rect.mem_set_unit]
  exact Iff.rfl

theorem final8 (T : Vec Ideal S2x8x32x64x256 .bf16)
    (hT : ∀ t h e r, (T (ix5 (bat t) h (tile t) e r) : EReal) = out0_8 (iblk m c 0 t) (iblk m c 1 t) (iblk m c 2 t) (iblk m c 3 t) (iblk m c 4 t) (iblk m c 5 t) (ix5 0 h 0 e r)) :
    (dats m 0 c).arrAt 8 cfg0.N = T := by
  refine (dats m 0 c).arrAt_eq_of_cover 8 _ (fun t _ => ?_) fun i => ?_
  · rw [Value.flushed8]
    obtain ⟨h0, h1, h2, h3, h4⟩ := index_out8 t
    funext y
    have hy0 : (y 0).val < 1 := (y 0).isLt
    have hy1 : (y 1).val < 8 := (y 1).isLt
    have hy2 : (y 2).val < 1 := (y 2).isLt
    have hy3 : (y 3).val < 64 := (y 3).isLt
    have hy4 : (y 4).val < 256 := (y 4).isLt
    have hb0 : (((cfg0.win 8).blk t).view.emb y 0).val = win0_8.index t (0 : Fin 5) * 1 + 1 * (y 0).val := rfl
    have hb1 : (((cfg0.win 8).blk t).view.emb y 1).val = win0_8.index t (1 : Fin 5) * 8 + 1 * (y 1).val := rfl
    have hb2 : (((cfg0.win 8).blk t).view.emb y 2).val = win0_8.index t (2 : Fin 5) * 1 + 1 * (y 2).val := rfl
    have hb3 : (((cfg0.win 8).blk t).view.emb y 3).val = win0_8.index t (3 : Fin 5) * 64 + 1 * (y 3).val := rfl
    have hb4 : (((cfg0.win 8).blk t).view.emb y 4).val = win0_8.index t (4 : Fin 5) * 256 + 1 * (y 4).val := rfl
    have e1 : (cfg0.win 8).xinj (grid0.coords t) y = ix5 0 ⟨(y 1).val, hy1⟩ 0 ⟨(y 3).val, hy3⟩ ⟨(y 4).val, hy4⟩ := by
      funext a; apply Fin.ext
      match a with
      | ⟨0, _⟩ => show (y 0).val = 0; omega
      | ⟨1, _⟩ => rfl
      | ⟨2, _⟩ => show (y 2).val = 0; omega
      | ⟨3, _⟩ => rfl
      | ⟨4, _⟩ => rfl
    have e2 : ((cfg0.win 8).blk t).view.emb y = ix5 (bat t) ⟨(y 1).val, hy1⟩ (tile t) ⟨(y 3).val, hy3⟩ ⟨(y 4).val, hy4⟩ := by
      funext a; apply Fin.ext
      match a with
      | ⟨0, _⟩ => exact hb0.trans (by show _ = t.val / 32; omega)
      | ⟨1, _⟩ => exact hb1.trans (by show _ = (y 1).val; omega)
      | ⟨2, _⟩ => exact hb2.trans (by show _ = t.val % 32; omega)
      | ⟨3, _⟩ => exact hb3.trans (by show _ = (y 3).val; omega)
      | ⟨4, _⟩ => exact hb4.trans (by show _ = (y 4).val; omega)
    show out0_8 (iblk m c 0 t) (iblk m c 1 t) (iblk m c 2 t) (iblk m c 3 t) (iblk m c 4 t) (iblk m c 5 t) ((cfg0.win 8).xinj (grid0.coords t) y)
      = T (((cfg0.win 8).blk t).view.emb y)
    rw [e1, e2]
    exact (hT t _ _ _).symm
  · have hN : cfg0.N = 64 := N_0
    have hi0 : (i 0).val < 2 := (i 0).isLt
    have hi1 : (i 1).val < 8 := (i 1).isLt
    have hi2 : (i 2).val < 32 := (i 2).isLt
    have hi3 : (i 3).val < 64 := (i 3).isLt
    have hi4 : (i 4).val < 256 := (i 4).isLt
    refine ⟨⟨32 * (i 0).val + (i 2).val, by omega⟩, (flush_all _).2.2.1, ?_⟩
    obtain ⟨h0, h1, h2, h3, h4⟩ := index_out8 ⟨32 * (i 0).val + (i 2).val, by omega⟩
    rw [mem_blk8]
    intro a
    match a with
    | ⟨0, _⟩ =>
      show win0_8.index _ (0 : Fin 5) * 1 ≤ (i 0).val ∧ (i 0).val < win0_8.index _ (0 : Fin 5) * 1 + 1
      rw [h0]
      show (32 * (i 0).val + (i 2).val) / 32 * 1 ≤ (i 0).val ∧ (i 0).val < (32 * (i 0).val + (i 2).val) / 32 * 1 + 1
      omega
    | ⟨1, _⟩ =>
      show win0_8.index _ (1 : Fin 5) * 8 ≤ (i 1).val ∧ (i 1).val < win0_8.index _ (1 : Fin 5) * 8 + 8
      rw [h1]
      omega
    | ⟨2, _⟩ =>
      show win0_8.index _ (2 : Fin 5) * 1 ≤ (i 2).val ∧ (i 2).val < win0_8.index _ (2 : Fin 5) * 1 + 1
      rw [h2]
      show (32 * (i 0).val + (i 2).val) % 32 * 1 ≤ (i 2).val ∧ (i 2).val < (32 * (i 0).val + (i 2).val) % 32 * 1 + 1
      omega
    | ⟨3, _⟩ =>
      show win0_8.index _ (3 : Fin 5) * 64 ≤ (i 3).val ∧ (i 3).val < win0_8.index _ (3 : Fin 5) * 64 + 64
      rw [h3]
      omega
    | ⟨4, _⟩ =>
      show win0_8.index _ (4 : Fin 5) * 256 ≤ (i 4).val ∧ (i 4).val < win0_8.index _ (4 : Fin 5) * 256 + 256
      rw [h4]
      omega

theorem mem_blk9 (t : Fin cfg0.N) (i : S2x8x32x64x256.Idx) : i ∈ ((cfg0.win 9).blk t).view.set ↔ ∀ a : Fin 5,
    win0_9.index t a * S1x8x1x64x256.size a ≤ (i a).val ∧ (i a).val < win0_9.index t a * S1x8x1x64x256.size a + S1x8x1x64x256.size a := by
  show i ∈ ((View.whole main_v17_3).slice (win0_9.rect t)).set ↔ _
  rw [View.set_slice_whole, Rect.mem_set_unit]
  exact Iff.rfl

theorem final9 (T : Vec Ideal S2x8x32x64x256 .bf16)
    (hT : ∀ t h e r, (T (ix5 (bat t) h (tile t) e r) : EReal) = out0_9 (iblk m c 0 t) (iblk m c 1 t) (iblk m c 2 t) (iblk m c 3 t) (iblk m c 4 t) (iblk m c 5 t) (ix5 0 h 0 e r)) :
    (dats m 0 c).arrAt 9 cfg0.N = T := by
  refine (dats m 0 c).arrAt_eq_of_cover 9 _ (fun t _ => ?_) fun i => ?_
  · rw [Value.flushed9]
    obtain ⟨h0, h1, h2, h3, h4⟩ := index_out9 t
    funext y
    have hy0 : (y 0).val < 1 := (y 0).isLt
    have hy1 : (y 1).val < 8 := (y 1).isLt
    have hy2 : (y 2).val < 1 := (y 2).isLt
    have hy3 : (y 3).val < 64 := (y 3).isLt
    have hy4 : (y 4).val < 256 := (y 4).isLt
    have hb0 : (((cfg0.win 9).blk t).view.emb y 0).val = win0_9.index t (0 : Fin 5) * 1 + 1 * (y 0).val := rfl
    have hb1 : (((cfg0.win 9).blk t).view.emb y 1).val = win0_9.index t (1 : Fin 5) * 8 + 1 * (y 1).val := rfl
    have hb2 : (((cfg0.win 9).blk t).view.emb y 2).val = win0_9.index t (2 : Fin 5) * 1 + 1 * (y 2).val := rfl
    have hb3 : (((cfg0.win 9).blk t).view.emb y 3).val = win0_9.index t (3 : Fin 5) * 64 + 1 * (y 3).val := rfl
    have hb4 : (((cfg0.win 9).blk t).view.emb y 4).val = win0_9.index t (4 : Fin 5) * 256 + 1 * (y 4).val := rfl
    have e1 : (cfg0.win 9).xinj (grid0.coords t) y = ix5 0 ⟨(y 1).val, hy1⟩ 0 ⟨(y 3).val, hy3⟩ ⟨(y 4).val, hy4⟩ := by
      funext a; apply Fin.ext
      match a with
      | ⟨0, _⟩ => show (y 0).val = 0; omega
      | ⟨1, _⟩ => rfl
      | ⟨2, _⟩ => show (y 2).val = 0; omega
      | ⟨3, _⟩ => rfl
      | ⟨4, _⟩ => rfl
    have e2 : ((cfg0.win 9).blk t).view.emb y = ix5 (bat t) ⟨(y 1).val, hy1⟩ (tile t) ⟨(y 3).val, hy3⟩ ⟨(y 4).val, hy4⟩ := by
      funext a; apply Fin.ext
      match a with
      | ⟨0, _⟩ => exact hb0.trans (by show _ = t.val / 32; omega)
      | ⟨1, _⟩ => exact hb1.trans (by show _ = (y 1).val; omega)
      | ⟨2, _⟩ => exact hb2.trans (by show _ = t.val % 32; omega)
      | ⟨3, _⟩ => exact hb3.trans (by show _ = (y 3).val; omega)
      | ⟨4, _⟩ => exact hb4.trans (by show _ = (y 4).val; omega)
    show out0_9 (iblk m c 0 t) (iblk m c 1 t) (iblk m c 2 t) (iblk m c 3 t) (iblk m c 4 t) (iblk m c 5 t) ((cfg0.win 9).xinj (grid0.coords t) y)
      = T (((cfg0.win 9).blk t).view.emb y)
    rw [e1, e2]
    exact (hT t _ _ _).symm
  · have hN : cfg0.N = 64 := N_0
    have hi0 : (i 0).val < 2 := (i 0).isLt
    have hi1 : (i 1).val < 8 := (i 1).isLt
    have hi2 : (i 2).val < 32 := (i 2).isLt
    have hi3 : (i 3).val < 64 := (i 3).isLt
    have hi4 : (i 4).val < 256 := (i 4).isLt
    refine ⟨⟨32 * (i 0).val + (i 2).val, by omega⟩, (flush_all _).2.2.2.1, ?_⟩
    obtain ⟨h0, h1, h2, h3, h4⟩ := index_out9 ⟨32 * (i 0).val + (i 2).val, by omega⟩
    rw [mem_blk9]
    intro a
    match a with
    | ⟨0, _⟩ =>
      show win0_9.index _ (0 : Fin 5) * 1 ≤ (i 0).val ∧ (i 0).val < win0_9.index _ (0 : Fin 5) * 1 + 1
      rw [h0]
      show (32 * (i 0).val + (i 2).val) / 32 * 1 ≤ (i 0).val ∧ (i 0).val < (32 * (i 0).val + (i 2).val) / 32 * 1 + 1
      omega
    | ⟨1, _⟩ =>
      show win0_9.index _ (1 : Fin 5) * 8 ≤ (i 1).val ∧ (i 1).val < win0_9.index _ (1 : Fin 5) * 8 + 8
      rw [h1]
      omega
    | ⟨2, _⟩ =>
      show win0_9.index _ (2 : Fin 5) * 1 ≤ (i 2).val ∧ (i 2).val < win0_9.index _ (2 : Fin 5) * 1 + 1
      rw [h2]
      show (32 * (i 0).val + (i 2).val) % 32 * 1 ≤ (i 2).val ∧ (i 2).val < (32 * (i 0).val + (i 2).val) % 32 * 1 + 1
      omega
    | ⟨3, _⟩ =>
      show win0_9.index _ (3 : Fin 5) * 64 ≤ (i 3).val ∧ (i 3).val < win0_9.index _ (3 : Fin 5) * 64 + 64
      rw [h3]
      omega
    | ⟨4, _⟩ =>
      show win0_9.index _ (4 : Fin 5) * 256 ≤ (i 4).val ∧ (i 4).val < win0_9.index _ (4 : Fin 5) * 256 + 256
      rw [h4]
      omega

theorem mem_blk10 (t : Fin cfg0.N) (i : S2x8x32x256x64.Idx) : i ∈ ((cfg0.win 10).blk t).view.set ↔ ∀ a : Fin 5,
    win0_10.index t a * S1x8x1x256x64.size a ≤ (i a).val ∧ (i a).val < win0_10.index t a * S1x8x1x256x64.size a + S1x8x1x256x64.size a := by
  show i ∈ ((View.whole main_v17_4).slice (win0_10.rect t)).set ↔ _
  rw [View.set_slice_whole, Rect.mem_set_unit]
  exact Iff.rfl

theorem final10 (T : Vec Ideal S2x8x32x256x64 .bf16)
    (hT : ∀ t h r e, (T (ix5 (bat t) h (tile t) r e) : EReal) = out0_10 (iblk m c 0 t) (iblk m c 1 t) (iblk m c 2 t) (iblk m c 3 t) (iblk m c 4 t) (iblk m c 5 t) (ix5 0 h 0 r e)) :
    (dats m 0 c).arrAt 10 cfg0.N = T := by
  refine (dats m 0 c).arrAt_eq_of_cover 10 _ (fun t _ => ?_) fun i => ?_
  · rw [Value.flushed10]
    obtain ⟨h0, h1, h2, h3, h4⟩ := index_out10 t
    funext y
    have hy0 : (y 0).val < 1 := (y 0).isLt
    have hy1 : (y 1).val < 8 := (y 1).isLt
    have hy2 : (y 2).val < 1 := (y 2).isLt
    have hy3 : (y 3).val < 256 := (y 3).isLt
    have hy4 : (y 4).val < 64 := (y 4).isLt
    have hb0 : (((cfg0.win 10).blk t).view.emb y 0).val = win0_10.index t (0 : Fin 5) * 1 + 1 * (y 0).val := rfl
    have hb1 : (((cfg0.win 10).blk t).view.emb y 1).val = win0_10.index t (1 : Fin 5) * 8 + 1 * (y 1).val := rfl
    have hb2 : (((cfg0.win 10).blk t).view.emb y 2).val = win0_10.index t (2 : Fin 5) * 1 + 1 * (y 2).val := rfl
    have hb3 : (((cfg0.win 10).blk t).view.emb y 3).val = win0_10.index t (3 : Fin 5) * 256 + 1 * (y 3).val := rfl
    have hb4 : (((cfg0.win 10).blk t).view.emb y 4).val = win0_10.index t (4 : Fin 5) * 64 + 1 * (y 4).val := rfl
    have e1 : (cfg0.win 10).xinj (grid0.coords t) y = ix5 0 ⟨(y 1).val, hy1⟩ 0 ⟨(y 3).val, hy3⟩ ⟨(y 4).val, hy4⟩ := by
      funext a; apply Fin.ext
      match a with
      | ⟨0, _⟩ => show (y 0).val = 0; omega
      | ⟨1, _⟩ => rfl
      | ⟨2, _⟩ => show (y 2).val = 0; omega
      | ⟨3, _⟩ => rfl
      | ⟨4, _⟩ => rfl
    have e2 : ((cfg0.win 10).blk t).view.emb y = ix5 (bat t) ⟨(y 1).val, hy1⟩ (tile t) ⟨(y 3).val, hy3⟩ ⟨(y 4).val, hy4⟩ := by
      funext a; apply Fin.ext
      match a with
      | ⟨0, _⟩ => exact hb0.trans (by show _ = t.val / 32; omega)
      | ⟨1, _⟩ => exact hb1.trans (by show _ = (y 1).val; omega)
      | ⟨2, _⟩ => exact hb2.trans (by show _ = t.val % 32; omega)
      | ⟨3, _⟩ => exact hb3.trans (by show _ = (y 3).val; omega)
      | ⟨4, _⟩ => exact hb4.trans (by show _ = (y 4).val; omega)
    show out0_10 (iblk m c 0 t) (iblk m c 1 t) (iblk m c 2 t) (iblk m c 3 t) (iblk m c 4 t) (iblk m c 5 t) ((cfg0.win 10).xinj (grid0.coords t) y)
      = T (((cfg0.win 10).blk t).view.emb y)
    rw [e1, e2]
    exact (hT t _ _ _).symm
  · have hN : cfg0.N = 64 := N_0
    have hi0 : (i 0).val < 2 := (i 0).isLt
    have hi1 : (i 1).val < 8 := (i 1).isLt
    have hi2 : (i 2).val < 32 := (i 2).isLt
    have hi3 : (i 3).val < 256 := (i 3).isLt
    have hi4 : (i 4).val < 64 := (i 4).isLt
    refine ⟨⟨32 * (i 0).val + (i 2).val, by omega⟩, (flush_all _).2.2.2.2.1, ?_⟩
    obtain ⟨h0, h1, h2, h3, h4⟩ := index_out10 ⟨32 * (i 0).val + (i 2).val, by omega⟩
    rw [mem_blk10]
    intro a
    match a with
    | ⟨0, _⟩ =>
      show win0_10.index _ (0 : Fin 5) * 1 ≤ (i 0).val ∧ (i 0).val < win0_10.index _ (0 : Fin 5) * 1 + 1
      rw [h0]
      show (32 * (i 0).val + (i 2).val) / 32 * 1 ≤ (i 0).val ∧ (i 0).val < (32 * (i 0).val + (i 2).val) / 32 * 1 + 1
      omega
    | ⟨1, _⟩ =>
      show win0_10.index _ (1 : Fin 5) * 8 ≤ (i 1).val ∧ (i 1).val < win0_10.index _ (1 : Fin 5) * 8 + 8
      rw [h1]
      omega
    | ⟨2, _⟩ =>
      show win0_10.index _ (2 : Fin 5) * 1 ≤ (i 2).val ∧ (i 2).val < win0_10.index _ (2 : Fin 5) * 1 + 1
      rw [h2]
      show (32 * (i 0).val + (i 2).val) % 32 * 1 ≤ (i 2).val ∧ (i 2).val < (32 * (i 0).val + (i 2).val) % 32 * 1 + 1
      omega
    | ⟨3, _⟩ =>
      show win0_10.index _ (3 : Fin 5) * 256 ≤ (i 3).val ∧ (i 3).val < win0_10.index _ (3 : Fin 5) * 256 + 256
      rw [h3]
      omega
    | ⟨4, _⟩ =>
      show win0_10.index _ (4 : Fin 5) * 64 ≤ (i 4).val ∧ (i 4).val < win0_10.index _ (4 : Fin 5) * 64 + 64
      rw [h4]
      omega

theorem mem_blk11 (t : Fin cfg0.N) (i : S2x8x32x256x64.Idx) : i ∈ ((cfg0.win 11).blk t).view.set ↔ ∀ a : Fin 5,
    win0_11.index t a * S1x8x1x256x64.size a ≤ (i a).val ∧ (i a).val < win0_11.index t a * S1x8x1x256x64.size a + S1x8x1x256x64.size a := by
  show i ∈ ((View.whole main_v17_5).slice (win0_11.rect t)).set ↔ _
  rw [View.set_slice_whole, Rect.mem_set_unit]
  exact Iff.rfl

theorem final11 (T : Vec Ideal S2x8x32x256x64 .bf16)
    (hT : ∀ t h r e, (T (ix5 (bat t) h (tile t) r e) : EReal) = out0_11 (iblk m c 0 t) (iblk m c 1 t) (iblk m c 2 t) (iblk m c 3 t) (iblk m c 4 t) (iblk m c 5 t) (ix5 0 h 0 r e)) :
    (dats m 0 c).arrAt 11 cfg0.N = T := by
  refine (dats m 0 c).arrAt_eq_of_cover 11 _ (fun t _ => ?_) fun i => ?_
  · rw [Value.flushed11]
    obtain ⟨h0, h1, h2, h3, h4⟩ := index_out11 t
    funext y
    have hy0 : (y 0).val < 1 := (y 0).isLt
    have hy1 : (y 1).val < 8 := (y 1).isLt
    have hy2 : (y 2).val < 1 := (y 2).isLt
    have hy3 : (y 3).val < 256 := (y 3).isLt
    have hy4 : (y 4).val < 64 := (y 4).isLt
    have hb0 : (((cfg0.win 11).blk t).view.emb y 0).val = win0_11.index t (0 : Fin 5) * 1 + 1 * (y 0).val := rfl
    have hb1 : (((cfg0.win 11).blk t).view.emb y 1).val = win0_11.index t (1 : Fin 5) * 8 + 1 * (y 1).val := rfl
    have hb2 : (((cfg0.win 11).blk t).view.emb y 2).val = win0_11.index t (2 : Fin 5) * 1 + 1 * (y 2).val := rfl
    have hb3 : (((cfg0.win 11).blk t).view.emb y 3).val = win0_11.index t (3 : Fin 5) * 256 + 1 * (y 3).val := rfl
    have hb4 : (((cfg0.win 11).blk t).view.emb y 4).val = win0_11.index t (4 : Fin 5) * 64 + 1 * (y 4).val := rfl
    have e1 : (cfg0.win 11).xinj (grid0.coords t) y = ix5 0 ⟨(y 1).val, hy1⟩ 0 ⟨(y 3).val, hy3⟩ ⟨(y 4).val, hy4⟩ := by
      funext a; apply Fin.ext
      match a with
      | ⟨0, _⟩ => show (y 0).val = 0; omega
      | ⟨1, _⟩ => rfl
      | ⟨2, _⟩ => show (y 2).val = 0; omega
      | ⟨3, _⟩ => rfl
      | ⟨4, _⟩ => rfl
    have e2 : ((cfg0.win 11).blk t).view.emb y = ix5 (bat t) ⟨(y 1).val, hy1⟩ (tile t) ⟨(y 3).val, hy3⟩ ⟨(y 4).val, hy4⟩ := by
      funext a; apply Fin.ext
      match a with
      | ⟨0, _⟩ => exact hb0.trans (by show _ = t.val / 32; omega)
      | ⟨1, _⟩ => exact hb1.trans (by show _ = (y 1).val; omega)
      | ⟨2, _⟩ => exact hb2.trans (by show _ = t.val % 32; omega)
      | ⟨3, _⟩ => exact hb3.trans (by show _ = (y 3).val; omega)
      | ⟨4, _⟩ => exact hb4.trans (by show _ = (y 4).val; omega)
    show out0_11 (iblk m c 0 t) (iblk m c 1 t) (iblk m c 2 t) (iblk m c 3 t) (iblk m c 4 t) (iblk m c 5 t) ((cfg0.win 11).xinj (grid0.coords t) y)
      = T (((cfg0.win 11).blk t).view.emb y)
    rw [e1, e2]
    exact (hT t _ _ _).symm
  · have hN : cfg0.N = 64 := N_0
    have hi0 : (i 0).val < 2 := (i 0).isLt
    have hi1 : (i 1).val < 8 := (i 1).isLt
    have hi2 : (i 2).val < 32 := (i 2).isLt
    have hi3 : (i 3).val < 256 := (i 3).isLt
    have hi4 : (i 4).val < 64 := (i 4).isLt
    refine ⟨⟨32 * (i 0).val + (i 2).val, by omega⟩, (flush_all _).2.2.2.2.2, ?_⟩
    obtain ⟨h0, h1, h2, h3, h4⟩ := index_out11 ⟨32 * (i 0).val + (i 2).val, by omega⟩
    rw [mem_blk11]
    intro a
    match a with
    | ⟨0, _⟩ =>
      show win0_11.index _ (0 : Fin 5) * 1 ≤ (i 0).val ∧ (i 0).val < win0_11.index _ (0 : Fin 5) * 1 + 1
      rw [h0]
      show (32 * (i 0).val + (i 2).val) / 32 * 1 ≤ (i 0).val ∧ (i 0).val < (32 * (i 0).val + (i 2).val) / 32 * 1 + 1
      omega
    | ⟨1, _⟩ =>
      show win0_11.index _ (1 : Fin 5) * 8 ≤ (i 1).val ∧ (i 1).val < win0_11.index _ (1 : Fin 5) * 8 + 8
      rw [h1]
      omega
    | ⟨2, _⟩ =>
      show win0_11.index _ (2 : Fin 5) * 1 ≤ (i 2).val ∧ (i 2).val < win0_11.index _ (2 : Fin 5) * 1 + 1
      rw [h2]
      show (32 * (i 0).val + (i 2).val) % 32 * 1 ≤ (i 2).val ∧ (i 2).val < (32 * (i 0).val + (i 2).val) % 32 * 1 + 1
      omega
    | ⟨3, _⟩ =>
      show win0_11.index _ (3 : Fin 5) * 256 ≤ (i 3).val ∧ (i 3).val < win0_11.index _ (3 : Fin 5) * 256 + 256
      rw [h3]
      omega
    | ⟨4, _⟩ =>
      show win0_11.index _ (4 : Fin 5) * 64 ≤ (i 4).val ∧ (i 4).val < win0_11.index _ (4 : Fin 5) * 64 + 64
      rw [h4]
      omega

end Cert.Proj

end
-- ==== Proof.ProjRef.lean ====
/-
  The projections' reference at an index.
-/
module

public import proofs.«01_k».proof.Proof.Gen.Reference3Ideal.Run
public import proofs.«01_k».proof.Proof.ProjFinal
public import Idealize.ShloMosaic.Lib.Pointwise

@[expose] public section

set_option maxRecDepth 16384

noncomputable section

namespace Cert.Proj.Ref

open Idealize.ShloMosaic Idealize.ShloMosaic.TcCoe Cert.Proj
open Cert.Reference3Ideal Cert.Reference3Ideal.Gen

variable (x : FVec Ideal S2x8192x1024 .f32) (w : FVec Ideal S1024x3072 .f32)

/-- The six projections, side by side. -/
def all : FVec Ideal S2x8192x3072 .f32 := Host.dotGeneral dot_S2x8192x1024_S1024x3072_S2x8192x3072_2_0_01_1_n_n none x w

theorem all_apply (b : Fin 2) (s : Fin 8192) (j : Fin 3072) : (all x w (ix3 b s j) : EReal) = entry x w b s j := by
  unfold entry
  pointwise [all]

def qa (p : FVec Ideal S2x8192x3072 .f32) : FVec Ideal S2x512x8192 .bf16 :=
  truncf .bf16 (transpose S2x512x8192 [0, 2, 1] (mulf (extractStridedSlice S2x8192x512 ![0, 0, 0] p slices_S2x8192x3072_S2x8192x512_0_0_0) (broadcastInDim S2x8192x512 ![] bcast_S_S2x8192x512 (constant S_ .f32 0x3E38AA3B#32))) transposes_S2x8192x512_S2x512x8192_0_2_1) bitsLt_bf16_f32

def qc (p : FVec Ideal S2x8192x3072 .f32) : FVec Ideal S2x512x8192 .bf16 :=
  truncf .bf16 (transpose S2x512x8192 [0, 2, 1] (mulf (extractStridedSlice S2x8192x512 ![0, 0, 1536] p slices_S2x8192x3072_S2x8192x512_0_0_1536) (broadcastInDim S2x8192x512 ![] bcast_S_S2x8192x512 (constant S_ .f32 0x3E000000#32))) transposes_S2x8192x512_S2x512x8192_0_2_1) bitsLt_bf16_f32

/-- Each tile's positions dealt in the turned order. -/
def turned (p : FVec Ideal S2x8192x512 .f32) : FVec Ideal S2x8192x512 .f32 :=
  shapeCast _ (transpose S2x32x32x8x512 [0, 1, 3, 2, 4] (Host.reverse [3] (shapeCast _ p shapeCasts_S2x8192x512_S2x32x8x32x512)) transposes_S2x32x8x32x512_S2x32x32x8x512_0_1_3_2_4) shapeCasts_S2x32x32x8x512_S2x8192x512

/-- The values' layout: a head's columns by position. -/
def values (p : FVec Ideal S2x8192x512 .f32) : FVec Ideal S2x8x32x64x256 .bf16 :=
  truncf .bf16 (transpose S2x8x32x64x256 [0, 3, 1, 4, 2] (shapeCast _ p shapeCasts_S2x8192x512_S2x32x256x8x64) transposes_S2x32x256x8x64_S2x8x32x64x256_0_3_1_4_2) bitsLt_bf16_f32

/-- The keys' layout: positions by a head's columns. -/
def keys (p : FVec Ideal S2x8192x512 .f32) : FVec Ideal S2x8x32x256x64 .bf16 :=
  truncf .bf16 (transpose S2x8x32x256x64 [0, 3, 1, 2, 4] (shapeCast _ p shapeCasts_S2x8192x512_S2x32x256x8x64) transposes_S2x32x256x8x64_S2x8x32x256x64_0_3_1_2_4) bitsLt_bf16_f32

def vc (p : FVec Ideal S2x8192x3072 .f32) := values (extractStridedSlice S2x8192x512 ![0, 0, 2560] p slices_S2x8192x3072_S2x8192x512_0_0_2560)
def va (p : FVec Ideal S2x8192x3072 .f32) := values (turned (extractStridedSlice S2x8192x512 ![0, 0, 1024] p slices_S2x8192x3072_S2x8192x512_0_0_1024))
def ka (p : FVec Ideal S2x8192x3072 .f32) := keys (turned (extractStridedSlice S2x8192x512 ![0, 0, 512] p slices_S2x8192x3072_S2x8192x512_0_0_512))
def kc (p : FVec Ideal S2x8192x3072 .f32) := keys (extractStridedSlice S2x8192x512 ![0, 0, 2048] p slices_S2x8192x3072_S2x8192x512_0_0_2048)

variable (p : FVec Ideal S2x8192x3072 .f32)

theorem qa_apply (b : Fin 2) (k : Fin 512) (s : Fin 8192) : (qa p (ix3 b k s) : EReal) = p (ix3 b s (shift 0 (by decide) k)) * scaleA := by
  pointwise [qa]
  refine congrArg (fun j => (p (ix3 b s j) : EReal) * scaleA) (Fin.ext ?_)
  show k.val = 0 + k.val
  omega

theorem qc_apply (b : Fin 2) (k : Fin 512) (s : Fin 8192) : (qc p (ix3 b k s) : EReal) = p (ix3 b s (shift 1536 (by decide) k)) * scaleC := by
  pointwise [qc]

theorem values_apply (y : FVec Ideal S2x8192x512 .f32) (b : Fin 2) (h : Fin 8) (t : Fin 32) (e : Fin 64) (r : Fin 256) :
    (values y (ix5 b h t e r) : EReal) = y (ix3 b (pos t r) (col h e)) := by
  pointwise [values]
  refine congrArg y (funext fun a => Fin.ext ?_)
  match a with
  | ⟨0, _⟩ => rfl
  | ⟨1, _⟩ => show t.val * 256 + r.val = 256 * t.val + r.val; omega
  | ⟨2, _⟩ => show h.val * 64 + e.val = 64 * h.val + e.val; omega

theorem keys_apply (y : FVec Ideal S2x8192x512 .f32) (b : Fin 2) (h : Fin 8) (t : Fin 32) (r : Fin 256) (e : Fin 64) :
    (keys y (ix5 b h t r e) : EReal) = y (ix3 b (pos t r) (col h e)) := by
  pointwise [keys]
  refine congrArg y (funext fun a => Fin.ext ?_)
  match a with
  | ⟨0, _⟩ => rfl
  | ⟨1, _⟩ => show t.val * 256 + r.val = 256 * t.val + r.val; omega
  | ⟨2, _⟩ => show h.val * 64 + e.val = 64 * h.val + e.val; omega

theorem turned_apply (y : FVec Ideal S2x8192x512 .f32) (b : Fin 2) (t : Fin 32) (r : Fin 256) (k : Fin 512) :
    (turned y (ix3 b (pos t r) k) : EReal) = y (ix3 b (pos t (src r)) k) := by
  pointwise [turned]
  refine congrArg y (funext fun a => Fin.ext ?_)
  match a with
  | ⟨0, _⟩ => rfl
  | ⟨1, _⟩ =>
    show (256 * t.val + r.val) / 256 * 256 + (256 * t.val + r.val) % 8 * 32 + (32 - ((256 * t.val + r.val) / 8 % 32 + 1)) = 256 * t.val + source r.val
    unfold source
    omega
  | ⟨2, _⟩ => rfl

theorem vc_apply (b : Fin 2) (h : Fin 8) (t : Fin 32) (e : Fin 64) (r : Fin 256) :
    (vc p (ix5 b h t e r) : EReal) = p (ix3 b (pos t r) (shift 2560 (by decide) (col h e))) := by
  unfold vc
  rw [values_apply]
  pointwise []

theorem va_apply (b : Fin 2) (h : Fin 8) (t : Fin 32) (e : Fin 64) (r : Fin 256) :
    (va p (ix5 b h t e r) : EReal) = p (ix3 b (pos t (src r)) (shift 1024 (by decide) (col h e))) := by
  unfold va
  rw [values_apply, turned_apply]
  pointwise []

theorem ka_apply (b : Fin 2) (h : Fin 8) (t : Fin 32) (r : Fin 256) (e : Fin 64) :
    (ka p (ix5 b h t r e) : EReal) = p (ix3 b (pos t (src r)) (shift 512 (by decide) (col h e))) := by
  unfold ka
  rw [keys_apply, turned_apply]
  pointwise []

theorem kc_apply (b : Fin 2) (h : Fin 8) (t : Fin 32) (r : Fin 256) (e : Fin 64) :
    (kc p (ix5 b h t r e) : EReal) = p (ix3 b (pos t r) (shift 2048 (by decide) (col h e))) := by
  unfold kc
  rw [keys_apply]
  pointwise []

end Cert.Proj.Ref

end
-- ==== Proof.ProjValue.lean ====
/-
  The projections' value: from equal arguments, the six arrays the kernel leaves are the reference's six results.
-/
module

public import proofs.«01_k».proof.Proof.ProjRef

@[expose] public section

set_option maxRecDepth 16384

noncomputable section

namespace Cert.Proj

open Idealize.ShloMosaic Idealize.ShloMosaic.TcCoe
open Cert.Kernel3Ideal Cert.Kernel3Ideal.Gen

variable (m : (ℓ : Loc nD τ sig) → Buf (Elt Ideal) ℓ) (c : Dev nD)

/-- The reference's projections of the kernel's arguments. -/
abbrev proj : FVec Ideal Cert.Reference3Ideal.S2x8192x3072 .f32 := Ref.all (bX m c) (bW m c)

theorem proj_apply (b : Fin 2) (s : Fin 8192) (j : Fin 3072) : (proj m c (ix3 b s j) : EReal) = entry (bX m c) (bW m c) b s j :=
  Ref.all_apply (bX m c) (bW m c) b s j

theorem result0 : (dats m 0 c).arrAt 6 cfg0.N = Ref.qa (proj m c) :=
  final6 m c _ fun t k r => by rw [out6_apply, Ref.qa_apply, proj_apply]

theorem result1 : (dats m 0 c).arrAt 7 cfg0.N = Ref.qc (proj m c) :=
  final7 m c _ fun t k r => by rw [out7_apply, Ref.qc_apply, proj_apply]

theorem result2 : (dats m 0 c).arrAt 8 cfg0.N = Ref.vc (proj m c) :=
  final8 m c _ fun t h e r => by rw [out8_apply, Ref.vc_apply, proj_apply]

theorem result3 : (dats m 0 c).arrAt 9 cfg0.N = Ref.va (proj m c) :=
  final9 m c _ fun t h e r => by rw [out9_apply, Ref.va_apply, proj_apply]

theorem result4 : (dats m 0 c).arrAt 10 cfg0.N = Ref.ka (proj m c) :=
  final10 m c _ fun t h r e => by rw [out10_apply, Ref.ka_apply, proj_apply]

theorem result5 : (dats m 0 c).arrAt 11 cfg0.N = Ref.kc (proj m c) :=
  final11 m c _ fun t h r e => by rw [out11_apply, Ref.kc_apply, proj_apply]

end Cert.Proj

end
-- ==== Proof.lean ====
/-
  The claims.

  The mixture of experts: both programs' frames are one run, stated for any float model (Proof/Launch.lean): the kernel and its
  idealization have the same text. The value is the equation of Proof/State.lean between what the kernel leaves in its output array and
  what the reference computes, under the finiteness of the gates that Proof/Value.lean reads from the precondition.

  The routing call: the value is the three equations of Proof/PostValue.lean, under the finiteness of the layer norm's and the router's weights that
  Proof/PostFinite.lean reads from the precondition.

  The projections: the value is the six equations of Proof/ProjValue.lean, under no precondition.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_gates_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_router_finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Launch
public import proofs.«01_k».proof.Proof.Ref
public import proofs.«01_k».proof.Proof.Value
public import proofs.«01_k».proof.Proof.PostValue
public import proofs.«01_k».proof.Proof.ProjValue
public import Idealize.ShloMosaic.Adequacy
public import Idealize.ShloMosaic.Init

@[expose] public section

noncomputable section

namespace Cert.Proof

open Idealize.ShloMosaic Idealize.ShloMosaic.TcCoe Idealize.SL.Sem Cert.Kernel

/-- The two programs' body tables are one. -/
theorem defs₀_same : Cert.Kernel.defs₀ (F := Bits) = Cert.KernelIdeal.defs₀ (F := Bits) := by
  unfold Cert.Kernel.defs₀ Cert.KernelIdeal.defs₀
  congr 1
  funext l x
  match l with
  | 0 => rfl

theorem defs_same : Cert.Kernel.defs (F := Bits) = Cert.KernelIdeal.defs (F := Bits) := by
  unfold Cert.Kernel.defs Cert.KernelIdeal.defs
  rw [defs₀_same]
  rfl

theorem frame_kernel : Cert.quiescent_Kernel := fun m ρ _ => by
  rw [defs_same]
  exact (θ_run Cert.KernelIdeal.defs _ _).mono (fun _ h => h) (Cert.Moe.frame (F := Bits) m ρ)

theorem frame_ideal : Cert.quiescent_KernelIdeal := fun m ρ _ => Cert.Moe.frame (F := Ideal) m ρ

theorem frame_ideal_pre : Cert.quiescent_KernelIdeal_pre_gates_finite := fun m ρ _ => Cert.Moe.frame (F := Ideal) m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.Moe.Ref.run (F := Ideal) m ρ)

theorem frame_reference_pre : Cert.quiescent_ReferenceIdeal_pre_gates_finite := fun m ρ _ => frame_reference m ρ trivial

theorem preserves : Cert.preserves_Kernel_KernelIdeal := trivial

theorem algebraic : Cert.algebraic_KernelIdeal_ReferenceIdeal_pre_gates_finite := by
  intro m g m' g' hpre hagree
  refine ⟨fun c => (Cert.Moe.dats m 0 c).arrAt 8 Cert.KernelIdeal.cfg0.N, ?_, ?_⟩
  · exact (θ_run Cert.KernelIdeal.defs _ _).mono (fun r h c => ⟨Cert.Moe.out_of_post m h.1 c, h.2.1 c⟩)
      (θ_run_and (Cert.Moe.run_main (F := Ideal) m g) (Cert.Moe.frame (F := Ideal) m g))
  · refine (θ_run Cert.ReferenceIdeal.defs _ _).mono (fun r h c => ⟨(h c).1.trans ?_, (h c).2⟩) (Cert.Moe.Ref.run (F := Ideal) m' g')
    refine Eq.trans ?_ (Cert.Moe.final m c (Cert.Moe.gates_finite m c (hpre c))).symm
    obtain ⟨h0, h1, h2, h3, h4, h5, h6, h7⟩ := hagree c
    unfold Cert.Moe.Ref.result Cert.Moe.target
    rw [h0, h1, h2, h3, h4, h5, h6, h7]

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_ideal2_pre : Cert.quiescent_Kernel2Ideal_pre_router_finite := fun m ρ _ => Cert.Kernel2Ideal.Gen.frame m ρ

theorem frame_reference2 : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

theorem frame_reference2_pre : Cert.quiescent_Reference2Ideal_pre_router_finite := fun m ρ _ => frame_reference2 m ρ trivial

/-- The mask is minus infinity's stand-in. -/
theorem preserves2 : Cert.preserves_Kernel2_Kernel2Ideal :=
  IdealRules.named_const.statement Cert.Kernel2Ideal.κ "mask" .f32 0xF149F2CA#32 ⊥ rfl

theorem algebraic2 : Cert.algebraic_Kernel2Ideal_Reference2Ideal_pre_router_finite := by
  intro m g m' g' hpre hagree
  have hsame : ∀ c, Cert.Post.Same m c (StableHlo.launchContents m' c) := fun c => by
    obtain ⟨h0, h1, h2, h3, h4, h5, h6, h7, h8⟩ := hagree c
    exact ⟨h0, h1, h2, h3, h4, h5, h6, h7, h8⟩
  refine ⟨fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N, ?_, ?_⟩
  · exact Cert.Kernel2Ideal.Value.run_blocks m g
  · refine (θ_run Cert.Reference2Ideal.defs _ _).mono (fun r h c => ?_) (Cert.Reference2Ideal.Value.run (F := Ideal) m' g')
    obtain ⟨e0, e1, e2, hargs⟩ := h c
    exact ⟨e0.trans (Cert.Post.first_result (hsame c)).symm, e1.trans (Cert.Post.second_result (hsame c)).symm,
      e2.trans (Cert.Post.third_result (hsame c) (Cert.Post.router_reals m c (hpre c))).symm, hargs⟩

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2.2.2.2.2.2, Idealize.ShloMosaic.sem_eq_zero_of_no_sems (by decide) r.2⟩)
    (Cert.Reference3Ideal.Value.run (F := Ideal) m ρ)

theorem algebraic3 : Cert.algebraic_Kernel3Ideal_Reference3Ideal := by
  intro m g m' g' _ hagree
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N, ?_, ?_⟩
  · exact Cert.Kernel3Ideal.Value.run_blocks m g
  · refine (θ_run Cert.Reference3Ideal.defs _ _).mono (fun r h c => ?_) (Cert.Reference3Ideal.Value.run (F := Ideal) m' g')
    obtain ⟨e0, e1, e2, e3, e4, e5, hargs⟩ := h c
    obtain ⟨h0, h1⟩ := hagree c
    rw [h0, h1] at e0 e1 e2 e3 e4 e5
    exact ⟨e0.trans (Cert.Proj.result0 m c).symm, e1.trans (Cert.Proj.result1 m c).symm, e2.trans (Cert.Proj.result2 m c).symm,
      e3.trans (Cert.Proj.result3 m c).symm, e4.trans (Cert.Proj.result4 m c).symm, e5.trans (Cert.Proj.result5 m c).symm, hargs⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Pre_gates_finite.Gen.facts, Cert.Pre_router_finite.Gen.facts,
  frame_kernel, frame_ideal, frame_ideal_pre, frame_reference, frame_reference_pre,
  frame_kernel2, frame_ideal2, frame_ideal2_pre, frame_reference2, frame_reference2_pre,
  frame_kernel3, frame_ideal3, frame_reference3,
  preserves, algebraic, preserves2, algebraic2, trivial, algebraic3⟩

end Cert.Proof

end
